-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "qscale" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "neg_inf" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32768x17408 : Shape := ⟨2, ![32768, 17408]⟩
abbrev S128 : Shape := ⟨1, ![128]⟩
abbrev S8x256 : Shape := ⟨2, ![8, 256]⟩
abbrev S_ : Shape := ⟨0, ![]⟩

class Facts : Prop where
  bitsLt_bf16_f32 : FTy.bits .bf16 < FTy.bits .f32
  bcast_S_S32768x17408 : S_.BroadcastsInDim S32768x17408 (![] : Fin 0 → Fin S32768x17408.rank)
  reducesTo_S32768x17408_S_d0_1 : S32768x17408.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128 .f32 := Host.absf main_arg4
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  main_v24

def fn {F : FTy → Type} [FloatOps F] (main_arg0 : FVec F S32768x17408 .bf16) (main_arg1 : FVec F S128 .f32) (main_arg2 : FVec F S128 .f32) (main_arg3 : FVec F S128 .f32) (main_arg4 : FVec F S128 .f32) (main_arg5 : FVec F S8x256 .f32) : IVec S_ 1 :=
  let main_v0 : FVec F S32768x17408 .f32 := (extf .f32 · bitsLt_bf16_f32) main_arg0
  let main_v1 : FVec F S32768x17408 .f32 := Host.absf main_v0
  let main_cst : FVec F S_ .f32 := constant S_ .f32 0x7F800000#32
  let main_v2 : FVec F S32768x17408 .f32 := broadcastInDim S32768x17408 ![] bcast_S_S32768x17408 main_cst
  let main_v3 : IVec S32768x17408 1 := cmpf .olt main_v1 main_v2
  let main_c : IVec S_ 1 := constantI S_ 1 1#1
  let main_v4 : IVec S_ 1 := (fun x v => Host.reduce IntOp.andi x v reducesTo_S32768x17408_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_v14 main_v15 main_v16
-- ==== Kernel.lean ====
abbrev S32768x2048 : Shape := ⟨2, ![32768, 2048]⟩
abbrev S1x2048x17416 : Shape := ⟨3, ![1, 2048, 17416]⟩
abbrev S2048x17416 : Shape := ⟨2, ![2048, 17416]⟩
abbrev S17416x2048 : Shape := ⟨2, ![17416, 2048]⟩
abbrev S32768x17408 : Shape := ⟨2, ![32768, 17408]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S1x2048x17416, .f32⟩
  | .hbm, ⟨2, _⟩ => ⟨S2048x17416, .f32⟩
  | .hbm, ⟨3, _⟩ => ⟨S17416x2048, .f32⟩
  | .hbm, ⟨4, _⟩ => ⟨S32768x17408, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 17], ![false, false]⟩

def k0_mult1 (i : grid0.Coords) : BitVec 32 :=
  let arg1 : BitVec 32 := BitVec.ofNat 32 (i 1).val
  let c0_i32 : BitVec 32 := 0#32
  let v30 : BitVec 1 := Scalar.cmpi .sle arg1 c0_i32
  let c0_i32_0 : BitVec 32 := 0#32
  let c1_i32 : BitVec 32 := 1#32
  let v28 : BitVec 1 := Scalar.cmpi .sle arg1 c1_i32
  let c1024_i32 : BitVec 32 := 1024#32
  let c2_i32 : BitVec 32 := 2#32
  let v26 : BitVec 1 := Scalar.cmpi .sle arg1 c2_i32
  let c2048_i32 : BitVec 32 := 2048#32
  let c3_i32 : BitVec 32 := 3#32
  let v24 : BitVec 1 := Scalar.cmpi .sle arg1 c3_i32
  let c3072_i32 : BitVec 32 := 3072#32
  let c4_i32 : BitVec 32 := 4#32
  let v22 : BitVec 1 := Scalar.cmpi .sle arg1 c4_i32
  let c4096_i32 : BitVec 32 := 4096#32
  let c5_i32 : BitVec 32 := 5#32
  let v20 : BitVec 1 := Scalar.cmpi .sle arg1 c5_i32
  let c5120_i32 : BitVec 32 := 5120#32
  let c6_i32 : BitVec 32 := 6#32
  let v18 : BitVec 1 := Scalar.cmpi .sle arg1 c6_i32
  let c6144_i32 : BitVec 32 := 6144#32
  let c7_i32 : BitVec 32 := 7#32
  let v16 : BitVec 1 := Scalar.cmpi .sle arg1 c7_i32
  let c7168_i32 : BitVec 32 := 7168#32
  let c8_i32 : BitVec 32 := 8#32
  let v14 : BitVec 1 := Scalar.cmpi .sle arg1 c8_i32
  let c11272_i32 : BitVec 32 := 11272#32
  let c9_i32 : BitVec 32 := 9#32
  let v12 : BitVec 1 := Scalar.cmpi .sle arg1 c9_i32
  let c12296_i32 : BitVec 32 := 12296#32
  let c10_i32 : BitVec 32 := 10#32
  let v10 : BitVec 1 := Scalar.cmpi .sle arg1 c10_i32
  let c13320_i32 : BitVec 32 := 13320#32
  let c11_i32 : BitVec 32 := 11#32
  let v8 : BitVec 1 := Scalar.cmpi .sle arg1 c11_i32
  let c14344_i32 : BitVec 32 := 14344#32
  let c12_i32 : BitVec 32 := 12#32
  let v6 : BitVec 1 := Scalar.cmpi .sle arg1 c12_i32
  let c15368_i32 : BitVec 32 := 15368#32
  let c13_i32 : BitVec 32 := 13#32
  let v4 : BitVec 1 := Scalar.cmpi .sle arg1 c13_i32
  let c16392_i32 : BitVec 32 := 16392#32
  let c14_i32 : BitVec 32 := 14#32
  let v2 : BitVec 1 := Scalar.cmpi .sle arg1 c14_i32
  let c8192_i32 : BitVec 32 := 8192#32
  let c15_i32 : BitVec 32 := 15#32
  let v0 : BitVec 1 := Scalar.cmpi .sle arg1 c15_i32
  let c9216_i32 : BitVec 32 := 9216#32
  let c10248_i32 : BitVec 32 := 10248#32
  let v1 : BitVec 32 := Scalar.select v0 c9216_i32 c10248_i32
  let v3 : BitVec 32 := Scalar.select v2 c8192_i32 v1
  let v5 : BitVec 32 := Scalar.select v4 c16392_i32 v3
  let v7 : BitVec 32 := Scalar.select v6 c15368_i32 v5
  let v9 : BitVec 32 := Scalar.select v8 c14344_i32 v7
  let v11 : BitVec 32 := Scalar.select v10 c13320_i32 v9
  let v13 : BitVec 32 := Scalar.select v12 c12296_i32 v11
  let v15 : BitVec 32 := Scalar.select v14 c11272_i32 v13
  let v17 : BitVec 32 := Scalar.select v16 c7168_i32 v15
  let v19 : BitVec 32 := Scalar.select v18 c6144_i32 v17
  let v21 : BitVec 32 := Scalar.select v20 c5120_i32 v19
  let v23 : BitVec 32 := Scalar.select v22 c4096_i32 v21
  let v25 : BitVec 32 := Scalar.select v24 c3072_i32 v23
  let v27 : BitVec 32 := Scalar.select v26 c2048_i32 v25
  let v29 : BitVec 32 := Scalar.select v28 c1024_i32 v27
  let v31 : BitVec 32 := Scalar.select v30 c0_i32_0 v29
  v31
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .sle arg1 c15_i32
  let c9216_i32 : BitVec 32 := 9216#32
  let c10248_i32 : BitVec 32 := 10248#32
  let v1 : BitVec 32 := Scalar.select v0 c9216_i32 c10248_i32
  let c14_i32 : BitVec 32 := 14#32
  let v2 : BitVec 1 := Scalar.cmpi .sle arg1 c14_i32
  let c8192_i32 : BitVec 32 := 8192#32
  let v3 : BitVec 32 := Scalar.select v2 c8192_i32 v1
  let c13_i32 : BitVec 32 := 13#32
  let v4 : BitVec 1 := Scalar.cmpi .sle arg1 c13_i32
  let c16392_i32 : BitVec 32 := 16392#32
  let v5 : BitVec 32 := Scalar.select v4 c16392_i32 v3
  let c12_i32 : BitVec 32 := 12#32
  let v6 : BitVec 1 := Scalar.cmpi .sle arg1 c12_i32
  let c15368_i32 : BitVec 32 := 15368#32
  let v7 : BitVec 32 := Scalar.select v6 c15368_i32 v5
  let c11_i32 : BitVec 32 := 11#32
  let v8 : BitVec 1 := Scalar.cmpi .sle arg1 c11_i32
  let c14344_i32 : BitVec 32 := 14344#32
  let v9 : BitVec 32 := Scalar.select v8 c14344_i32 v7
  let c10_i32 : BitVec 32 := 10#32
  let v10 : BitVec 1 := Scalar.cmpi .sle arg1 c10_i32
  let c13320_i32 : BitVec 32 := 13320#32
  let v11 : BitVec 32 := Scalar.select v10 c13320_i32 v9
  let c9_i32 : BitVec 32 := 9#32
  let v12 : BitVec 1 := Scalar.cmpi .sle arg1 c9_i32
  let c12296_i32 : BitVec 32 := 12296#32
  let v13 : BitVec 32 := Scalar.select v12 c12296_i32 v11
  let c8_i32 : BitVec 32 := 8#32
  let v14 : BitVec 1 := Scalar.cmpi .sle arg1 c8_i32
  let c11272_i32 : BitVec 32 := 11272#32
  let v15 : BitVec 32 := Scalar.select v14 c11272_i32 v13
  let c7_i32 : BitVec 32 := 7#32
  let v16 : BitVec 1 := Scalar.cmpi .sle arg1 c7_i32
  let c7168_i32 : BitVec 32 := 7168#32
  let v17 : BitVec 32 := Scalar.select v16 c7168_i32 v15
  let c6_i32 : BitVec 32 := 6#32
  let v18 : BitVec 1 := Scalar.cmpi .sle arg1 c6_i32
  let c6144_i32 : BitVec 32 := 6144#32
  let v19 : BitVec 32 := Scalar.select v18 c6144_i32 v17
  let c5_i32 : BitVec 32 := 5#32
  let v20 : BitVec 1 := Scalar.cmpi .sle arg1 c5_i32
  let c5120_i32 : BitVec 32 := 5120#32
  let v21 : BitVec 32 := Scalar.select v20 c5120_i32 v19
  let c4_i32 : BitVec 32 := 4#32
  let v22 : BitVec 1 := Scalar.cmpi .sle arg1 c4_i32
  let c4096_i32 : BitVec 32 := 4096#32
  let v23 : BitVec 32 := Scalar.select v22 c4096_i32 v21
  let c3_i32 : BitVec 32 := 3#32
  let v24 : BitVec 1 := Scalar.cmpi .sle arg1 c3_i32
  let c3072_i32 : BitVec 32 := 3072#32
  let v25 : BitVec 32 := Scalar.select v24 c3072_i32 v23
  let c2_i32 : BitVec 32 := 2#32
  let v26 : BitVec 1 := Scalar.cmpi .sle arg1 c2_i32
  let c2048_i32 : BitVec 32 := 2048#32
  let v27 : BitVec 32 := Scalar.select v26 c2048_i32 v25
  let c1_i32 : BitVec 32 := 1#32
  let v28 : BitVec 1 := Scalar.cmpi .sle arg1 c1_i32
  let c1024_i32 : BitVec 32 := 1024#32
  let v29 : BitVec 32 := Scalar.select v28 c1024_i32 v27
  let c0_i32 : BitVec 32 := 0#32
  let v30 : BitVec 1 := Scalar.cmpi .sle arg1 c0_i32
  let c0_i32_0 : BitVec 32 := 0#32
  let v31 : BitVec 32 := Scalar.select v30 c0_i32_0 v29
  let v32 : BitVec 32 := v31
  let c0_i32_1 : BitVec 32 := 0#32
  let c0_i32_2 : BitVec 32 := 0#32
  ![v32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "qscale" => some (((Real.log 2)⁻¹ * (Real.sqrt 128)⁻¹ : ℝ) : EReal)
  | _ => none
-- ==== ReferenceIdeal.lean ====
abbrev S32768x2048 : Shape := ⟨2, ![32768, 2048]⟩
abbrev S1x2048x17416 : Shape := ⟨3, ![1, 2048, 17416]⟩
abbrev S2048x17416 : Shape := ⟨2, ![2048, 17416]⟩
abbrev S32768x17416 : Shape := ⟨2, ![32768, 17416]⟩
abbrev S32768x1024 : Shape := ⟨2, ![32768, 1024]⟩
abbrev S32768x8 : Shape := ⟨2, ![32768, 8]⟩
abbrev S32768x6144 : Shape := ⟨2, ![32768, 6144]⟩
abbrev S_ : Shape := ⟨0, ![]⟩
abbrev S32768x17408 : Shape := ⟨2, ![32768, 17408]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x17416, .f32⟩
  | .hbm, ⟨2, _⟩ => ⟨S32768x2048, .f32⟩
  | .hbm, ⟨3, _⟩ => ⟨S2048x17416, .f32⟩
  | .hbm, ⟨4, _⟩ => ⟨S32768x17416, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S32768x8, .f32⟩
  | .hbm, ⟨12, _⟩ => ⟨S32768x1024, .f32⟩
  | .hbm, ⟨13, _⟩ => ⟨S32768x6144, .f32⟩
  | .hbm, ⟨14, _⟩ => ⟨S_, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x17408, .f32⟩
  | .hbm, ⟨23, _⟩ => ⟨S32768x17408, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel2.lean ====
abbrev S32768x17408 : Shape := ⟨2, ![32768, 17408]⟩
abbrev S128 : Shape := ⟨1, ![128]⟩
abbrev S8x256 : Shape := ⟨2, ![8, 256]⟩
abbrev S8 : Shape := ⟨1, ![8]⟩
abbrev S_ : Shape := ⟨0, ![]⟩
abbrev S8x128 : Shape := ⟨2, ![8, 128]⟩
abbrev S1x128 : Shape := ⟨2, ![1, 128]⟩
abbrev S4x128 : Shape := ⟨2, ![4, 128]⟩
abbrev S1 : Shape := ⟨1, ![1]⟩
abbrev S2 : Shape := ⟨1, ![2]⟩
abbrev S8x1x256 : Shape := ⟨3, ![8, 1, 256]⟩
abbrev S32768x2048 : Shape := ⟨2, ![32768, 2048]⟩
abbrev S1024x256 : Shape := ⟨2, ![1024, 256]⟩
abbrev S16384x256 : Shape := ⟨2, ![16384, 256]⟩
abbrev S1x1x256 : Shape := ⟨3, ![1, 1, 256]⟩
abbrev S2x2x1024x1024 : Shape := ⟨4, ![2, 2, 1024, 1024]⟩
abbrev S2x2x1024x128 : Shape := ⟨4, ![2, 2, 1024, 128]⟩
abbrev S2x1024x128 : Shape := ⟨3, ![2, 1024, 128]⟩
abbrev S2x1024x256 : Shape := ⟨3, ![2, 1024, 256]⟩
abbrev S1x1 : Shape := ⟨2, ![1, 1]⟩
abbrev S1x1024 : Shape := ⟨2, ![1, 1024]⟩
abbrev S1024x128 : Shape := ⟨2, ![1024, 128]⟩
abbrev S1024x1024 : Shape := ⟨2, ![1024, 1024]⟩
abbrev S1x1x1024x1024 : Shape := ⟨4, ![1, 1, 1024, 1024]⟩
abbrev S1x1x1024x128 : Shape := ⟨4, ![1, 1, 1024, 128]⟩
abbrev S1x1024x128 : Shape := ⟨3, ![1, 1024, 128]⟩
abbrev S1024 : Shape := ⟨1, ![1024]⟩
abbrev S1024x1 : Shape := ⟨2, ![1024, 1]⟩
abbrev S1x1024x256 : Shape := ⟨3, ![1, 1024, 256]⟩
abbrev S512x128 : Shape := ⟨2, ![512, 128]⟩
abbrev S512x512 : Shape := ⟨2, ![512, 512]⟩
abbrev S512x1024 : Shape := ⟨2, ![512, 1024]⟩
abbrev S1x256 : Shape := ⟨2, ![1, 256]⟩

abbrev nBuf : Space → Nat
  | .hbm => 37
  | .vmem => 15
  | .smem => 0
  | _ => 0

abbrev bufTy : (tb : Table) → Fin (tcTables nBuf tb) → BufTy
  | .hbm, ⟨0, _⟩ => ⟨S32768x17408, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S8x256, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S4x128, .f32⟩
  | .hbm, ⟨26, _⟩ => ⟨S_, .i32⟩
  | .hbm, ⟨27, _⟩ => ⟨S1, .i32⟩
  | .hbm, ⟨28, _⟩ => ⟨S8x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S8x128, .f32⟩
  | .hbm, ⟨35, _⟩ => ⟨S8x1x256, .f32⟩
  | .hbm, ⟨36, _⟩ => ⟨S32768x2048, .bf16⟩
  | .local _ .vmem, ⟨0, _⟩ => ⟨S8x128, .f32⟩
  | .local _ .vmem, ⟨1, _⟩ => ⟨S1024x256, .bf16⟩
  | .local _ .vmem, ⟨2, _⟩ => ⟨S1024x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S1x1x256, .f32⟩
  | .local _ .vmem, ⟨7, _⟩ => ⟨S1x1x256, .f32⟩
  | .local _ .vmem, ⟨8, _⟩ => ⟨S1024x256, .bf16⟩
  | .local _ .vmem, ⟨9, _⟩ => ⟨S1024x256, .bf16⟩
  | .local _ .vmem, ⟨10, _⟩ => ⟨S2x2x1024x1024, .f32⟩
  | .local _ .vmem, ⟨11, _⟩ => ⟨S2x2x1024x128, .f32⟩
  | .local _ .vmem, ⟨12, _⟩ => ⟨S2x1024x128, .f32⟩
  | .local _ .vmem, ⟨13, _⟩ => ⟨S2x1024x128, .f32⟩
  | .local _ .vmem, ⟨14, _⟩ => ⟨S2x1024x256, .f32⟩
  | _, _ => ⟨S32768x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

def k0_cond1 (i : grid0.Coords) : BitVec 1 :=
  let arg2 : BitVec 32 := BitVec.ofNat 32 (i 2).val
  let c0_i32 : BitVec 32 := 0#32
  let v41 : BitVec 1 := Scalar.cmpi .sgt arg2 c0_i32
  let v42 : BitVec 32 := Scalar.extui v41
  let c0_i32_20 : BitVec 32 := 0#32
  let v43 : BitVec 1 := Scalar.cmpi .ne v42 c0_i32_20
  v43

def k0_mult1 : BitVec 32 :=
  let c0_i32_73 : BitVec 32 := 0#32
  c0_i32_73
@[reducible] def k0_t1_loop (i : grid0.Coords) : Scf.Loop 32 :=
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_30 : BitVec 32 := 1#32
  ⟨c0_i32_28, v66, c1_i32_30⟩
def k0_mult2 (i : grid0.Coords) (k0_t1 : Fin (k0_t1_loop i).trips) : BitVec 32 :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let c1_i32_74 : BitVec 32 := 1#32
  let v136 : BitVec 32 := Scalar.addi v135 c1_i32_74
  let c1024_i32 : BitVec 32 := 1024#32
  let v137 : BitVec 32 := Scalar.muli v136 c1024_i32
  v137
def k0_off1 (i : grid0.Coords) (k0_t1 : Fin (k0_t1_loop i).trips) (c1_i32_74 : BitVec 32) : Fin 2 → Nat :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let v136 : BitVec 32 := Scalar.addi v135 c1_i32_74
  let c1024_i32 : BitVec 32 := 1024#32
  let v137 : BitVec 32 := Scalar.muli v136 c1024_i32
  let v138 : BitVec 32 := v137
  let v147 : Index := Scalar.indexCast v138
  let c0_76 : Index := 0#32
  ![v147.toNat, 0]
def k0_off2 (i : grid0.Coords) (k0_t1 : Fin (k0_t1_loop i).trips) (c1_i32_74 : BitVec 32) : Fin 2 → Nat :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let v136 : BitVec 32 := Scalar.addi v135 c1_i32_74
  let c1024_i32 : BitVec 32 := 1024#32
  let v137 : BitVec 32 := Scalar.muli v136 c1024_i32
  let v138 : BitVec 32 := v137
  let v174 : Index := Scalar.indexCast v138
  let c128 : Index := 128#32
  ![v174.toNat, 128]
def k0_mult3 (i : grid0.Coords) (k0_t1 : Fin (k0_t1_loop i).trips) : BitVec 32 :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let c1024_i32_95 : BitVec 32 := 1024#32
  let v200 : BitVec 32 := Scalar.muli v135 c1024_i32_95
  v200
def k0_off3 (i : grid0.Coords) (k0_t1 : Fin (k0_t1_loop i).trips) : Fin 2 → Nat :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let c1024_i32_95 : BitVec 32 := 1024#32
  let v200 : BitVec 32 := Scalar.muli v135 c1024_i32_95
  let v201 : BitVec 32 := v200
  let v202 : Index := Scalar.indexCast v201
  let c0_96 : Index := 0#32
  ![v202.toNat, 0]
def k0_mult4 (i : grid0.Coords) (k0_t1 : Fin (k0_t1_loop i).trips) : BitVec 32 :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let c2_i32_153 : BitVec 32 := 2#32
  let v332 : BitVec 32 := Scalar.addi v135 c2_i32_153
  let c1024_i32_154 : BitVec 32 := 1024#32
  let v333 : BitVec 32 := Scalar.muli v332 c1024_i32_154
  v333
def k0_mult5 (i : grid0.Coords) (k0_t1 : Fin (k0_t1_loop i).trips) : BitVec 32 :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let c1_i32_176 : BitVec 32 := 1#32
  let v396 : BitVec 32 := Scalar.addi v135 c1_i32_176
  let c1024_i32_177 : BitVec 32 := 1024#32
  let v397 : BitVec 32 := Scalar.muli v396 c1024_i32_177
  v397
def k0_off4 (i : grid0.Coords) (k0_t1 : Fin (k0_t1_loop i).trips) : Fin 2 → Nat :=
  let c2_i32_73 : BitVec 32 := 2#32
  let c0_i32_28 : BitVec 32 := 0#32
  let c1_i32_30 : BitVec 32 := 1#32
  let arg14 : BitVec 32 := Scf.iv c0_i32_28 c1_i32_30 k0_t1
  let v135 : BitVec 32 := Scalar.muli c2_i32_73 arg14
  let c1_i32_176 : BitVec 32 := 1#32
  let v396 : BitVec 32 := Scalar.addi v135 c1_i32_176
  let c1024_i32_177 : BitVec 32 := 1024#32
  let v397 : BitVec 32 := Scalar.muli v396 c1024_i32_177
  let v398 : BitVec 32 := v397
  let v399 : Index := Scalar.indexCast v398
  let c0_178 : Index := 0#32
  ![v399.toNat, 0]
@[reducible] def k0_t2_loop (i : grid0.Coords) : Scf.Loop 32 :=
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let v63 : BitVec 32 := Scalar.addi c0_i32_28 v62
  let c1_i32_31 : BitVec 32 := 1#32
  ⟨v66, v63, c1_i32_31⟩
def k0_mult6 (i : grid0.Coords) (k0_t2 : Fin (k0_t2_loop i).trips) : BitVec 32 :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let c1_i32_74 : BitVec 32 := 1#32
  let v136 : BitVec 32 := Scalar.addi v135 c1_i32_74
  let c1024_i32 : BitVec 32 := 1024#32
  let v137 : BitVec 32 := Scalar.muli v136 c1024_i32
  v137
def k0_off5 (i : grid0.Coords) (k0_t2 : Fin (k0_t2_loop i).trips) (c1_i32_74 : BitVec 32) : Fin 2 → Nat :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let v136 : BitVec 32 := Scalar.addi v135 c1_i32_74
  let c1024_i32 : BitVec 32 := 1024#32
  let v137 : BitVec 32 := Scalar.muli v136 c1024_i32
  let v138 : BitVec 32 := v137
  let v147 : Index := Scalar.indexCast v138
  let c0_76 : Index := 0#32
  ![v147.toNat, 0]
def k0_off6 (i : grid0.Coords) (k0_t2 : Fin (k0_t2_loop i).trips) (c1_i32_74 : BitVec 32) : Fin 2 → Nat :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let v136 : BitVec 32 := Scalar.addi v135 c1_i32_74
  let c1024_i32 : BitVec 32 := 1024#32
  let v137 : BitVec 32 := Scalar.muli v136 c1024_i32
  let v138 : BitVec 32 := v137
  let v174 : Index := Scalar.indexCast v138
  let c128 : Index := 128#32
  ![v174.toNat, 128]
def k0_mult7 (i : grid0.Coords) (k0_t2 : Fin (k0_t2_loop i).trips) : BitVec 32 :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let c1024_i32_95 : BitVec 32 := 1024#32
  let v200 : BitVec 32 := Scalar.muli v135 c1024_i32_95
  v200
def k0_off7 (i : grid0.Coords) (k0_t2 : Fin (k0_t2_loop i).trips) : Fin 2 → Nat :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let c1024_i32_95 : BitVec 32 := 1024#32
  let v200 : BitVec 32 := Scalar.muli v135 c1024_i32_95
  let v201 : BitVec 32 := v200
  let v202 : Index := Scalar.indexCast v201
  let c0_96 : Index := 0#32
  ![v202.toNat, 0]
def k0_mult8 (i : grid0.Coords) (k0_t2 : Fin (k0_t2_loop i).trips) : BitVec 32 :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let c2_i32_153 : BitVec 32 := 2#32
  let v332 : BitVec 32 := Scalar.addi v135 c2_i32_153
  let c1024_i32_154 : BitVec 32 := 1024#32
  let v333 : BitVec 32 := Scalar.muli v332 c1024_i32_154
  v333
def k0_mult9 (i : grid0.Coords) (k0_t2 : Fin (k0_t2_loop i).trips) : BitVec 32 :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let c1_i32_176 : BitVec 32 := 1#32
  let v396 : BitVec 32 := Scalar.addi v135 c1_i32_176
  let c1024_i32_177 : BitVec 32 := 1024#32
  let v397 : BitVec 32 := Scalar.muli v396 c1024_i32_177
  v397
def k0_off8 (i : grid0.Coords) (k0_t2 : Fin (k0_t2_loop i).trips) : Fin 2 → Nat :=
  let c2_i32_73 : BitVec 32 := 2#32
  let c0_i32_28 : BitVec 32 := 0#32
  let arg2 : BitVec 32 := BitVec.ofNat 32 (i 2).val
  let c1_i32 : BitVec 32 := 1#32
  let v44 : BitVec 32 := Scalar.subi arg2 c1_i32
  let c0_i32_21 : BitVec 32 := 0#32
  let v46 : BitVec 1 := Scalar.cmpi .sgt v44 c0_i32_21
  let v47 : BitVec 32 := Scalar.extui v46
  let c0_i32_22 : BitVec 32 := 0#32
  let v48 : BitVec 1 := Scalar.cmpi .slt v44 c0_i32_22
  let v49 : BitVec 32 := Scalar.extui v48
  let v50 : BitVec 32 := Scalar.subi v47 v49
  let c2_i32 : BitVec 32 := 2#32
  let c0_i32_23 : BitVec 32 := 0#32
  let v51 : BitVec 1 := Scalar.cmpi .sgt c2_i32 c0_i32_23
  let v52 : BitVec 32 := Scalar.extui v51
  let c0_i32_24 : BitVec 32 := 0#32
  let v53 : BitVec 1 := Scalar.cmpi .slt c2_i32 c0_i32_24
  let v54 : BitVec 32 := Scalar.extui v53
  let v55 : BitVec 32 := Scalar.subi v52 v54
  let v56 : BitVec 1 := Scalar.cmpi .ne v50 v55
  let v57 : BitVec 32 := Scalar.remsi v44 c2_i32
  let c0_i32_25 : BitVec 32 := 0#32
  let v58 : BitVec 1 := Scalar.cmpi .ne v57 c0_i32_25
  let v59 : BitVec 1 := Scalar.andi v56 v58
  let v45 : BitVec 32 := Scalar.divsi v44 c2_i32
  let c1_i32_26 : BitVec 32 := 1#32
  let v60 : BitVec 32 := Scalar.subi v45 c1_i32_26
  let v61 : BitVec 32 := Scalar.select v59 v60 v45
  let v62 : BitVec 32 := Scalar.subi v61 c0_i32_28
  let c1_i32_29 : BitVec 32 := 1#32
  let v64 : BitVec 32 := Scalar.divsi v62 c1_i32_29
  let v65 : BitVec 32 := Scalar.muli v64 c1_i32_29
  let v66 : BitVec 32 := Scalar.addi c0_i32_28 v65
  let c1_i32_31 : BitVec 32 := 1#32
  let arg14 : BitVec 32 := Scf.iv v66 c1_i32_31 k0_t2
  let v135 : BitVec 32 := Scalar.muli c2_i32_73 arg14
  let c1_i32_176 : BitVec 32 := 1#32
  let v396 : BitVec 32 := Scalar.addi v135 c1_i32_176
  let c1024_i32_177 : BitVec 32 := 1024#32
  let v397 : BitVec 32 := Scalar.muli v396 c1024_i32_177
  let v398 : BitVec 32 := v397
  let v399 : Index := Scalar.indexCast v398
  let c0_178 : Index := 0#32
  ![v399.toNat, 0]
def k0_cond2 (i : grid0.Coords) : BitVec 1 :=
  let arg2 : BitVec 32 := BitVec.ofNat 32 (i 2).val
  let c0_i32_32 : BitVec 32 := 0#32
  let v67 : BitVec 1 := Scalar.cmpi .eq arg2 c0_i32_32
  let v68 : BitVec 32 := Scalar.extui v67
  let c0_i32_33 : BitVec 32 := 0#32
  let v69 : BitVec 1 := Scalar.cmpi .ne v68 c0_i32_33
  v69

def k0_mult10 (i : grid0.Coords) : BitVec 32 :=
  let arg2 : BitVec 32 := BitVec.ofNat 32 (i 2).val
  let c1024_i32 : BitVec 32 := 1024#32
  let v135 : BitVec 32 := Scalar.muli arg2 c1024_i32
  v135
def k0_off9 (i : grid0.Coords) : Fin 2 → Nat :=
  let arg2 : BitVec 32 := BitVec.ofNat 32 (i 2).val
  let c1024_i32 : BitVec 32 := 1024#32
  let v135 : BitVec 32 := Scalar.muli arg2 c1024_i32
  let v136 : BitVec 32 := v135
  let v148 : Index := Scalar.indexCast v136
  let c0_74 : Index := 0#32
  ![v148.toNat, 0]
def k0_off10 (i : grid0.Coords) : Fin 2 → Nat :=
  let arg2 : BitVec 32 := BitVec.ofNat 32 (i 2).val
  let c1024_i32 : BitVec 32 := 1024#32
  let v135 : BitVec 32 := Scalar.muli arg2 c1024_i32
  let v136 : BitVec 32 := v135
  let v184 : Index := Scalar.indexCast v136
  let c128 : Index := 128#32
  ![v184.toNat, 128]
def k0_mult11 (i : grid0.Coords) : BitVec 32 :=
  let arg2 : BitVec 32 := BitVec.ofNat 32 (i 2).val
  let c1024_i32_99 : BitVec 32 := 1024#32
  let v219 : BitVec 32 := Scalar.muli arg2 c1024_i32_99
  v219
def k0_off11 (i : grid0.Coords) : Fin 2 → Nat :=
  let arg2 : BitVec 32 := BitVec.ofNat 32 (i 2).val
  let c1024_i32_99 : BitVec 32 := 1024#32
  let v219 : BitVec 32 := Scalar.muli arg2 c1024_i32_99
  let v220 : BitVec 32 := v219
  let v221 : Index := Scalar.indexCast v220
  let c0_100 : Index := 0#32
  ![v221.toNat, 0]
def k0_cond3 (i : grid0.Coords) : BitVec 1 :=
  let arg2 : BitVec 32 := BitVec.ofNat 32 (i 2).val
  let c2_i32_34 : BitVec 32 := 2#32
  let c0_i32_35 : BitVec 32 := 0#32
  let v70 : BitVec 1 := Scalar.cmpi .eq c2_i32_34 c0_i32_35
  let c1_i32_36 : BitVec 32 := 1#32
  let v71 : BitVec 32 := Scalar.select v70 c1_i32_36 c2_i32_34
  let v72 : BitVec 32 := Scalar.remsi arg2 v71
  let c0_i32_38 : BitVec 32 := 0#32
  let v74 : BitVec 1 := Scalar.cmpi .slt v72 c0_i32_38
  let c0_i32_39 : BitVec 32 := 0#32
  let v75 : BitVec 1 := Scalar.cmpi .slt v71 c0_i32_39
  let v76 : BitVec 1 := Scalar.xori v74 v75
  let c0_i32_37 : BitVec 32 := 0#32
  let v73 : BitVec 1 := Scalar.cmpi .ne v72 c0_i32_37
  let v77 : BitVec 1 := Scalar.andi v76 v73
  let v78 : BitVec 32 := Scalar.addi v72 v71
  let v79 : BitVec 32 := Scalar.select v77 v78 v72
  let c1_i32_40 : BitVec 32 := 1#32
  let v80 : BitVec 1 := Scalar.cmpi .eq v79 c1_i32_40
  let v81 : BitVec 32 := Scalar.extui v80
  let c0_i32_41 : BitVec 32 := 0#32
  let v82 : BitVec 1 := Scalar.cmpi .ne v81 c0_i32_41
  v82

def k0_mult12 (i : grid0.Coords) : BitVec 32 :=
  let arg2 : BitVec 32 := BitVec.ofNat 32 (i 2).val
  let c1024_i32 : BitVec 32 := 1024#32
  let v135 : BitVec 32 := Scalar.muli arg2 c1024_i32
  v135
def k0_off12 (i : grid0.Coords) : Fin 2 → Nat :=
  let arg2 : BitVec 32 := BitVec.ofNat 32 (i 2).val
  let c1024_i32 : BitVec 32 := 1024#32
  let v135 : BitVec 32 := Scalar.muli arg2 c1024_i32
  let v136 : BitVec 32 := v135
  let v148 : Index := Scalar.indexCast v136
  let c0_74 : Index := 0#32
  ![v148.toNat, 0]
def k0_off13 (i : grid0.Coords) : Fin 2 → Nat :=
  let arg2 : BitVec 32 := BitVec.ofNat 32 (i 2).val
  let c1024_i32 : BitVec 32 := 1024#32
  let v135 : BitVec 32 := Scalar.muli arg2 c1024_i32
  let v136 : BitVec 32 := v135
  let v184 : Index := Scalar.indexCast v136
  let c128 : Index := 128#32
  ![v184.toNat, 128]
def k0_mult13 (i : grid0.Coords) : BitVec 32 :=
  let arg2 : BitVec 32 := BitVec.ofNat 32 (i 2).val
  let c1_i32_99 : BitVec 32 := 1#32
  let v219 : BitVec 32 := Scalar.subi arg2 c1_i32_99
  let c1024_i32_100 : BitVec 32 := 1024#32
  let v220 : BitVec 32 := Scalar.muli v219 c1024_i32_100
  v220
def k0_off14 (i : grid0.Coords) : Fin 2 → Nat :=
  let arg2 : BitVec 32 := BitVec.ofNat 32 (i 2).val
  let c1_i32_99 : BitVec 32 := 1#32
  let v219 : BitVec 32 := Scalar.subi arg2 c1_i32_99
  let c1024_i32_100 : BitVec 32 := 1024#32
  let v220 : BitVec 32 := Scalar.muli v219 c1024_i32_100
  let v221 : BitVec 32 := v220
  let v222 : Index := Scalar.indexCast v221
  let c0_101 : Index := 0#32
  ![v222.toNat, 0]
def k0_mult14 (i : grid0.Coords) : BitVec 32 :=
  let arg2 : BitVec 32 := BitVec.ofNat 32 (i 2).val
  let c1024_i32_158 : BitVec 32 := 1024#32
  let v352 : BitVec 32 := Scalar.muli arg2 c1024_i32_158
  v352
def k0_off15 (i : grid0.Coords) : Fin 2 → Nat :=
  let arg2 : BitVec 32 := BitVec.ofNat 32 (i 2).val
  let c1024_i32_158 : BitVec 32 := 1024#32
  let v352 : BitVec 32 := Scalar.muli arg2 c1024_i32_158
  let v353 : BitVec 32 := v352
  let v354 : Index := Scalar.indexCast v353
  let c0_159 : Index := 0#32
  ![v354.toNat, 0]
def k0_cond4 (i : grid0.Coords) : BitVec 1 :=
  let arg2 : BitVec 32 := BitVec.ofNat 32 (i 2).val
  let c0_i32_42 : BitVec 32 := 0#32
  let v83 : BitVec 1 := Scalar.cmpi .sgt arg2 c0_i32_42
  let c2_i32_43 : BitVec 32 := 2#32
  let c0_i32_44 : BitVec 32 := 0#32
  let v84 : BitVec 1 := Scalar.cmpi .eq c2_i32_43 c0_i32_44
  let c1_i32_45 : BitVec 32 := 1#32
  let v85 : BitVec 32 := Scalar.select v84 c1_i32_45 c2_i32_43
  let v86 : BitVec 32 := Scalar.remsi arg2 v85
  let c0_i32_47 : BitVec 32 := 0#32
  let v88 : BitVec 1 := Scalar.cmpi .slt v86 c0_i32_47
  let c0_i32_48 : BitVec 32 := 0#32
  let v89 : BitVec 1 := Scalar.cmpi .slt v85 c0_i32_48
  let v90 : BitVec 1 := Scalar.xori v88 v89
  let c0_i32_46 : BitVec 32 := 0#32
  let v87 : BitVec 1 := Scalar.cmpi .ne v86 c0_i32_46
  let v91 : BitVec 1 := Scalar.andi v90 v87
  let v92 : BitVec 32 := Scalar.addi v86 v85
  let v93 : BitVec 32 := Scalar.select v91 v92 v86
  let c0_i32_49 : BitVec 32 := 0#32
  let v94 : BitVec 1 := Scalar.cmpi .eq v93 c0_i32_49
  let v95 : BitVec 1 := Scalar.andi v83 v94
  let v96 : BitVec 32 := Scalar.extui v95
  let c0_i32_50 : BitVec 32 := 0#32
  let v97 : BitVec 1 := Scalar.cmpi .ne v96 c0_i32_50
  v97

def k0_mult15 (i : grid0.Coords) : BitVec 32 :=
  let arg2 : BitVec 32 := BitVec.ofNat 32 (i 2).val
  let c1_i32_73 : BitVec 32 := 1#32
  let v135 : BitVec 32 := Scalar.subi arg2 c1_i32_73
  let c1024_i32 : BitVec 32 := 1024#32
  let v136 : BitVec 32 := Scalar.muli v135 c1024_i32
  v136
def k0_off16 (i : grid0.Coords) : Fin 2 → Nat :=
  let arg2 : BitVec 32 := BitVec.ofNat 32 (i 2).val
  let c1_i32_73 : BitVec 32 := 1#32
  let v135 : BitVec 32 := Scalar.subi arg2 c1_i32_73
  let c1024_i32 : BitVec 32 := 1024#32
  let v136 : BitVec 32 := Scalar.muli v135 c1024_i32
  let v137 : BitVec 32 := v136
  let v146 : Index := Scalar.indexCast v137
  let c0_75 : Index := 0#32
  ![v146.toNat, 0]
def k0_off17 (i : grid0.Coords) : Fin 2 → Nat :=
  let arg2 : BitVec 32 := BitVec.ofNat 32 (i 2).val
  let c1_i32_73 : BitVec 32 := 1#32
  let v135 : BitVec 32 := Scalar.subi arg2 c1_i32_73
  let c1024_i32 : BitVec 32 := 1024#32
  let v136 : BitVec 32 := Scalar.muli v135 c1024_i32
  let v137 : BitVec 32 := v136
  let v173 : Index := Scalar.indexCast v137
  let c128 : Index := 128#32
  ![v173.toNat, 128]
def k0_mult16 (i : grid0.Coords) : BitVec 32 :=
  let arg2 : BitVec 32 := BitVec.ofNat 32 (i 2).val
  let c2_i32_94 : BitVec 32 := 2#32
  let v199 : BitVec 32 := Scalar.subi arg2 c2_i32_94
  let c1024_i32_95 : BitVec 32 := 1024#32
  let v200 : BitVec 32 := Scalar.muli v199 c1024_i32_95
  v200
def k0_off18 (i : grid0.Coords) (c2_i32_94 : BitVec 32) : Fin 2 → Nat :=
  let arg2 : BitVec 32 := BitVec.ofNat 32 (i 2).val
  let v199 : BitVec 32 := Scalar.subi arg2 c2_i32_94
  let c1024_i32_95 : BitVec 32 := 1024#32
  let v200 : BitVec 32 := Scalar.muli v199 c1024_i32_95
  let v201 : BitVec 32 := v200
  let v202 : Index := Scalar.indexCast v201
  let c0_96 : Index := 0#32
  ![v202.toNat, 0]
def k0_mult17 (i : grid0.Coords) : BitVec 32 :=
  let arg2 : BitVec 32 := BitVec.ofNat 32 (i 2).val
  let c1024_i32_153 : BitVec 32 := 1024#32
  let v332 : BitVec 32 := Scalar.muli arg2 c1024_i32_153
  v332
def k0_off19 (i : grid0.Coords) : Fin 2 → Nat :=
  let arg2 : BitVec 32 := BitVec.ofNat 32 (i 2).val
  let c1024_i32_153 : BitVec 32 := 1024#32
  let v332 : BitVec 32 := Scalar.muli arg2 c1024_i32_153
  let v333 : BitVec 32 := v332
  let v345 : Index := Scalar.indexCast v333
  let c0_155 : Index := 0#32
  ![v345.toNat, 0]
def k0_off20 (i : grid0.Coords) : Fin 2 → Nat :=
  let arg2 : BitVec 32 := BitVec.ofNat 32 (i 2).val
  let c1024_i32_153 : BitVec 32 := 1024#32
  let v332 : BitVec 32 := Scalar.muli arg2 c1024_i32_153
  let v333 : BitVec 32 := v332
  let v381 : Index := Scalar.indexCast v333
  let c128_168 : Index := 128#32
  ![v381.toNat, 128]
def k0_mult18 (i : grid0.Coords) : BitVec 32 :=
  let arg2 : BitVec 32 := BitVec.ofNat 32 (i 2).val
  let c1_i32_181 : BitVec 32 := 1#32
  let v416 : BitVec 32 := Scalar.subi arg2 c1_i32_181
  let c1024_i32_182 : BitVec 32 := 1024#32
  let v417 : BitVec 32 := Scalar.muli v416 c1024_i32_182
  v417
def k0_mult19 (i : grid0.Coords) : BitVec 32 :=
  let arg2 : BitVec 32 := BitVec.ofNat 32 (i 2).val
  let c1024_i32_240 : BitVec 32 := 1024#32
  let v549 : BitVec 32 := Scalar.muli arg2 c1024_i32_240
  v549
def k0_off21 (i : grid0.Coords) : Fin 2 → Nat :=
  let arg2 : BitVec 32 := BitVec.ofNat 32 (i 2).val
  let c1024_i32_240 : BitVec 32 := 1024#32
  let v549 : BitVec 32 := Scalar.muli arg2 c1024_i32_240
  let v550 : BitVec 32 := v549
  let v551 : Index := Scalar.indexCast v550
  let c0_241 : Index := 0#32
  ![v551.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S16384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
variable {F : FTy → Type} [FloatOps F] [Named F]
def κ : String → Option EReal := fun
  | "log2e" => some (((Real.log 2)⁻¹ : ℝ) : EReal)
  | "neg_inf" => some ⊥
  | _ => none
-- ==== Reference2Ideal.lean ====
abbrev S32768x17408 : Shape := ⟨2, ![32768, 17408]⟩
abbrev S128 : Shape := ⟨1, ![128]⟩
abbrev S8x256 : Shape := ⟨2, ![8, 256]⟩
abbrev S32768x2048 : Shape := ⟨2, ![32768, 2048]⟩
abbrev S2x16384x8x2x128 : Shape := ⟨5, ![2, 16384, 8, 2, 128]⟩
abbrev S2x16384x8x256 : Shape := ⟨4, ![2, 16384, 8, 256]⟩
abbrev S_ : Shape := ⟨0, ![]⟩
abbrev S8 : Shape := ⟨1, ![8]⟩
abbrev S2x8x2x16384x16384 : Shape := ⟨5, ![2, 8, 2, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x8x1x1x1 : Shape := ⟨5, ![1, 8, 1, 1, 1]⟩
abbrev S1x1x1x16384x16384 : Shape := ⟨5, ![1, 1, 1, 16384, 16384]⟩
abbrev S1x8x1x16384x16384 : Shape := ⟨5, ![1, 8, 1, 16384, 16384]⟩
abbrev S2x8x2x16384 : Shape := ⟨4, ![2, 8, 2, 16384]⟩
abbrev S2x8x2x16384x1 : Shape := ⟨5, ![2, 8, 2, 16384, 1]⟩
abbrev S2x8x1x16384x16384 : Shape := ⟨5, ![2, 8, 1, 16384, 16384]⟩
abbrev S2x8x16384x16384 : Shape := ⟨4, ![2, 8, 16384, 16384]⟩
abbrev S2x8x256x16384 : Shape := ⟨4, ![2, 8, 256, 16384]⟩
abbrev S2x16384x8 : Shape := ⟨3, ![2, 16384, 8]⟩
abbrev S2x16384x8x1 : Shape := ⟨4, ![2, 16384, 8, 1]⟩
abbrev S1x1x8x256 : Shape := ⟨4, ![1, 1, 8, 256]⟩

abbrev nBuf : Space → Nat
  | .hbm => 111
  | .vmem => 0
  | .smem => 0
  | _ => 0

abbrev bufTy : (tb : Table) → Fin (tcTables nBuf tb) → BufTy
  | .hbm, ⟨0, _⟩ => ⟨S32768x17408, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S8x256, .f32⟩
  | .hbm, ⟨6, _⟩ => ⟨S32768x2048, .bf16⟩
  | .hbm, ⟨7, _⟩ => ⟨S32768x2048, .f32⟩
  | .hbm, ⟨8, _⟩ => ⟨S2x16384x8x2x128, .f32⟩
  | .hbm, ⟨9, _⟩ => ⟨S32768x2048, .bf16⟩
  | .hbm, ⟨10, _⟩ => ⟨S32768x2048, .f32⟩
  | .hbm, ⟨11, _⟩ => ⟨S2x16384x8x2x128, .f32⟩
  | .hbm, ⟨12, _⟩ => ⟨S32768x2048, .bf16⟩
  | .hbm, ⟨13, _⟩ => ⟨S32768x2048, .f32⟩
  | .hbm, ⟨14, _⟩ => ⟨S2x16384x8x256, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S2x8x2x16384x16384, .f32⟩
  | .hbm, ⟨40, _⟩ => ⟨S_, .f32⟩
  | .hbm, ⟨41, _⟩ => ⟨S_, .f32⟩
  | .hbm, ⟨42, _⟩ => ⟨S2x8x2x16384x16384, .f32⟩
  | .hbm, ⟨43, _⟩ => ⟨S2x8x2x16384x16384, .f32⟩
  | .hbm, ⟨44, _⟩ => ⟨S16384, .i32⟩
  | .hbm, ⟨45, _⟩ => ⟨S16384x1, .i32⟩
  | .hbm, ⟨46, _⟩ => ⟨S1x16384, .i32⟩
  | .hbm, ⟨47, _⟩ => ⟨S16384x16384, .i32⟩
  | .hbm, ⟨48, _⟩ => ⟨S16384x16384, .i32⟩
  | .hbm, ⟨49, _⟩ => ⟨S16384x16384, .i32⟩
  | .hbm, ⟨50, _⟩ => ⟨S1x8x1x1x1, .f32⟩
  | .hbm, ⟨51, _⟩ => ⟨S1x8x1x1x1, .f32⟩
  | .hbm, ⟨52, _⟩ => ⟨S16384x16384, .f32⟩
  | .hbm, ⟨53, _⟩ => ⟨S1x1x1x16384x16384, .f32⟩
  | .hbm, ⟨54, _⟩ => ⟨S1x8x1x16384x16384, .f32⟩
  | .hbm, ⟨55, _⟩ => ⟨S1x8x1x16384x16384, .f32⟩
  | .hbm, ⟨56, _⟩ => ⟨S1x8x1x16384x16384, .f32⟩
  | .hbm, ⟨57, _⟩ => ⟨S_, .i32⟩
  | .hbm, ⟨58, _⟩ => ⟨S16384x16384, .i32⟩
  | .hbm, ⟨59, _⟩ => ⟨S16384x16384, .i1⟩
  | .hbm, ⟨60, _⟩ => ⟨S2x8x2x16384x16384, .f32⟩
  | .hbm, ⟨61, _⟩ => ⟨S2x8x2x16384x16384, .f32⟩
  | .hbm, ⟨62, _⟩ => ⟨S_, .f32⟩
  | .hbm, ⟨63, _⟩ => ⟨S_, .f32⟩
  | .hbm, ⟨64, _⟩ => ⟨S2x8x2x16384x16384, .i1⟩
  | .hbm, ⟨65, _⟩ => ⟨S2x8x2x16384x16384, .f32⟩
  | .hbm, ⟨66, _⟩ => ⟨S2x8x2x16384x16384, .f32⟩
  | .hbm, ⟨67, _⟩ => ⟨S_, .f32⟩
  | .hbm, ⟨68, _⟩ => ⟨S2x8x2x16384, .f32⟩
  | .hbm, ⟨69, _⟩ => ⟨S_, .f32⟩
  | .hbm, ⟨70, _⟩ => ⟨S2x8x2x16384, .f32⟩
  | .hbm, ⟨71, _⟩ => ⟨S2x8x2x16384, .f32⟩
  | .hbm, ⟨72, _⟩ => ⟨S2x8x2x16384x1, .f32⟩
  | .hbm, ⟨73, _⟩ => ⟨S2x8x2x16384x16384, .f32⟩
  | .hbm, ⟨74, _⟩ => ⟨S2x8x2x16384x16384, .f32⟩
  | .hbm, ⟨75, _⟩ => ⟨S2x8x2x16384x16384, .f32⟩
  | .hbm, ⟨76, _⟩ => ⟨S_, .f32⟩
  | .hbm, ⟨77, _⟩ => ⟨S2x8x2x16384, .f32⟩
  | .hbm, ⟨78, _⟩ => ⟨S2x8x2x16384x1, .f32⟩
  | .hbm, ⟨79, _⟩ => ⟨S2x8x2x16384x16384, .f32⟩
  | .hbm, ⟨80, _⟩ => ⟨S2x8x2x16384x16384, .f32⟩
  | .hbm, ⟨81, _⟩ => ⟨S2x8x1x16384x16384, .f32⟩
  | .hbm, ⟨82, _⟩ => ⟨S2x8x16384x16384, .f32⟩
  | .hbm, ⟨83, _⟩ => ⟨S2x8x1x16384x16384, .f32⟩
  | .hbm, ⟨84, _⟩ => ⟨S2x8x16384x16384, .f32⟩
  | .hbm, ⟨85, _⟩ => ⟨S2x8x16384x16384, .f32⟩
  | .hbm, ⟨86, _⟩ => ⟨S2x8x16384x16384, .f32⟩
  | .hbm, ⟨87, _⟩ => ⟨S2x8x16384x16384, .f32⟩
  | .hbm, ⟨88, _⟩ => ⟨S2x8x256x16384, .f32⟩
  | .hbm, ⟨89, _⟩ => ⟨S2x16384x8x256, .f32⟩
  | .hbm, ⟨90, _⟩ => ⟨S2x16384x8x256, .f32⟩
  | .hbm, ⟨91, _⟩ => ⟨S_, .f32⟩
  | .hbm, ⟨92, _⟩ => ⟨S2x16384x8, .f32⟩
  | .hbm, ⟨93, _⟩ => ⟨S2x16384x8x1, .f32⟩
  | .hbm, ⟨94, _⟩ => ⟨S_, .f32⟩
  | .hbm, ⟨95, _⟩ => ⟨S2x16384x8x1, .f32⟩
  | .hbm, ⟨96, _⟩ => ⟨S2x16384x8x1, .f32⟩
  | .hbm, ⟨97, _⟩ => ⟨S_, .f32⟩
  | .hbm, ⟨98, _⟩ => ⟨S2x16384x8x1, .f32⟩
  | .hbm, ⟨99, _⟩ => ⟨S2x16384x8x1, .f32⟩
  | .hbm, ⟨100, _⟩ => ⟨S2x16384x8x1, .f32⟩
  | .hbm, ⟨101, _⟩ => ⟨S2x16384x8x256, .f32⟩
  | .hbm, ⟨102, _⟩ => ⟨S2x16384x8x256, .f32⟩
  | .hbm, ⟨103, _⟩ => ⟨S1x1x8x256, .f32⟩
  | .hbm, ⟨104, _⟩ => ⟨S2x16384x8x256, .f32⟩
  | .hbm, ⟨105, _⟩ => ⟨S2x16384x8x256, .f32⟩
  | .hbm, ⟨106, _⟩ => ⟨S_, .f32⟩
  | .hbm, ⟨107, _⟩ => ⟨S2x16384x8x256, .f32⟩
  | .hbm, ⟨108, _⟩ => ⟨S2x16384x8x256, .f32⟩
  | .hbm, ⟨109, _⟩ => ⟨S32768x2048, .f32⟩
  | .hbm, ⟨110, _⟩ => ⟨S32768x2048, .bf16⟩
  | _, _ => ⟨S32768x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Kernel3.lean ====
abbrev S32768x17408 : Shape := ⟨2, ![32768, 17408]⟩
abbrev S32768x2048 : Shape := ⟨2, ![32768, 2048]⟩
abbrev S32768x1024 : Shape := ⟨2, ![32768, 1024]⟩
abbrev S512x2048 : Shape := ⟨2, ![512, 2048]⟩
abbrev S2048x2048 : Shape := ⟨2, ![2048, 2048]⟩
abbrev S1024x2048 : Shape := ⟨2, ![1024, 2048]⟩
abbrev S6144 : Shape := ⟨1, ![6144]⟩
abbrev S3x2048 : Shape := ⟨2, ![3, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1x2048 : Shape := ⟨2, ![1, 2048]⟩

abbrev nBuf : Space → Nat
  | .hbm => 13
  | .vmem => 20
  | .smem => 0
  | _ => 0

abbrev bufTy : (tb : Table) → Fin (tcTables nBuf tb) → BufTy
  | .hbm, ⟨0, _⟩ => ⟨S32768x17408, .bf16⟩
  | .hbm, ⟨1, _⟩ => ⟨S32768x2048, .bf16⟩
  | .hbm, ⟨2, _⟩ => ⟨S32768x1024, .bf16⟩
  | .hbm, ⟨3, _⟩ => ⟨S512x2048, .bf16⟩
  | .hbm, ⟨4, _⟩ => ⟨S2048x2048, .f32⟩
  | .hbm, ⟨5, _⟩ => ⟨S1024x2048, .f32⟩
  | .hbm, ⟨6, _⟩ => ⟨S1024x2048, .f32⟩
  | .hbm, ⟨7, _⟩ => ⟨S6144, .f32⟩
  | .hbm, ⟨8, _⟩ => ⟨S2048x2048, .bf16⟩
  | .hbm, ⟨9, _⟩ => ⟨S1024x2048, .bf16⟩
  | .hbm, ⟨10, _⟩ => ⟨S1024x2048, .bf16⟩
  | .hbm, ⟨11, _⟩ => ⟨S3x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S256x2048, .bf16⟩
  | .local _ .vmem, ⟨13, _⟩ => ⟨S256x2048, .bf16⟩
  | .local _ .vmem, ⟨14, _⟩ => ⟨S2048x2048, .bf16⟩
  | .local _ .vmem, ⟨15, _⟩ => ⟨S1024x2048, .bf16⟩
  | .local _ .vmem, ⟨16, _⟩ => ⟨S1024x2048, .bf16⟩
  | .local _ .vmem, ⟨17, _⟩ => ⟨S3x2048, .f32⟩
  | .local _ .vmem, ⟨18, _⟩ => ⟨S512x2048, .bf16⟩
  | .local _ .vmem, ⟨19, _⟩ => ⟨S512x2048, .bf16⟩
  | _, _ => ⟨S32768x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x17408 : Shape := ⟨2, ![32768, 17408]⟩
abbrev S32768x2048 : Shape := ⟨2, ![32768, 2048]⟩
abbrev S32768x1024 : Shape := ⟨2, ![32768, 1024]⟩
abbrev S512x2048 : Shape := ⟨2, ![512, 2048]⟩
abbrev S2048x2048 : Shape := ⟨2, ![2048, 2048]⟩
abbrev S1024x2048 : Shape := ⟨2, ![1024, 2048]⟩
abbrev S6144 : Shape := ⟨1, ![6144]⟩
abbrev S2x16384x4x256 : Shape := ⟨4, ![2, 16384, 4, 256]⟩
abbrev S512x1024 : Shape := ⟨2, ![512, 1024]⟩
abbrev S2x256x4x256 : Shape := ⟨4, ![2, 256, 4, 256]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S32768x6144 : Shape := ⟨2, ![32768, 6144]⟩
abbrev S1x6144 : Shape := ⟨2, ![1, 6144]⟩
abbrev S32768x3x2048 : Shape := ⟨3, ![32768, 3, 2048]⟩
abbrev S32768x1x2048 : Shape := ⟨3, ![32768, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S32768x17408, .bf16⟩
  | .hbm, ⟨1, _⟩ => ⟨S32768x2048, .bf16⟩
  | .hbm, ⟨2, _⟩ => ⟨S32768x1024, .bf16⟩
  | .hbm, ⟨3, _⟩ => ⟨S512x2048, .bf16⟩
  | .hbm, ⟨4, _⟩ => ⟨S2048x2048, .f32⟩
  | .hbm, ⟨5, _⟩ => ⟨S1024x2048, .f32⟩
  | .hbm, ⟨6, _⟩ => ⟨S1024x2048, .f32⟩
  | .hbm, ⟨7, _⟩ => ⟨S6144, .f32⟩
  | .hbm, ⟨8, _⟩ => ⟨S32768x1024, .bf16⟩
  | .hbm, ⟨9, _⟩ => ⟨S32768x1024, .f32⟩
  | .hbm, ⟨10, _⟩ => ⟨S2x16384x4x256, .f32⟩
  | .hbm, ⟨11, _⟩ => ⟨S512x2048, .f32⟩
  | .hbm, ⟨12, _⟩ => ⟨S512x1024, .f32⟩
  | .hbm, ⟨13, _⟩ => ⟨S512x1024, .f32⟩
  | .hbm, ⟨14, _⟩ => ⟨S2x256x4x256, .f32⟩
  | .hbm, ⟨15, _⟩ => ⟨S2x4x16384x256, .f32⟩
  | .hbm, ⟨16, _⟩ => ⟨S_, .f32⟩
  | .hbm, ⟨17, _⟩ => ⟨S2x4x16384x256, .f32⟩
  | .hbm, ⟨18, _⟩ => ⟨S2x4x16384x256, .f32⟩
  | .hbm, ⟨19, _⟩ => ⟨S_, .f32⟩
  | .hbm, ⟨20, _⟩ => ⟨S2x4x16384, .f32⟩
  | .hbm, ⟨21, _⟩ => ⟨S_, .f32⟩
  | .hbm, ⟨22, _⟩ => ⟨S2x4x16384, .f32⟩
  | .hbm, ⟨23, _⟩ => ⟨S2x4x16384, .f32⟩
  | .hbm, ⟨24, _⟩ => ⟨S2x4x16384x1, .f32⟩
  | .hbm, ⟨25, _⟩ => ⟨S2x4x16384x256, .f32⟩
  | .hbm, ⟨26, _⟩ => ⟨S2x4x16384x256, .f32⟩
  | .hbm, ⟨27, _⟩ => ⟨S2x4x16384x256, .f32⟩
  | .hbm, ⟨28, _⟩ => ⟨S_, .f32⟩
  | .hbm, ⟨29, _⟩ => ⟨S2x4x16384, .f32⟩
  | .hbm, ⟨30, _⟩ => ⟨S2x4x16384x1, .f32⟩
  | .hbm, ⟨31, _⟩ => ⟨S2x4x16384x256, .f32⟩
  | .hbm, ⟨32, _⟩ => ⟨S2x4x16384x256, .f32⟩
  | .hbm, ⟨33, _⟩ => ⟨S2x256x4x256, .f32⟩
  | .hbm, ⟨34, _⟩ => ⟨S2x4x256x16384, .f32⟩
  | .hbm, ⟨35, _⟩ => ⟨S2x16384x4x256, .f32⟩
  | .hbm, ⟨36, _⟩ => ⟨S32768x1024, .f32⟩
  | .hbm, ⟨37, _⟩ => ⟨S32768x6144, .bf16⟩
  | .hbm, ⟨38, _⟩ => ⟨S32768x6144, .f32⟩
  | .hbm, ⟨39, _⟩ => ⟨S1x6144, .f32⟩
  | .hbm, ⟨40, _⟩ => ⟨S32768x6144, .f32⟩
  | .hbm, ⟨41, _⟩ => ⟨S32768x6144, .f32⟩
  | .hbm, ⟨42, _⟩ => ⟨S32768x6144, .f32⟩
  | .hbm, ⟨43, _⟩ => ⟨S32768x6144, .f32⟩
  | .hbm, ⟨44, _⟩ => ⟨S_, .f32⟩
  | .hbm, ⟨45, _⟩ => ⟨S32768x6144, .f32⟩
  | .hbm, ⟨46, _⟩ => ⟨S32768x6144, .f32⟩
  | .hbm, ⟨47, _⟩ => ⟨S_, .f32⟩
  | .hbm, ⟨48, _⟩ => ⟨S32768x6144, .f32⟩
  | .hbm, ⟨49, _⟩ => ⟨S32768x6144, .f32⟩
  | .hbm, ⟨50, _⟩ => ⟨S32768x3x2048, .f32⟩
  | .hbm, ⟨51, _⟩ => ⟨S32768x1x2048, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S32768x2048, .f32⟩
  | .hbm, ⟨56, _⟩ => ⟨S32768x1x2048, .f32⟩
  | .hbm, ⟨57, _⟩ => ⟨S32768x2048, .f32⟩
  | .hbm, ⟨58, _⟩ => ⟨S32768x1024, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S32768x1x2048, .f32⟩
  | .hbm, ⟨63, _⟩ => ⟨S32768x2048, .f32⟩
  | .hbm, ⟨64, _⟩ => ⟨S32768x2048, .f32⟩
  | .hbm, ⟨65, _⟩ => ⟨S32768x2048, .f32⟩
  | .hbm, ⟨66, _⟩ => ⟨S32768x2048, .f32⟩
  | .hbm, ⟨67, _⟩ => ⟨S32768x2048, .bf16⟩
  | _, _ => ⟨S32768x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S32768x128 : Shape := ⟨2, ![32768, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 27
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S2048x36, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S2048x128, .f32⟩
  | .hbm, ⟨14, _⟩ => ⟨S2048x128, .f32⟩
  | .hbm, ⟨15, _⟩ => ⟨S2048x128, .bf16⟩
  | .hbm, ⟨16, _⟩ => ⟨S2048x256, .bf16⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S2048x2048, .bf16⟩
  | .hbm, ⟨23, _⟩ => ⟨S1x2048, .f32⟩
  | .hbm, ⟨24, _⟩ => ⟨S32768x2048, .f32⟩
  | .hbm, ⟨25, _⟩ => ⟨S32768x2048, .bf16⟩
  | .hbm, ⟨26, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S2048x256, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x2048 : Shape := ⟨2, ![32768, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x4, .f32⟩
  | .hbm, ⟨5, _⟩ => ⟨S4, .f32⟩
  | .hbm, ⟨6, _⟩ => ⟨S2048x32, .f32⟩
  | .hbm, ⟨7, _⟩ => ⟨S32, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel5.lean ====
abbrev S2x256x2048 : Shape := ⟨3, ![2, 256, 2048]⟩
abbrev S2048 : Shape := ⟨1, ![2048]⟩
abbrev S2048x2048 : Shape := ⟨2, ![2048, 2048]⟩
abbrev S512x2048 : Shape := ⟨2, ![512, 2048]⟩
abbrev S1x2048 : Shape := ⟨2, ![1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S512x2048, .f32⟩
  | .hbm, ⟨4, _⟩ => ⟨S2048x2048, .bf16⟩
  | .hbm, ⟨5, _⟩ => ⟨S1x2048, .f32⟩
  | .hbm, ⟨6, _⟩ => ⟨S512x2048, .bf16⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x256x2048 : Shape := ⟨3, ![2, 256, 2048]⟩
abbrev S2048 : Shape := ⟨1, ![2048]⟩
abbrev S2048x2048 : Shape := ⟨2, ![2048, 2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S512x2048 : Shape := ⟨2, ![512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x2048, .f32⟩
  | .hbm, ⟨20, _⟩ => ⟨S512x2048, .f32⟩
  | .hbm, ⟨21, _⟩ => ⟨S512x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.InprojMath.lean ====
/- The projection's mathematics, index by index, over plain arrays of extended reals: which column of the weight an output
   column is projected with, the factor on it, and the sum. -/
module

public import Idealize.ShloMosaic.Lib.Pointwise
public import Idealize.ShloMosaic.PureOps.Ideal.Laws

@[expose] public section

noncomputable section

namespace Cert.InprojMath

open Idealize.ShloMosaic

/-- The weight's column that output column `n` is projected with: the queries, keys, values and the recurrence's
    queries and keys as they lie, then the gate, then the recurrence's values and output gate, then the cross queries. -/
def src (n : Nat) : Nat :=
  if n < 8192 then n else if n < 14336 then n + 3080 else if n < 16384 then n - 6144 else n - 6136

theorem src_lt {n : Nat} (h : n < 17408) : src n < 17416 := by unfold src; split_ifs <;> omega

/-- The factor on output column `n`: the attention's scale on its queries, else one. -/
def fac (n : Nat) : EReal := if n < 2048 then (((Real.log 2)⁻¹ * (Real.sqrt 128)⁻¹ : ℝ) : EReal) else 1

/-- Output row `i 0`, column `i 1`: the row of the activations with its column of the weight, by its factor. -/
def proj (h : (⟨2, ![32768, 2048]⟩ : Shape).Idx → EReal) (w : (⟨3, ![1, 2048, 17416]⟩ : Shape).Idx → EReal)
    (i : (⟨2, ![32768, 17408]⟩ : Shape).Idx) : EReal :=
  (∑ k : Fin 2048, h (ix2 (i 0) k) * w (ix3 0 k ⟨src (i 1).val, src_lt (i 1).isLt⟩)) * fac (i 1).val

/-- A column inside block `b` of 1024, from the block's first. -/
theorem src_add : ∀ b : Nat, b < 17 → ∀ r : Nat, r < 1024 → src (b * 1024) + r = src (b * 1024 + r) := by
  intro b hb r hr
  unfold src
  interval_cases b <;> split_ifs <;> omega

end Cert.InprojMath

end
-- ==== Proof.InprojValue.lean ====
/- The kernel's projection at the ideal instance, index by index: what one grid point computes, where its blocks lie in the
   arrays (the weight's by the element offset its index map names), and so the whole result array. -/
module

public import proofs.«01_k».proof.Proof.Gen.KernelIdeal.Value
public import proofs.«01_k».proof.Proof.InprojMath
public import Idealize.ShloMosaic.Lib.Pointwise
public import Idealize.ShloMosaic.Lib.ValueIdx
public import Idealize.ShloMosaic.PureOps.Ideal.Laws

@[expose] public section

noncomputable section

namespace Cert.KernelIdeal.Inproj

open Cert.KernelIdeal Cert.KernelIdeal.Gen Idealize.ShloMosaic Idealize.ShloMosaic.TcCoe Idealize.SL.Sem
open Idealize.ShloMosaic.Pipeline (Dat)
open Cert.InprojMath

theorem sel_fac : ∀ j : Fin 17, Scalar.cmpi .slt (BitVec.ofNat 32 j.val) 2#32 = if j.val < 2 then 1#1 else 0#1 := by decide

theorem pay_apply (i : grid0.Coords) (v0 : Vec Ideal S2048x2048 .bf16) (v1 : Vec Ideal S1024x2048 .f32) (j : S2048x1024.Idx) :
    k0_pay1 (F := Ideal) i v0 v1 j
      = (∑ k : Fin 2048, (v0 (ix2 (j 0) k) : EReal) * v1 (ix2 (j 1) k)) * fac ((i 1).val * 1024 + (j 1).val) := by
  unfold k0_pay1
  simp only [pointwise]
  rw [zero_add, show Scalar.cmpi .slt (BitVec.ofNat 32 (i 1).val) 2#32 = if (i 1).val < 2 then 1#1 else 0#1 from sel_fac (i 1)]
  congr 1
  have hj : (j 1).val < 1024 := (j 1).isLt
  unfold fac
  by_cases h : (i 1).val < 2
  · rw [if_pos h, if_pos (by omega)]
    exact IdealRules.named_const.ideal_named_scalar _ _ _ _ rfl
  · rw [if_neg h, if_neg (by omega)]; rfl

variable (m : (ℓ : Loc nD τ sig) → Buf (Elt Ideal) ℓ)

/-- The whole projection of the launch's arguments. -/
def G (c : Dev nD) : S32768x17408.Idx → EReal :=
  proj (m ((c : Thread nD τ).loc main_arg0)) (m ((c : Thread nD τ).loc main_arg1))

/-- Where each point's blocks begin. -/
theorem starts : ∀ t : Fin cfg0.N, win0_0.index t (0 : Fin 2) = (grid0.coords t 0).val ∧ win0_0.index t (1 : Fin 2) = 0
    ∧ win0_1.index t (0 : Fin 2) = src ((grid0.coords t 1).val * 1024) ∧ win0_1.index t (1 : Fin 2) = 0
    ∧ win0_2.index t (0 : Fin 2) = (grid0.coords t 0).val ∧ win0_2.index t (1 : Fin 2) = (grid0.coords t 1).val :=
  (by decide +kernel : ∀ t : Fin grid0.N, _)

theorem hz : (![0, 0] : Fin 2 → Nat) = fun _ => 0 := funext fun a => by fin_cases a <;> rfl

/-- The transposed weight the region finds. -/
theorem V1 (c : Dev nD) (n : Fin 17416) (k : Fin 2048) :
    V m c main_v1 (ix2 n k) = m ((c : Thread nD τ).loc main_arg1) (ix3 0 k n) := by
  have e : V m c main_v1 = transpose S17416x2048 [1, 0] (shapeCast S2048x17416 (m ((c : Thread nD τ).loc main_arg1)) shapeCasts_S1x2048x17416_S2048x17416) transposes_S2048x17416_S17416x2048_1_0 := by
    dsimp only [V]; unfold hostOps0; after_results <;> rfl
  rw [e]
  simp only [pointwise]

theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext j
  obtain ⟨h00, h01, h10, h11, h20, h21⟩ := starts t
  have hj0 : (j 0).val < 2048 := (j 0).isLt
  have hj1 : (j 1).val < 1024 := (j 1).isLt
  have hc1 : (grid0.coords t 1).val < 17 := (grid0.coords t 1).isLt
  refine (pay_apply (grid0.coords t) _ _ j).trans ?_
  show _ = G m c ((win0_2.rect t).emb j)
  have e0 : ((win0_2.rect t).emb j 0).val = (grid0.coords t 0).val * 2048 + (j 0).val := by
    rw [← h20]; exact congrArg (win0_2.index t (0 : Fin 2) * 2048 + ·) (Nat.one_mul _)
  have e1 : ((win0_2.rect t).emb j 1).val = (grid0.coords t 1).val * 1024 + (j 1).val := by
    rw [← h21]; exact congrArg (win0_2.index t (1 : Fin 2) * 1024 + ·) (Nat.one_mul _)
  unfold G proj
  refine congrArg₂ (· * ·) ?_ (congrArg fac e1.symm)
  refine Finset.sum_congr rfl fun k _ => congrArg₂ (· * ·) ?_ ?_
  · show V m c main_arg0 ((win0_0.rect t).emb (ix2 (j 0) k)) = _
    rw [V_main_arg0]
    refine congrArg _ (funext fun a => Fin.ext ?_)
    fin_cases a
    · refine Eq.trans ?_ e0.symm
      rw [← h00]; exact congrArg (win0_0.index t (0 : Fin 2) * 2048 + ·) (Nat.one_mul _)
    · show win0_0.index t (1 : Fin 2) * 2048 + 1 * k.val = k.val
      rw [h01]; omega
  · show V m c main_v1 ((win0_1.rect t).emb (ix2 (j 1) k)) = _
    refine Eq.trans (congrArg (V m c main_v1) (?_ : _ = ix2 ⟨src ((win0_2.rect t).emb j 1).val, src_lt ((win0_2.rect t).emb j 1).isLt⟩ k)) (V1 m c _ k)
    refine (funext fun a => Fin.ext ?_)
    fin_cases a
    · show win0_1.index t (0 : Fin 2) + 1 * (j 1).val = src _
      rw [h10, Nat.one_mul, e1]; exact src_add _ hc1 _ hj1
    · show win0_1.index t (1 : Fin 2) + 1 * k.val = k.val
      rw [h11]; omega

/-- The point that writes the block at row block `a`, column block `b`. -/
theorem point : ∀ (a : Fin 16) (b : Fin 17), ∃ t : Fin cfg0.N, win0_2.index t (0 : Fin 2) = a.val ∧ win0_2.index t (1 : Fin 2) = b.val := by
  intro a b
  have hN : cfg0.N = 272 := N_0
  have key : ∀ t : Fin cfg0.N, (grid0.coords t 0).val = t.val / 17 ∧ (grid0.coords t 1).val = t.val % 17 :=
    (by decide +kernel : ∀ t : Fin grid0.N, _)
  refine ⟨⟨a.val * 17 + b.val, by omega⟩, ?_⟩
  obtain ⟨_, _, _, _, h20, h21⟩ := starts ⟨a.val * 17 + b.val, by omega⟩
  rw [h20, h21, (key _).1, (key _).2]
  constructor
  · show (a.val * 17 + b.val) / 17 = _; omega
  · show (a.val * 17 + b.val) % 17 = _; omega

theorem cover (i : S32768x17408.Idx) :
    ∃ t : Fin cfg0.N, (cfg0.win 2).flush t = true ∧ i ∈ ((cfg0.win 2).blk t).view.set := by
  have h0 : (i 0).val < 32768 := (i 0).isLt
  have h1 : (i 1).val < 17408 := (i 1).isLt
  obtain ⟨t, e0, e1⟩ := point ⟨(i 0).val / 2048, by omega⟩ ⟨(i 1).val / 1024, by omega⟩
  refine ⟨t, flush0_2 t, ?_⟩
  show i ∈ ((View.whole main_v2).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; dsimp only; omega
  | ⟨1, _⟩ =>
    show win0_2.index t (1 : Fin 2) * 1024 ≤ (i 1).val ∧ (i 1).val < win0_2.index t (1 : Fin 2) * 1024 + 1024
    rw [e1]; dsimp only; omega

/-- After the run the result array holds the projection. -/
theorem final (c : Dev nD) : (dats m 0 c).arrAt 2 cfg0.N = G m c :=
  (dats m 0 c).arrAt_eq_of_cover 2 (G m c) (fun t _ => flushed_eq m c t) cover

end Cert.KernelIdeal.Inproj

end
-- ==== Proof.InprojRef.lean ====
/- The reference's projection at the ideal instance, index by index: the joined columns are the projection's. -/
module

public import proofs.«01_k».proof.Proof.InprojMath
public import proofs.«01_k».proof.Proof.Gen.ReferenceIdeal.Read

@[expose] public section

noncomputable section

namespace Cert.ReferenceIdeal.Inproj

open Cert.ReferenceIdeal Cert.ReferenceIdeal.Read Idealize.ShloMosaic Idealize.ShloMosaic.TcCoe Idealize.SL.Sem
open Cert.InprojMath

variable (x0 : (⟨S32768x2048, .bf16⟩ : BufTy).Contents (Elt Ideal)) (x1 : (⟨S1x2048x17416, .f32⟩ : BufTy).Contents (Elt Ideal))

/-- The full projection at an index. -/
theorem full_apply (r : Fin 32768) (n : Fin 17416) :
    val_main_v2 (F := Ideal) x0 x1 (ix2 r n) = (∑ k : Fin 2048, (x0 (ix2 r k) : EReal) * x1 (ix3 0 k n) : EReal) := by
  unfold val_main_v2 val_main_v0 val_main_v1
  simp only [pointwise, zero_add]

theorem sqrt128 : (FloatOps.hostUnary .sqrt (FloatOps.ofBits .f32 0x43000000#32 : Ideal .f32) : Ideal .f32) = ((Real.sqrt 128 : ℝ) : EReal) := by
  have e : (Ideal.ofBits .f32 0x43000000#32 : EReal) = ((128 : ℝ) : EReal) := by
    simp [Ideal.ofBits, Ideal.ieee, -EReal.coe_mul]; norm_num
  rw [show (FloatOps.ofBits .f32 0x43000000#32 : Ideal .f32) = ((128 : ℝ) : EReal) from e]
  simp only [pointwise]
  rw [Ideal.sqrt_coe, if_neg (by norm_num)]

theorem log2 : (FloatOps.hostUnary .log (FloatOps.ofBits .f32 0x40000000#32 : Ideal .f32) : Ideal .f32) = ((Real.log 2 : ℝ) : EReal) := by
  have e : (Ideal.ofBits .f32 0x40000000#32 : EReal) = ((2 : ℝ) : EReal) := by
    simp [Ideal.ofBits, Ideal.ieee, -EReal.coe_mul]; norm_num
  rw [show (FloatOps.ofBits .f32 0x40000000#32 : Ideal .f32) = ((2 : ℝ) : EReal) from e]
  simp only [pointwise]
  rw [Ideal.log_coe, if_neg (by norm_num)]

theorem scaled (s : EReal) : Ideal.div (Ideal.div s ((Real.sqrt 128 : ℝ) : EReal)) ((Real.log 2 : ℝ) : EReal)
    = s * (((Real.log 2)⁻¹ * (Real.sqrt 128)⁻¹ : ℝ) : EReal) := by
  have h1 : Real.sqrt 128 ≠ 0 := (Real.sqrt_pos.mpr (by norm_num)).ne'
  have h2 : Real.log 2 ≠ 0 := (Real.log_pos (by norm_num)).ne'
  rw [Ideal.div_coe h1, Ideal.div_coe h2, mul_assoc, ← EReal.coe_mul, one_div, one_div, mul_comm (Real.sqrt 128)⁻¹]

/-- The first piece: the scaled queries. -/
theorem q_apply (r : Fin 32768) (n : Fin 2048) :
    val_main_v17 (F := Ideal) x0 x1 (ix2 r n)
      = val_main_v2 (F := Ideal) x0 x1 (ix2 r ⟨n.val, by omega⟩) * (((Real.log 2)⁻¹ * (Real.sqrt 128)⁻¹ : ℝ) : EReal) := by
  rw [val_main_v17_apply, val_main_v14_apply, val_main_v3_apply, val_main_v13_apply, val_main_v12_apply, val_main_cst_apply,
    val_main_v16_apply, val_main_v15_apply, val_main_cst_0_apply, sqrt128, log2]
  refine (scaled _).trans (congrArg (· * _) (congrArg _ (funext fun a => Fin.ext ?_)))
  fin_cases a <;> rfl

theorem whole (r : Fin 32768) (n : Fin 17408) : val_main_v19 (F := Ideal) x0 x1 (ix2 r n) = proj x0 x1 (ix2 r n) := by
  have h1 : n.val < 17408 := n.isLt
  have fin : ∀ (n' : Fin 17416) (f : EReal), n'.val = src n.val → f = fac n.val →
      (val_main_v2 (F := Ideal) x0 x1 (ix2 r n') : EReal) * f = proj x0 x1 (ix2 r n) := by
    intro n' f hn hf
    rw [full_apply, hf]; unfold proj
    rw [show n' = ⟨src n.val, src_lt n.isLt⟩ from Fin.ext hn]
    rfl
  have fin1 : ∀ (k : S32768x17416.Idx), (k 0).val = r.val → (k 1).val = src n.val → fac n.val = 1 →
      (val_main_v2 (F := Ideal) x0 x1 k : EReal) = proj x0 x1 (ix2 r n) := by
    intro k hk0 hk1 hf
    rw [← fin ⟨(k 1).val, (k 1).isLt⟩ 1 hk1 hf.symm, mul_one]
    refine congrArg _ (funext fun a => Fin.ext ?_)
    fin_cases a
    · exact hk0
    · rfl
  rw [val_main_v19_apply]
  show val_main_v18 (F := Ideal) x0 x1 (ix2 r n) = _
  unfold val_main_v18
  by_cases c0 : n.val < 2048
  · refine (concatenate_apply_piece 1 _ _ (ix2 r n) 0 (by simp) S32768x2048 _ (by rfl) rfl 0 (by simp [S32768x2048, S32768x6144, S32768x1024]) (ix2 r ⟨n.val - 0, by omega⟩)
      (fun b hb => ?_) (show 0 + (n.val - 0) = n.val by omega)).trans ?_
    · match b, hb with
      | ⟨0, _⟩, _ => rfl
      | ⟨1, _⟩, hb => exact absurd rfl hb
    rw [q_apply]
    refine fin _ _ ?_ ?_
    · show n.val - 0 = _; unfold src; split_ifs <;> omega
    · unfold fac; rw [if_pos c0]
  have hf : fac n.val = 1 := by unfold fac; rw [if_neg c0]
  by_cases c1 : n.val < 4096
  · refine (concatenate_apply_piece 1 _ _ (ix2 r n) 1 (by simp) S32768x2048 _ (by rfl) rfl 2048 (by simp [S32768x2048, S32768x6144, S32768x1024]) (ix2 r ⟨n.val - 2048, by omega⟩)
      (fun b hb => ?_) (show 2048 + (n.val - 2048) = n.val by omega)).trans ?_
    · match b, hb with
      | ⟨0, _⟩, _ => rfl
      | ⟨1, _⟩, hb => exact absurd rfl hb
    rw [val_main_v4_apply]
    refine fin1 _ rfl ?_ hf
    show 2048 + (n.val - 2048) = _; unfold src; split_ifs <;> omega
  by_cases c2 : n.val < 6144
  · refine (concatenate_apply_piece 1 _ _ (ix2 r n) 2 (by simp) S32768x2048 _ (by rfl) rfl 4096 (by simp [S32768x2048, S32768x6144, S32768x1024]) (ix2 r ⟨n.val - 4096, by omega⟩)
      (fun b hb => ?_) (show 4096 + (n.val - 4096) = n.val by omega)).trans ?_
    · match b, hb with
      | ⟨0, _⟩, _ => rfl
      | ⟨1, _⟩, hb => exact absurd rfl hb
    rw [val_main_v5_apply]
    refine fin1 _ rfl ?_ hf
    show 4096 + (n.val - 4096) = _; unfold src; split_ifs <;> omega
  by_cases c3 : n.val < 8192
  · refine (concatenate_apply_piece 1 _ _ (ix2 r n) 3 (by simp) S32768x2048 _ (by rfl) rfl 6144 (by simp [S32768x2048, S32768x6144, S32768x1024]) (ix2 r ⟨n.val - 6144, by omega⟩)
      (fun b hb => ?_) (show 6144 + (n.val - 6144) = n.val by omega)).trans ?_
    · match b, hb with
      | ⟨0, _⟩, _ => rfl
      | ⟨1, _⟩, hb => exact absurd rfl hb
    rw [val_main_v6_apply]
    refine fin1 _ rfl ?_ hf
    show 6144 + (n.val - 6144) = _; unfold src; split_ifs <;> omega
  by_cases c4 : n.val < 14336
  · refine (concatenate_apply_piece 1 _ _ (ix2 r n) 4 (by simp) S32768x6144 _ (by rfl) rfl 8192 (by simp [S32768x2048, S32768x6144, S32768x1024]) (ix2 r ⟨n.val - 8192, by omega⟩)
      (fun b hb => ?_) (show 8192 + (n.val - 8192) = n.val by omega)).trans ?_
    · match b, hb with
      | ⟨0, _⟩, _ => rfl
      | ⟨1, _⟩, hb => exact absurd rfl hb
    rw [val_main_v11_apply]
    refine fin1 _ rfl ?_ hf
    show 11272 + (n.val - 8192) = _; unfold src; split_ifs <;> omega
  by_cases c5 : n.val < 15360
  · refine (concatenate_apply_piece 1 _ _ (ix2 r n) 5 (by simp) S32768x1024 _ (by rfl) rfl 14336 (by simp [S32768x2048, S32768x6144, S32768x1024]) (ix2 r ⟨n.val - 14336, by omega⟩)
      (fun b hb => ?_) (show 14336 + (n.val - 14336) = n.val by omega)).trans ?_
    · match b, hb with
      | ⟨0, _⟩, _ => rfl
      | ⟨1, _⟩, hb => exact absurd rfl hb
    rw [val_main_v7_apply]
    refine fin1 _ rfl ?_ hf
    show 8192 + (n.val - 14336) = _; unfold src; split_ifs <;> omega
  by_cases c6 : n.val < 16384
  · refine (concatenate_apply_piece 1 _ _ (ix2 r n) 6 (by simp) S32768x1024 _ (by rfl) rfl 15360 (by simp [S32768x2048, S32768x6144, S32768x1024]) (ix2 r ⟨n.val - 15360, by omega⟩)
      (fun b hb => ?_) (show 15360 + (n.val - 15360) = n.val by omega)).trans ?_
    · match b, hb with
      | ⟨0, _⟩, _ => rfl
      | ⟨1, _⟩, hb => exact absurd rfl hb
    rw [val_main_v8_apply]
    refine fin1 _ rfl ?_ hf
    show 9216 + (n.val - 15360) = _; unfold src; split_ifs <;> omega
  refine (concatenate_apply_piece 1 _ _ (ix2 r n) 7 (by simp) S32768x1024 _ (by rfl) rfl 16384 (by simp [S32768x2048, S32768x6144, S32768x1024]) (ix2 r ⟨n.val - 16384, by omega⟩)
    (fun b hb => ?_) (show 16384 + (n.val - 16384) = n.val by omega)).trans ?_
  · match b, hb with
    | ⟨0, _⟩, _ => rfl
    | ⟨1, _⟩, hb => exact absurd rfl hb
  rw [val_main_v10_apply]
  refine fin1 _ rfl ?_ hf
  show 10248 + (n.val - 16384) = _; unfold src; split_ifs <;> omega

/-- The reference's result is the projection. -/
theorem result : val_main_v19 (F := Ideal) x0 x1 = proj x0 x1 := by
  funext i
  rw [eq_ix2 i]
  exact whole x0 x1 (i 0) (i 1)

end Cert.ReferenceIdeal.Inproj

end
-- ==== Proof.InprojClaims.lean ====
/- The five claims about the projection. -/
module

public import proofs.«01_k».proof.Defs
public import proofs.«01_k».proof.Proof.Gen.Kernel.Frame
public import proofs.«01_k».proof.Proof.InprojValue
public import proofs.«01_k».proof.Proof.InprojRef
public import Idealize.ShloMosaic.Lib.Quiescent

@[expose] public section

noncomputable section

namespace Cert.Proof.InprojClaims

open Idealize.ShloMosaic Idealize.ShloMosaic.TcCoe Idealize.SL.Sem

theorem frame_k : Cert.quiescent_Kernel := fun m ρ _ => Cert.Kernel.Gen.frame m ρ
theorem frame_ki : Cert.quiescent_KernelIdeal := fun m ρ _ => Cert.KernelIdeal.Gen.frame m ρ

/-- The reference's run read at its arguments; it declares no semaphore. -/
theorem frame_ri : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- The attention's scale on the queries is the rounded `1/√128` by `1/log 2`. -/
theorem preserves : Cert.preserves_Kernel_KernelIdeal :=
  IdealRules.named_const.statement Cert.KernelIdeal.κ "qscale" .f32 0x3E0293EE#32 _ rfl

/-- Both result arrays end at the projection of arguments that agree. -/
theorem algebraic : Cert.algebraic_KernelIdeal_ReferenceIdeal := by
  intro m ρ m' ρ' _ hagree
  refine ⟨fun c => Cert.KernelIdeal.Inproj.G m c, ?_, ?_⟩
  · exact (θ_run Cert.KernelIdeal.defs _ _).mono
      (fun _ h c => ⟨(h c).1.trans (Cert.KernelIdeal.Inproj.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v19_eq (F := Ideal) _ _).trans ((Cert.ReferenceIdeal.Inproj.result _ _).trans ?_)
    rw [(hagree c).1, (hagree c).2]
    rfl

end Cert.Proof.InprojClaims

end
-- ==== Proof.DiffMath.lean ====
module
public import proofs.«01_k».proof.Proof.Gen.Kernel2Ideal.Skeleton
public import Idealize.ShloMosaic.Lib.Pointwise
@[expose] public section
noncomputable section
namespace Cert.Proof.DiffMath
open Cert.Kernel2Ideal Cert.Kernel2Ideal.Gen
open Idealize.ShloMosaic Idealize.ShloMosaic.TcCoe
open Finset

/-! ## The weights over the reals -/

/-- The weight of key `k` in a row that sees the keys up to `Q`, against the running maximum `μ`. -/
def w (s : ℕ → ℝ) (Q : ℕ) (μ : ℝ) (k : ℕ) : ℝ := if k ≤ Q then Real.rpow 2 (s k - μ) else 0

theorem w_scale (s : ℕ → ℝ) (Q : ℕ) (μ μ' : ℝ) (k : ℕ) : Real.rpow 2 (μ - μ') * w s Q μ k = w s Q μ' k := by
  unfold w
  split
  · show (2 : ℝ) ^ (μ - μ') * (2 : ℝ) ^ (s k - μ) = (2 : ℝ) ^ (s k - μ')
    rw [← Real.rpow_add (by norm_num)]; congr 1; ring
  · simp

/-! ## A block of scores, and the accumulators after some blocks -/

/-- The score buffers hold block `n`'s scores, `⊥` at the keys a row doesn't see; the slab maxima are below `⊤` and the first isn't `⊥`. -/
structure Sc (s : Fin 1024 → ℕ → ℝ) (q n : ℕ) (X9 : Vec Ideal S1x1x1024x1024 .f32) (X10 : Vec Ideal S1x1x1024x128 .f32) : Prop where
  score : ∀ r c, X9 (ix4 0 0 r c) = if 1024 * n + c.val ≤ 1024 * q + r.val then ((s r (1024 * n + c.val) : ℝ) : EReal) else ⊥
  top : ∀ r l, X10 (ix4 0 0 r l) ≠ (⊤ : EReal)
  bot : ∀ r, X10 (ix4 0 0 r 0) ≠ (⊥ : EReal)

/-- One row of the accumulators after `n` blocks, against the running maximum `μ`. -/
def RowAcc (s : ℕ → ℝ) (v : ℕ → Fin 256 → ℝ) (Q n : ℕ) (μ : ℝ) (M L : Fin 128 → EReal) (A : Fin 256 → EReal) : Prop :=
  (∀ l, M l = if n = 0 then ⊥ else ((μ : ℝ) : EReal))
    ∧ (∀ l : Fin 128, L l = ((∑ j ∈ range n, ∑ c ∈ range 8, w s Q μ (1024 * j + (128 * c + l.val)) : ℝ) : EReal))
    ∧ ∀ d, A d = ((∑ k ∈ range (1024 * n), w s Q μ k * v k d : ℝ) : EReal)

/-- The accumulators after `n` blocks. -/
def Acc (s : Fin 1024 → ℕ → ℝ) (v : ℕ → Fin 256 → ℝ) (q n : ℕ) (X11 X12 : Vec Ideal S1x1024x128 .f32) (X13 : Vec Ideal S1x1024x256 .f32) : Prop :=
  ∀ r : Fin 1024, ∃ μ : ℝ, RowAcc (s r) v (1024 * q + r.val) n μ (fun l => X11 (ix3 0 r l)) (fun l => X12 (ix3 0 r l)) (fun d => X13 (ix3 0 r d))

/-! ## The kernel's own steps, named -/

/-- The new maxima. -/
def newM (X10 : Vec Ideal S1x1x1024x128 .f32) (X11 : Vec Ideal S1x1024x128 .f32) : Vec Ideal S1x1024x128 .f32 := k0_pay18 (F := Ideal) (k0_pay16 X11 X10)
/-- The new sums. -/
def newL (X9 : Vec Ideal S1x1x1024x1024 .f32) (X10 : Vec Ideal S1x1x1024x128 .f32) (X11 X12 : Vec Ideal S1x1024x128 .f32) : Vec Ideal S1x1024x128 .f32 :=
  k0_pay28 (F := Ideal) (k0_pay16 X11 X10) (k0_pay17 X11 X10) X9 X12
/-- The new weighted sums of the values. -/
def newA (X9 : Vec Ideal S1x1x1024x1024 .f32) (X10 : Vec Ideal S1x1x1024x128 .f32) (X11 : Vec Ideal S1x1024x128 .f32) (X13 : Vec Ideal S1x1024x256 .f32)
    (Vb : Vec Ideal S1024x256 .bf16) : Vec Ideal S1x1024x256 .f32 :=
  k0_pay31 (F := Ideal) Vb (k0_pay29 (k0_pay16 X11 X10) X9) (k0_pay30 (k0_pay17 X11 X10)) X13

theorem coe_sum {ι : Type} (t : Finset ι) (f : ι → ℝ) : ((∑ k ∈ t, f k : ℝ) : EReal) = ∑ k ∈ t, ((f k : ℝ) : EReal) := by
  induction t using Finset.cons_induction with
  | empty => rfl
  | cons a t h ih => rw [sum_cons, sum_cons, EReal.coe_add, ih]

theorem exp2_coe (x : ℝ) : (FloatOps.exp2 (F := Ideal) (φ := .f32) ((x : ℝ) : EReal) : EReal) = ((Real.rpow 2 x : ℝ) : EReal) := Ideal.exp2_coe x
theorem exp2_bot : (FloatOps.exp2 (F := Ideal) (φ := .f32) (⊥ : EReal) : EReal) = 0 := Ideal.exp2_bot

theorem p16 (X11 : Vec Ideal S1x1024x128 .f32) (X10 : Vec Ideal S1x1x1024x128 .f32) (r : Fin 1024) (l : Fin 128) :
    k0_pay16 (F := Ideal) X11 X10 (ix2 r l) = max (X11 (ix3 0 r l) : EReal) (Finset.univ.fold max (⊥ : EReal) fun k => X10 (ix4 0 0 r k)) := by
  unfold k0_pay16 k0_pay15
  simp only [pointwise]
  have : Ideal.ofBits FTy.f32 4286578688#32 = (⊥ : EReal) := by simp [Ideal.ofBits, Ideal.ieee]
  rw [this]; rfl

theorem p17 (X11 : Vec Ideal S1x1024x128 .f32) (X10 : Vec Ideal S1x1x1024x128 .f32) (r : Fin 1024) (l : Fin 128) :
    k0_pay17 (F := Ideal) X11 X10 (ix2 r l) = FloatOps.exp2 (F := Ideal) (φ := .f32) ((X11 (ix3 0 r l) : EReal) - k0_pay16 (F := Ideal) X11 X10 (ix2 r l)) := by
  unfold k0_pay17 k0_pay15
  simp only [pointwise]

theorem p18 (X : FVec Ideal S1024x128 .f32) (r : Fin 1024) (l : Fin 128) : k0_pay18 (F := Ideal) X (ix3 0 r l) = X (ix2 r l) := by
  unfold k0_pay18
  simp only [pointwise]

theorem p20 (X1 : FVec Ideal S1024x128 .f32) (X9 : Vec Ideal S1x1x1024x1024 .f32) (r : Fin 1024) (l : Fin 128) :
    k0_pay20 (F := Ideal) X1 X9 (ix2 r l) = FloatOps.exp2 (F := Ideal) (φ := .f32) ((X9 (ix4 0 0 r ⟨0 + l.val, by omega⟩) : EReal) - X1 (ix2 r l)) := by
  unfold k0_pay20 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p21 (X1 : FVec Ideal S1024x128 .f32) (X9 : Vec Ideal S1x1x1024x1024 .f32) (r : Fin 1024) (l : Fin 128) :
    k0_pay21 (F := Ideal) X1 X9 (ix2 r l) = FloatOps.exp2 (F := Ideal) (φ := .f32) ((X9 (ix4 0 0 r ⟨128 + l.val, by omega⟩) : EReal) - X1 (ix2 r l)) := by
  unfold k0_pay21 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p22 (X1 : FVec Ideal S1024x128 .f32) (X9 : Vec Ideal S1x1x1024x1024 .f32) (r : Fin 1024) (l : Fin 128) :
    k0_pay22 (F := Ideal) X1 X9 (ix2 r l) = FloatOps.exp2 (F := Ideal) (φ := .f32) ((X9 (ix4 0 0 r ⟨256 + l.val, by omega⟩) : EReal) - X1 (ix2 r l)) := by
  unfold k0_pay22 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p23 (X1 : FVec Ideal S1024x128 .f32) (X9 : Vec Ideal S1x1x1024x1024 .f32) (r : Fin 1024) (l : Fin 128) :
    k0_pay23 (F := Ideal) X1 X9 (ix2 r l) = FloatOps.exp2 (F := Ideal) (φ := .f32) ((X9 (ix4 0 0 r ⟨384 + l.val, by omega⟩) : EReal) - X1 (ix2 r l)) := by
  unfold k0_pay23 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p24 (X1 : FVec Ideal S1024x128 .f32) (X9 : Vec Ideal S1x1x1024x1024 .f32) (r : Fin 1024) (l : Fin 128) :
    k0_pay24 (F := Ideal) X1 X9 (ix2 r l) = FloatOps.exp2 (F := Ideal) (φ := .f32) ((X9 (ix4 0 0 r ⟨512 + l.val, by omega⟩) : EReal) - X1 (ix2 r l)) := by
  unfold k0_pay24 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p25 (X1 : FVec Ideal S1024x128 .f32) (X9 : Vec Ideal S1x1x1024x1024 .f32) (r : Fin 1024) (l : Fin 128) :
    k0_pay25 (F := Ideal) X1 X9 (ix2 r l) = FloatOps.exp2 (F := Ideal) (φ := .f32) ((X9 (ix4 0 0 r ⟨640 + l.val, by omega⟩) : EReal) - X1 (ix2 r l)) := by
  unfold k0_pay25 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p26 (X1 : FVec Ideal S1024x128 .f32) (X9 : Vec Ideal S1x1x1024x1024 .f32) (r : Fin 1024) (l : Fin 128) :
    k0_pay26 (F := Ideal) X1 X9 (ix2 r l) = FloatOps.exp2 (F := Ideal) (φ := .f32) ((X9 (ix4 0 0 r ⟨768 + l.val, by omega⟩) : EReal) - X1 (ix2 r l)) := by
  unfold k0_pay26 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p27 (X1 : FVec Ideal S1024x128 .f32) (X9 : Vec Ideal S1x1x1024x1024 .f32) (r : Fin 1024) (l : Fin 128) :
    k0_pay27 (F := Ideal) X1 X9 (ix2 r l) = FloatOps.exp2 (F := Ideal) (φ := .f32) ((X9 (ix4 0 0 r ⟨896 + l.val, by omega⟩) : EReal) - X1 (ix2 r l)) := by
  unfold k0_pay27 k0_pay19
  simp only [pointwise]
  refine congrArg (fun x : EReal => FloatOps.exp2 (F := Ideal) (φ := .f32) (x - X1 (ix2 r l))) (congrArg X9 (congrArg₂ (ix4 0 0) (Fin.ext (Nat.zero_add _)) rfl))

theorem p28 (X1 X2 : FVec Ideal S1024x128 .f32) (X9 : Vec Ideal S1x1x1024x1024 .f32) (X12 : Vec Ideal S1x1024x128 .f32) (r : Fin 1024) (l : Fin 128) :
    k0_pay28 (F := Ideal) X1 X2 X9 X12 (ix3 0 r l)
      = (X2 (ix2 r l) : EReal) * X12 (ix3 0 r l) + (k0_pay20 X1 X9 (ix2 r l) + k0_pay21 X1 X9 (ix2 r l) + k0_pay22 X1 X9 (ix2 r l) + k0_pay23 X1 X9 (ix2 r l)
          + k0_pay24 X1 X9 (ix2 r l) + k0_pay25 X1 X9 (ix2 r l) + k0_pay26 X1 X9 (ix2 r l) + k0_pay27 X1 X9 (ix2 r l)) := by
  unfold k0_pay28
  simp only [pointwise]

theorem p31 (Vb : Vec Ideal S1024x256 .bf16) (P : FVec Ideal S1024x1024 .bf16) (A : FVec Ideal S1024x256 .f32) (X13 : Vec Ideal S1x1024x256 .f32) (r : Fin 1024) (d : Fin 256) :
    k0_pay31 (F := Ideal) Vb P A X13 (ix3 0 r d) = (A (ix2 r d) : EReal) * X13 (ix3 0 r d) + (0 + ∑ k : Fin 1024, (P (ix2 r k) : EReal) * Vb (ix2 k d)) := by
  unfold k0_pay31
  simp only [pointwise]

theorem p30 (X : FVec Ideal S1024x128 .f32) (r : Fin 1024) (d : Fin 256) (a : EReal) (hX : ∀ l, X (ix2 r l) = a) : k0_pay30 (F := Ideal) X (ix2 r d) = a := by
  unfold k0_pay30
  have h01 : (((0 : Fin 2) : ℕ) = ((1 : Fin 2) : ℕ)) = False := by simp
  simp only [pointwise, h01, if_false]
  have key : ∀ (i : Fin 1024) (l : Fin 128), i = r → X (ix2 i l) = a := by rintro _ l rfl; exact hX l
  split
  · exact hX _
  · exact key _ _ rfl

theorem p29 (X1 : FVec Ideal S1024x128 .f32) (X9 : Vec Ideal S1x1x1024x1024 .f32) (r : Fin 1024) (k : Fin 1024) (a : EReal) (hX : ∀ l, X1 (ix2 r l) = a) :
    k0_pay29 (F := Ideal) X1 X9 (ix2 r k) = FloatOps.exp2 (F := Ideal) (φ := .f32) ((X9 (ix4 0 0 r k) : EReal) - a) := by
  unfold k0_pay29
  simp only [pointwise]
  have k0 : ∀ (i : Fin 1024) (l : Fin 128), i = r → 0 + l.val = k.val → k0_pay20 (F := Ideal) X1 X9 (ix2 i l) = FloatOps.exp2 (F := Ideal) (φ := .f32) ((X9 (ix4 0 0 r k) : EReal) - a) := by
    rintro _ l rfl h
    rw [p20, hX l]
    exact congrArg (fun x : Fin 1024 => FloatOps.exp2 (F := Ideal) (φ := .f32) ((X9 (ix4 0 0 _ x) : EReal) - a)) (Fin.ext h)
  have k1 : ∀ (i : Fin 1024) (l : Fin 128), i = r → 128 + l.val = k.val → k0_pay21 (F := Ideal) X1 X9 (ix2 i l) = FloatOps.exp2 (F := Ideal) (φ := .f32) ((X9 (ix4 0 0 r k) : EReal) - a) := by
    rintro _ l rfl h
    rw [p21, hX l]
    exact congrArg (fun x : Fin 1024 => FloatOps.exp2 (F := Ideal) (φ := .f32) ((X9 (ix4 0 0 _ x) : EReal) - a)) (Fin.ext h)
  have k2 : ∀ (i : Fin 1024) (l : Fin 128), i = r → 256 + l.val = k.val → k0_pay22 (F := Ideal) X1 X9 (ix2 i l) = FloatOps.exp2 (F := Ideal) (φ := .f32) ((X9 (ix4 0 0 r k) : EReal) - a) := by
    rintro _ l rfl h
    rw [p22, hX l]
    exact congrArg (fun x : Fin 1024 => FloatOps.exp2 (F := Ideal) (φ := .f32) ((X9 (ix4 0 0 _ x) : EReal) - a)) (Fin.ext h)
  have k3 : ∀ (i : Fin 1024) (l : Fin 128), i = r → 384 + l.val = k.val → k0_pay23 (F := Ideal) X1 X9 (ix2 i l) = FloatOps.exp2 (F := Ideal) (φ := .f32) ((X9 (ix4 0 0 r k) : EReal) - a) := by
    rintro _ l rfl h
    rw [p23, hX l]
    exact congrArg (fun x : Fin 1024 => FloatOps.exp2 (F := Ideal) (φ := .f32) ((X9 (ix4 0 0 _ x) : EReal) - a)) (Fin.ext h)
  have k4 : ∀ (i : Fin 1024) (l : Fin 128), i = r → 512 + l.val = k.val → k0_pay24 (F := Ideal) X1 X9 (ix2 i l) = FloatOps.exp2 (F := Ideal) (φ := .f32) ((X9 (ix4 0 0 r k) : EReal) - a) := by
    rintro _ l rfl h
    rw [p24, hX l]
    exact congrArg (fun x : Fin 1024 => FloatOps.exp2 (F := Ideal) (φ := .f32) ((X9 (ix4 0 0 _ x) : EReal) - a)) (Fin.ext h)
  have k5 : ∀ (i : Fin 1024) (l : Fin 128), i = r → 640 + l.val = k.val → k0_pay25 (F := Ideal) X1 X9 (ix2 i l) = FloatOps.exp2 (F := Ideal) (φ := .f32) ((X9 (ix4 0 0 r k) : EReal) - a) := by
    rintro _ l rfl h
    rw [p25, hX l]
    exact congrArg (fun x : Fin 1024 => FloatOps.exp2 (F := Ideal) (φ := .f32) ((X9 (ix4 0 0 _ x) : EReal) - a)) (Fin.ext h)
  have k6 : ∀ (i : Fin 1024) (l : Fin 128), i = r → 768 + l.val = k.val → k0_pay26 (F := Ideal) X1 X9 (ix2 i l) = FloatOps.exp2 (F := Ideal) (φ := .f32) ((X9 (ix4 0 0 r k) : EReal) - a) := by
    rintro _ l rfl h
    rw [p26, hX l]
    exact congrArg (fun x : Fin 1024 => FloatOps.exp2 (F := Ideal) (φ := .f32) ((X9 (ix4 0 0 _ x) : EReal) - a)) (Fin.ext h)
  have k7 : ∀ (i : Fin 1024) (l : Fin 128), i = r → 896 + l.val = k.val → k0_pay27 (F := Ideal) X1 X9 (ix2 i l) = FloatOps.exp2 (F := Ideal) (φ := .f32) ((X9 (ix4 0 0 r k) : EReal) - a) := by
    rintro _ l rfl h
    rw [p27, hX l]
    exact congrArg (fun x : Fin 1024 => FloatOps.exp2 (F := Ideal) (φ := .f32) ((X9 (ix4 0 0 _ x) : EReal) - a)) (Fin.ext h)
  have hv : (![1024, 128] : Fin 2 → ℕ) 1 = 128 := rfl
  have hk := k.isLt
  have h01 : (((0 : Fin 2) : ℕ) = ((1 : Fin 2) : ℕ)) = False := by simp
  simp only [hv, h01, if_false, if_true]
  by_cases h0 : k.val < 128
  · rw [dif_pos h0]; exact k0 _ _ (by first | rfl | exact Fin.ext (if_neg (by decide))) (by simp only []; omega)
  rw [dif_neg h0]
  by_cases h1 : k.val - 128 < 128
  · rw [dif_pos h1]; exact k1 _ _ (by first | rfl | exact Fin.ext (if_neg (by decide))) (by simp only []; omega)
  rw [dif_neg h1]
  by_cases h2 : k.val - 128 - 128 < 128
  · rw [dif_pos h2]; exact k2 _ _ (by first | rfl | exact Fin.ext (if_neg (by decide))) (by simp only []; omega)
  rw [dif_neg h2]
  by_cases h3 : k.val - 128 - 128 - 128 < 128
  · rw [dif_pos h3]; exact k3 _ _ (by first | rfl | exact Fin.ext (if_neg (by decide))) (by simp only []; omega)
  rw [dif_neg h3]
  by_cases h4 : k.val - 128 - 128 - 128 - 128 < 128
  · rw [dif_pos h4]; exact k4 _ _ (by first | rfl | exact Fin.ext (if_neg (by decide))) (by simp only []; omega)
  rw [dif_neg h4]
  by_cases h5 : k.val - 128 - 128 - 128 - 128 - 128 < 128
  · rw [dif_pos h5]; exact k5 _ _ (by first | rfl | exact Fin.ext (if_neg (by decide))) (by simp only []; omega)
  rw [dif_neg h5]
  by_cases h6 : k.val - 128 - 128 - 128 - 128 - 128 - 128 < 128
  · rw [dif_pos h6]; exact k6 _ _ (by first | rfl | exact Fin.ext (if_neg (by decide))) (by simp only []; omega)
  rw [dif_neg h6]
  exact k7 _ _ (by first | rfl | exact Fin.ext (if_neg (by decide))) (by simp only []; omega)

theorem fold_max_lt_top {n : ℕ} (f : Fin n → EReal) (h : ∀ k, f k ≠ ⊤) : Finset.univ.fold max (⊥ : EReal) f < ⊤ :=
  Finset.fold_max_lt _ |>.mpr ⟨bot_lt_top, fun k _ => lt_top_iff_ne_top.mpr (h k)⟩

theorem lt_fold_max {n : ℕ} (f : Fin n → EReal) (k : Fin n) (h : f k ≠ ⊥) : ⊥ < Finset.univ.fold max (⊥ : EReal) f :=
  Finset.lt_fold_max _ |>.mpr (.inr ⟨k, Finset.mem_univ k, bot_lt_iff_ne_bot.mpr h⟩)

/-- The new maximum of a row is a real, the same in every lane. -/
theorem newMax {s : Fin 1024 → ℕ → ℝ} {v : ℕ → Fin 256 → ℝ} {q n : ℕ} {X9 : Vec Ideal S1x1x1024x1024 .f32} {X10 : Vec Ideal S1x1x1024x128 .f32}
    {X11 X12 : Vec Ideal S1x1024x128 .f32} {X13 : Vec Ideal S1x1024x256 .f32} (hA : Acc s v q n X11 X12 X13) (hS : Sc s q n X9 X10) (r : Fin 1024) :
    ∃ μ : ℝ, ∀ l, k0_pay16 (F := Ideal) X11 X10 (ix2 r l) = ((μ : ℝ) : EReal) := by
  obtain ⟨μ, hM, -, -⟩ := hA r
  replace hM : ∀ l : Fin 128, (X11 (ix3 0 r l) : EReal) = if n = 0 then ⊥ else ((μ : ℝ) : EReal) := hM
  have ht := fold_max_lt_top (fun k : Fin 128 => (X10 (ix4 0 0 r k) : EReal)) (hS.top r)
  have hb := lt_fold_max (fun k : Fin 128 => (X10 (ix4 0 0 r k) : EReal)) 0 (hS.bot r)
  refine ⟨(max (if n = 0 then ⊥ else ((μ : ℝ) : EReal)) (Finset.univ.fold max (⊥ : EReal) fun k : Fin 128 => X10 (ix4 0 0 r k))).toReal, fun l => ?_⟩
  rw [p16, hM l, EReal.coe_toReal]
  · refine (max_lt ?_ ht).ne
    split
    · exact bot_lt_top
    · exact EReal.coe_lt_top μ
  · exact (lt_max_of_lt_right hb).ne'

/-- One score's weight against the new maximum. -/
theorem weight {s : Fin 1024 → ℕ → ℝ} {q n : ℕ} {X9 : Vec Ideal S1x1x1024x1024 .f32} {X10 : Vec Ideal S1x1x1024x128 .f32} (hS : Sc s q n X9 X10)
    (r c : Fin 1024) (μ : ℝ) :
    (FloatOps.exp2 (F := Ideal) (φ := .f32) ((X9 (ix4 0 0 r c) : EReal) - ((μ : ℝ) : EReal)) : EReal)
      = ((w (s r) (1024 * q + r.val) μ (1024 * n + c.val) : ℝ) : EReal) := by
  rw [hS.score r c]
  unfold w
  split
  · rw [← EReal.coe_sub, exp2_coe]
  · rw [EReal.bot_sub, exp2_bot]; rfl

/-- One block consumed: the accumulators after `n` blocks and block `n`'s scores give the accumulators after `n + 1`. -/
theorem step {s : Fin 1024 → ℕ → ℝ} {v : ℕ → Fin 256 → ℝ} {q n : ℕ} {X9 : Vec Ideal S1x1x1024x1024 .f32} {X10 : Vec Ideal S1x1x1024x128 .f32}
    {X11 X12 : Vec Ideal S1x1024x128 .f32} {X13 : Vec Ideal S1x1024x256 .f32} {Vb : Vec Ideal S1024x256 .bf16} (hA : Acc s v q n X11 X12 X13) (hS : Sc s q n X9 X10)
    (hV : ∀ (k : Fin 1024) d, (Vb (ix2 k d) : EReal) = ((v (1024 * n + k.val) d : ℝ) : EReal)) :
    Acc s v q (n + 1) (newM X10 X11) (newL X9 X10 X11 X12) (newA X9 X10 X11 X13 Vb) := by
  intro r
  obtain ⟨μ', hμ'⟩ := newMax hA hS r
  obtain ⟨μ, hM, hL, hO⟩ := hA r
  have hM' : ∀ l : Fin 128, (X11 (ix3 0 r l) : EReal) = if n = 0 then ⊥ else ((μ : ℝ) : EReal) := hM
  have hL' := fun l : Fin 128 => (show (X12 (ix3 0 r l) : EReal) = _ from hL l)
  have hO' := fun l : Fin 256 => (show (X13 (ix3 0 r l) : EReal) = _ from hO l)
  obtain ⟨α, hα, hsc⟩ : ∃ α : ℝ, (∀ l, (k0_pay17 (F := Ideal) X11 X10 (ix2 r l) : EReal) = ((α : ℝ) : EReal))
      ∧ (n = 0 ∨ ∀ k, α * w (s r) (1024 * q + r.val) μ k = w (s r) (1024 * q + r.val) μ' k) := by
    by_cases hn : n = 0
    · refine ⟨0, fun l => ?_, .inl hn⟩
      rw [p17, hM', hμ', if_pos hn, EReal.bot_sub, exp2_bot]; rfl
    · refine ⟨Real.rpow 2 (μ - μ'), fun l => ?_, .inr fun k => w_scale _ _ _ _ _⟩
      rw [p17, hM', hμ', if_neg hn, ← EReal.coe_sub, exp2_coe]
  have hscale : ∀ S : ℝ → ℝ, (n = 0 → S = fun _ => 0) → ((∀ k, α * w (s r) (1024 * q + r.val) μ k = w (s r) (1024 * q + r.val) μ' k) → α * S μ = S μ') →
      α * S μ = S μ' := fun S h0 h1 => hsc.elim (fun hn => by rw [h0 hn]; exact mul_zero _) h1
  refine ⟨μ', fun l => ?_, fun l => ?_, fun d => ?_⟩
  · show newM X10 X11 (ix3 0 r l) = _
    rw [if_neg (Nat.succ_ne_zero n)]
    exact (p18 _ r l).trans (hμ' l)
  · show newL X9 X10 X11 X12 (ix3 0 r l) = _
    unfold newL
    rw [p28, p20, p21, p22, p23, p24, p25, p26, p27, hμ', hα, hL' l]
    simp only [weight hS, ← EReal.coe_add, ← EReal.coe_mul]
    refine congrArg _ ?_
    rw [sum_range_succ, hscale fun μ => ∑ j ∈ range n, ∑ c ∈ range 8, w (s r) (1024 * q + r.val) μ (1024 * j + (128 * c + l.val))]
    · simp only [sum_range_succ _ 7, sum_range_succ _ 6, sum_range_succ _ 5, sum_range_succ _ 4, sum_range_succ _ 3, sum_range_succ _ 2, sum_range_succ _ 1,
        sum_range_succ _ 0, sum_range_zero, zero_add, Nat.mul_zero, Nat.mul_one]
    · intro hn; subst hn; funext μ; exact sum_range_zero _
    · intro h; rw [mul_sum]; exact sum_congr rfl fun j _ => by rw [mul_sum]; exact sum_congr rfl fun c _ => h _
  · show newA X9 X10 X11 X13 Vb (ix3 0 r d) = _
    unfold newA
    rw [p31, p30 _ r d _ hα, hO' d]
    have : ∀ k : Fin 1024, (k0_pay29 (F := Ideal) (k0_pay16 X11 X10) X9 (ix2 r k) : EReal) * Vb (ix2 k d)
        = ((w (s r) (1024 * q + r.val) μ' (1024 * n + k.val) * v (1024 * n + k.val) d : ℝ) : EReal) := fun k => by
      rw [p29 _ _ r k _ hμ', weight hS, hV, ← EReal.coe_mul]
    rw [Finset.sum_congr rfl fun k _ => this k, zero_add, ← coe_sum, ← EReal.coe_mul, ← EReal.coe_add,
      hscale fun μ => ∑ k ∈ range (1024 * n), w (s r) (1024 * q + r.val) μ k * v k d]
    · rw [Nat.mul_succ, sum_range_add, Finset.sum_range fun k => w (s r) (1024 * q + r.val) μ' (1024 * n + k) * v (1024 * n + k) d]
    · intro hn; subst hn; funext μ; exact sum_range_zero _
    · intro h; rw [mul_sum]; exact sum_congr rfl fun k _ => by rw [← mul_assoc, h]

end Cert.Proof.DiffMath
end
-- ==== Proof.DiffPut.lean ====
module
public import proofs.«01_k».proof.Proof.DiffMath
@[expose] public section
noncomputable section
namespace Cert.Proof.DiffMath
open Cert.Kernel2Ideal Cert.Kernel2Ideal.Gen
open Idealize.ShloMosaic Idealize.ShloMosaic.TcCoe
open Finset

/-! ## Putting a block's scores -/

/-- The bias row of a block whose first key stands `wd` after the first query. -/
def biasOf (v26 : FVec Ideal S1x1 .f32) (v27 : IVec S1x1024 32) (wd : BitVec 32) : FVec Ideal S1x1024 .f32 :=
  mulf (broadcastTo S1x1024 v26 broadcasts_S1x1_S1x1024) (sitofp .f32 (addi v27 (broadcast S1x1024 wd)))

/-- An unmasked block of scores. -/
def scoreU (b : FVec Ideal S1x1024 .f32) (Qb Kb : FVec Ideal S1024x128 .bf16) : FVec Ideal S1024x1024 .f32 :=
  addf (matmul dot_S1024x128_S1024x128_S1024x1024_1_1_0_0_n_n none Qb Kb (constant S1024x1024 .f32 0x00000000#32)) (broadcastTo S1024x1024 b broadcasts_S1x1024_S1024x1024)

/-- A masked block of scores. -/
def scoreM (b : FVec Ideal S1x1024 .f32) (Qb Kb : FVec Ideal S1024x128 .bf16) : FVec Ideal S1024x1024 .f32 :=
  select (k0_pay176) (addf (concatenate S1024x1024 0
      [⟨S512x1024, concatenate S512x1024 1
          [⟨S512x512, matmul dot_S512x128_S512x128_S512x512_1_1_0_0_n_n none (extractStridedSlice S512x128 ![0, 0] Qb slices_S1024x128_o0_0_S512x128)
              (extractStridedSlice S512x128 ![0, 0] Kb slices_S1024x128_o0_0_S512x128) (constant S512x512 .f32 0x00000000#32)⟩,
           ⟨S512x512, broadcast S512x512 (Named.named (F := Ideal) κ "neg_inf" 0xF149F2CA#32)⟩] concatenates_S512x512_S512x512_S512x1024_d1⟩,
       ⟨S512x1024, matmul dot_S512x128_S1024x128_S512x1024_1_1_0_0_n_n none (extractStridedSlice S512x128 ![512, 0] Qb slices_S1024x128_o512_0_S512x128) Kb
          (constant S512x1024 .f32 0x00000000#32)⟩] concatenates_S512x1024_S512x1024_S1024x1024_d0)
      (broadcastTo S1024x1024 b broadcasts_S1x1024_S1024x1024))
    (broadcast S1024x1024 (Named.named (F := Ideal) κ "neg_inf" 0xF149F2CA#32))

theorem bmod_small (z : ℤ) (h1 : -2147483648 ≤ z) (h2 : z < 2147483648) : z.bmod (2 ^ 32) = z := by
  rw [Int.bmod_def]
  norm_num
  omega

theorem neg_inf : (Named.named (F := Ideal) (φ := .f32) κ "neg_inf" 0xF149F2CA#32 : EReal) = ⊥ :=
  IdealRules.named_const.ideal_named_scalar _ _ _ _ rfl

theorem scoreU_apply (b : FVec Ideal S1x1024 .f32) (Qb Kb : FVec Ideal S1024x128 .bf16) (r c : Fin 1024) :
    (scoreU b Qb Kb (ix2 r c) : EReal) = (0 + ∑ d : Fin 128, (Qb (ix2 r d) : EReal) * Kb (ix2 c d)) + b (ix2 0 c) := by
  unfold scoreU
  simp only [pointwise]
  rfl

theorem scoreM_apply (b : FVec Ideal S1x1024 .f32) (Qb Kb : FVec Ideal S1024x128 .bf16) (r c : Fin 1024) :
    (scoreM b Qb Kb (ix2 r c) : EReal) = if c.val ≤ r.val then (0 + ∑ d : Fin 128, (Qb (ix2 r d) : EReal) * Kb (ix2 c d)) + b (ix2 0 c) else ⊥ := by
  unfold scoreM k0_pay176
  have h01 : (((0 : Fin 2) : ℕ) = ((1 : Fin 2) : ℕ)) = False := by simp
  have h10 : (((1 : Fin 2) : ℕ) = ((0 : Fin 2) : ℕ)) = False := by simp
  simp only [pointwise, h01, h10, if_false, if_true]
  have hc := c.isLt
  have hr := r.isLt
  have hcmp : (IntOp.cmpi CmpIPredicate.sle (BitVec.ofNat 32 (List.foldl (fun n a => n * (![1024, 1024] : Fin 2 → ℕ) a + (ix2 r c a).val) 0 [1]))
      (BitVec.ofNat 32 (List.foldl (fun n a => n * (![1024, 1024] : Fin 2 → ℕ) a + (ix2 r c a).val) 0 [0]))) = if c.val ≤ r.val then 1#1 else 0#1 := by
    show IntOp.cmpi CmpIPredicate.sle (BitVec.ofNat 32 (0 * 1024 + c.val)) (BitVec.ofNat 32 (0 * 1024 + r.val)) = _
    rw [Nat.zero_mul, Nat.zero_add, Nat.zero_add]
    have e : ∀ k : ℕ, k < 1025 → (BitVec.ofNat 32 k).toInt = k := fun k hk => by
      rw [BitVec.toInt_ofNat']; exact bmod_small _ (by omega) (by omega)
    simp only [IntOp.cmpi, BitVec.sle, e c.val (by omega), e r.val (by omega), Nat.cast_le]
    split <;> simp [*]
  refine (congrArg (fun x => Scalar.select x _ _) hcmp).trans ?_
  by_cases hcr : c.val ≤ r.val
  · rw [if_pos hcr, if_pos hcr]
    refine (if_pos rfl : Scalar.select (1#1) _ _ = _).trans ?_
    have kq : ∀ (i : Fin 1024) (k : Fin 128), (⟨k.val, k.isLt⟩ : Fin 128) = k := fun _ _ => rfl
    by_cases h : r.val < 512
    · rw [dif_pos h, dif_pos (by omega)]
      refine congrArg (fun x : EReal => 0 + x + b (ix2 0 c)) (Finset.sum_congr rfl fun d _ => ?_)
      exact congrArg₂ (fun x y : EReal => x * y) (congrArg Qb (congrArg₂ ix2 (Fin.ext (Nat.zero_add _)) (Fin.ext (Nat.zero_add _))))
        (congrArg Kb (congrArg₂ ix2 (Fin.ext (Nat.zero_add _)) (Fin.ext (Nat.zero_add _))))
    · rw [dif_neg h]
      refine congrArg (fun x : EReal => 0 + x + b (ix2 0 c)) (Finset.sum_congr rfl fun d _ => ?_)
      exact congrArg₂ (fun x y : EReal => x * y) (congrArg Qb (congrArg₂ ix2 (Fin.ext (show 512 + (r.val - 512) = r.val by omega)) (Fin.ext (Nat.zero_add _)))) rfl
  · rw [if_neg hcr, if_neg hcr]
    exact (if_neg (by decide) : Scalar.select (0#1) _ _ = _).trans neg_inf

theorem word_toInt (n q c : ℕ) (hn : n < 17) (hq : q < 17) (hc : c < 1024) :
    (IntOp.addi (BitVec.ofNat 32 c) (Scalar.muli (Scalar.subi (BitVec.ofNat 32 n) (BitVec.ofNat 32 q)) 1024#32)).toInt = (1024 * n + c : ℤ) - 1024 * q := by
  have e : ∀ k : ℕ, k < 1025 → (BitVec.ofNat 32 k).toInt = k := fun k hk => by
    rw [BitVec.toInt_ofNat']; exact bmod_small _ (by omega) (by omega)
  show (BitVec.ofNat 32 c + (BitVec.ofNat 32 n - BitVec.ofNat 32 q) * BitVec.ofNat 32 1024).toInt = _
  have e1 : (BitVec.ofNat 32 n - BitVec.ofNat 32 q).toInt = (n : ℤ) - q := by
    rw [BitVec.toInt_sub, e n (by omega), e q (by omega)]; exact bmod_small _ (by omega) (by omega)
  have e2 : ((BitVec.ofNat 32 n - BitVec.ofNat 32 q) * BitVec.ofNat 32 1024).toInt = ((n : ℤ) - q) * 1024 := by
    rw [BitVec.toInt_mul, e1, e 1024 (by omega)]; exact bmod_small _ (by push_cast; omega) (by push_cast; omega)
  rw [BitVec.toInt_add, e2, e c (by omega)]
  rw [bmod_small _ (by omega) (by omega)]
  ring

theorem bias_apply (v26 : FVec Ideal S1x1 .f32) (v27 : IVec S1x1024 32) (n q : ℕ) (hn : n < 17) (hq : q < 17) (σ : ℝ) (hσ : (v26 (ix2 0 0) : EReal) = ((σ : ℝ) : EReal))
    (h27 : ∀ c : Fin 1024, v27 (ix2 0 c) = BitVec.ofNat 32 c.val) (c : Fin 1024) :
    (biasOf v26 v27 (Scalar.muli (Scalar.subi (BitVec.ofNat 32 n) (BitVec.ofNat 32 q)) 1024#32) (ix2 0 c) : EReal)
      = ((σ * (((1024 * n + c.val : ℕ) : ℝ) - ((1024 * q : ℕ) : ℝ)) : ℝ) : EReal) := by
  unfold biasOf
  simp only [pointwise]
  rw [h27 c]
  have hw := word_toInt n q c.val hn hq c.isLt
  show (v26 (ix2 0 0) : EReal) * (((IntOp.addi (BitVec.ofNat 32 c.val) (Scalar.muli (Scalar.subi (BitVec.ofNat 32 n) (BitVec.ofNat 32 q)) 1024#32)).toInt : ℝ) : EReal) = _
  rw [hw, hσ, ← EReal.coe_mul]
  push_cast
  rfl

/-- A block's scores and its slab maxima, in the buffers. -/
theorem Sc.of {s : Fin 1024 → ℕ → ℝ} {q n : ℕ} (T : FVec Ideal S1024x1024 .f32) (hn : n ≤ q)
    (hT : ∀ r c, (T (ix2 r c) : EReal) = if 1024 * n + c.val ≤ 1024 * q + r.val then ((s r (1024 * n + c.val) : ℝ) : EReal) else ⊥) :
    Sc s q n (k0_pay420 (F := Ideal) T) (k0_pay421 (F := Ideal) T) := by
  have ht : ∀ r c, (T (ix2 r c) : EReal) < ⊤ := fun r c => by
    rw [hT]; split
    · exact EReal.coe_lt_top _
    · exact bot_lt_top
  refine ⟨fun r c => ?_, fun r l => ?_, fun r => ?_⟩
  · unfold k0_pay420
    simp only [pointwise]
    exact hT r c
  · unfold k0_pay421
    simp only [pointwise]
    exact (max_lt (max_lt (max_lt (max_lt (max_lt (max_lt (max_lt (ht _ _) (ht _ _)) (ht _ _)) (ht _ _)) (ht _ _)) (ht _ _)) (ht _ _)) (ht _ _)).ne
  · unfold k0_pay421
    simp only [pointwise]
    refine ((bot_lt_iff_ne_bot.mpr ?_).trans_le (le_max_of_le_left (le_max_of_le_left (le_max_of_le_left (le_max_of_le_left (le_max_of_le_left (le_max_of_le_left
      (le_max_left _ _)))))))).ne'
    have e : ∀ i c : Fin 1024, c.val = 0 → (T (ix2 i c) : EReal) ≠ ⊥ := fun i c hc => by
      rw [hT, if_pos (by omega)]; exact EReal.coe_ne_bot _
    exact e _ _ rfl

/-- Column `d` of map `m` among a head's 256 columns. -/
def mix (m : Fin 2) (d : Fin 128) : Fin 256 := ⟨128 * m.val + d.val, by omega⟩

/-- The score of query `r` of block `q` against key `k`, in base 2, but for a term of the row. -/
def sR (qv : Fin 1024 → Fin 256 → ℝ) (kv : ℕ → Fin 256 → ℝ) (σ : ℝ) (q : ℕ) (m : Fin 2) (r : Fin 1024) (k : ℕ) : ℝ :=
  (∑ d : Fin 128, qv r (mix m d) * kv k (mix m d)) + σ * ((k : ℝ) - ((1024 * q : ℕ) : ℝ))

theorem score_real {qv : Fin 1024 → Fin 256 → ℝ} {kv : ℕ → Fin 256 → ℝ} {σ : ℝ} {q n : ℕ} {m : Fin 2} {b : FVec Ideal S1x1024 .f32} {Qb Kb : FVec Ideal S1024x128 .bf16}
    (hQ : ∀ (r : Fin 1024) d, (Qb (ix2 r d) : EReal) = ((qv r (mix m d) : ℝ) : EReal))
    (hK : ∀ (c : Fin 1024) d, (Kb (ix2 c d) : EReal) = ((kv (1024 * n + c.val) (mix m d) : ℝ) : EReal))
    (hb : ∀ c : Fin 1024, (b (ix2 0 c) : EReal) = ((σ * (((1024 * n + c.val : ℕ) : ℝ) - ((1024 * q : ℕ) : ℝ)) : ℝ) : EReal)) (r c : Fin 1024) :
    (0 + ∑ d : Fin 128, (Qb (ix2 r d) : EReal) * Kb (ix2 c d)) + b (ix2 0 c) = ((sR qv kv σ q m r (1024 * n + c.val) : ℝ) : EReal) := by
  unfold sR
  rw [hb, EReal.coe_add, coe_sum, zero_add, Finset.sum_congr rfl fun d _ => show (Qb (ix2 r d) : EReal) * Kb (ix2 c d) = _ by rw [hQ, hK, ← EReal.coe_mul]]

theorem putU {qv : Fin 1024 → Fin 256 → ℝ} {kv : ℕ → Fin 256 → ℝ} {σ : ℝ} {q n : ℕ} {m : Fin 2} {b : FVec Ideal S1x1024 .f32} {Qb Kb : FVec Ideal S1024x128 .bf16} (hn : n < q)
    (hQ : ∀ (r : Fin 1024) d, (Qb (ix2 r d) : EReal) = ((qv r (mix m d) : ℝ) : EReal))
    (hK : ∀ (c : Fin 1024) d, (Kb (ix2 c d) : EReal) = ((kv (1024 * n + c.val) (mix m d) : ℝ) : EReal))
    (hb : ∀ c : Fin 1024, (b (ix2 0 c) : EReal) = ((σ * (((1024 * n + c.val : ℕ) : ℝ) - ((1024 * q : ℕ) : ℝ)) : ℝ) : EReal)) :
    Sc (sR qv kv σ q m) q n (k0_pay420 (F := Ideal) (scoreU b Qb Kb)) (k0_pay421 (F := Ideal) (scoreU b Qb Kb)) :=
  Sc.of _ hn.le fun r c => by
    have hc := c.isLt
    rw [scoreU_apply, score_real hQ hK hb, if_pos (by omega)]

theorem putM {qv : Fin 1024 → Fin 256 → ℝ} {kv : ℕ → Fin 256 → ℝ} {σ : ℝ} {q : ℕ} {m : Fin 2} {b : FVec Ideal S1x1024 .f32} {Qb Kb : FVec Ideal S1024x128 .bf16}
    (hQ : ∀ (r : Fin 1024) d, (Qb (ix2 r d) : EReal) = ((qv r (mix m d) : ℝ) : EReal))
    (hK : ∀ (c : Fin 1024) d, (Kb (ix2 c d) : EReal) = ((kv (1024 * q + c.val) (mix m d) : ℝ) : EReal))
    (hb : ∀ c : Fin 1024, (b (ix2 0 c) : EReal) = ((σ * (((1024 * q + c.val : ℕ) : ℝ) - ((1024 * q : ℕ) : ℝ)) : ℝ) : EReal)) :
    Sc (sR qv kv σ q m) q q (k0_pay420 (F := Ideal) (scoreM b Qb Kb)) (k0_pay421 (F := Ideal) (scoreM b Qb Kb)) :=
  Sc.of _ le_rfl fun r c => by
    rw [scoreM_apply, score_real hQ hK hb]
    exact if_congr (by omega) rfl rfl

end Cert.Proof.DiffMath
end
-- ==== Proof.DiffBuf.lean ====
module
public import proofs.«01_k».proof.Proof.DiffPut
public import proofs.«01_k».proof.Proof.Gen.Kernel2Ideal.Frame
@[expose] public section
noncomputable section
namespace Cert.Proof.DiffMath
open Cert.Kernel2Ideal Cert.Kernel2Ideal.Gen
open Idealize.ShloMosaic Idealize.ShloMosaic.TcCoe
open Finset

/-! ## Reading the scratch back -/

section
variable {κ : Kind} {sp : Space} {s : Shape} {e : EltTy}

/-- A load through the last write's rectangle reads what was written. -/
theorem hit (v : View sig κ sp s e) (f : v.ty.Contents (Elt Ideal)) (r : Rect s) (w : r.shape.Idx → Elt Ideal e) (L : List (View.Piece (Elt Ideal) s e)) :
    v.readAt (Elt Ideal) r.toLoadRect (v.writes (Elt Ideal) f (⟨r, w⟩ :: L)) = w :=
  (View.readAt_writes_of_cover v f (⟨r, w⟩ :: L) r.toLoadRect fun j => ⟨⟨r, w⟩, List.mem_cons_self, r.toLoadRect.idx_mem j⟩).trans (View.readCov_cons_toLoadRect v r w L)

/-- A load off the last write's rectangle reads what was there before. -/
theorem skip (v : View sig κ sp s e) (f : v.ty.Contents (Elt Ideal)) (r : Rect s) (w : r.shape.Idx → Elt Ideal e) (L : List (View.Piece (Elt Ideal) s e)) (B : LoadRect s)
    (h : LoadRect.disj r B = true) : v.readAt (Elt Ideal) B (v.writes (Elt Ideal) f (⟨r, w⟩ :: L)) = v.readAt (Elt Ideal) B (v.writes (Elt Ideal) f L) :=
  View.readAt_writes_of_forall_not_mem v (v.writes (Elt Ideal) f L) [⟨r, w⟩] B fun j p hp => by
    rw [List.mem_singleton] at hp; subst hp; exact LoadRect.idx_not_mem_of_disj h j
end

/-- Map 0 of the maxima and of the sums. -/
abbrev m0 : Rect S2x1024x128 := Rect.unit (s := S2x1024x128) ![0, 0, 0] S1x1024x128.size inb_S2x1024x128_S1x1024x128_0_0_0
/-- Map 1 of the maxima and of the sums. -/
abbrev m1 : Rect S2x1024x128 := Rect.unit (s := S2x1024x128) ![1, 0, 0] S1x1024x128.size inb_S2x1024x128_S1x1024x128_1_0_0
theorem skip_m0_m1 {κ : Kind} {sp : Space} (v : View sig κ sp S2x1024x128 .f32) (f : v.ty.Contents (Elt Ideal)) (w : m1.shape.Idx → Elt Ideal .f32) (L : List (View.Piece (Elt Ideal) S2x1024x128 .f32)) :
    v.readAt (Elt Ideal) m0.toLoadRect (v.writes (Elt Ideal) f (⟨m1, w⟩ :: L)) = v.readAt (Elt Ideal) m0.toLoadRect (v.writes (Elt Ideal) f L) := skip v f _ w L _ (by decide)
theorem skip_m1_m0 {κ : Kind} {sp : Space} (v : View sig κ sp S2x1024x128 .f32) (f : v.ty.Contents (Elt Ideal)) (w : m0.shape.Idx → Elt Ideal .f32) (L : List (View.Piece (Elt Ideal) S2x1024x128 .f32)) :
    v.readAt (Elt Ideal) m1.toLoadRect (v.writes (Elt Ideal) f (⟨m0, w⟩ :: L)) = v.readAt (Elt Ideal) m1.toLoadRect (v.writes (Elt Ideal) f L) := skip v f _ w L _ (by decide)
/-- Map 0 of the weighted sums of the values. -/
abbrev a0 : Rect S2x1024x256 := Rect.unit (s := S2x1024x256) ![0, 0, 0] S1x1024x256.size inb_S2x1024x256_S1x1024x256_0_0_0
/-- Map 1 of the weighted sums of the values. -/
abbrev a1 : Rect S2x1024x256 := Rect.unit (s := S2x1024x256) ![1, 0, 0] S1x1024x256.size inb_S2x1024x256_S1x1024x256_1_0_0
theorem skip_a0_a1 {κ : Kind} {sp : Space} (v : View sig κ sp S2x1024x256 .f32) (f : v.ty.Contents (Elt Ideal)) (w : a1.shape.Idx → Elt Ideal .f32) (L : List (View.Piece (Elt Ideal) S2x1024x256 .f32)) :
    v.readAt (Elt Ideal) a0.toLoadRect (v.writes (Elt Ideal) f (⟨a1, w⟩ :: L)) = v.readAt (Elt Ideal) a0.toLoadRect (v.writes (Elt Ideal) f L) := skip v f _ w L _ (by decide)
theorem skip_a1_a0 {κ : Kind} {sp : Space} (v : View sig κ sp S2x1024x256 .f32) (f : v.ty.Contents (Elt Ideal)) (w : a0.shape.Idx → Elt Ideal .f32) (L : List (View.Piece (Elt Ideal) S2x1024x256 .f32)) :
    v.readAt (Elt Ideal) a1.toLoadRect (v.writes (Elt Ideal) f (⟨a0, w⟩ :: L)) = v.readAt (Elt Ideal) a1.toLoadRect (v.writes (Elt Ideal) f L) := skip v f _ w L _ (by decide)
/-- Buffer 0, map 0 of the scores. -/
abbrev s00 : Rect S2x2x1024x1024 := Rect.unit (s := S2x2x1024x1024) ![0, 0, 0, 0] S1x1x1024x1024.size inb_S2x2x1024x1024_S1x1x1024x1024_0_0_0_0
/-- Buffer 0, map 1 of the scores. -/
abbrev s01 : Rect S2x2x1024x1024 := Rect.unit (s := S2x2x1024x1024) ![0, 1, 0, 0] S1x1x1024x1024.size inb_S2x2x1024x1024_S1x1x1024x1024_0_1_0_0
/-- Buffer 1, map 0 of the scores. -/
abbrev s10 : Rect S2x2x1024x1024 := Rect.unit (s := S2x2x1024x1024) ![1, 0, 0, 0] S1x1x1024x1024.size inb_S2x2x1024x1024_S1x1x1024x1024_1_0_0_0
/-- Buffer 1, map 1 of the scores. -/
abbrev s11 : Rect S2x2x1024x1024 := Rect.unit (s := S2x2x1024x1024) ![1, 1, 0, 0] S1x1x1024x1024.size inb_S2x2x1024x1024_S1x1x1024x1024_1_1_0_0
theorem skip_s00_s01 {κ : Kind} {sp : Space} (v : View sig κ sp S2x2x1024x1024 .f32) (f : v.ty.Contents (Elt Ideal)) (w : s01.shape.Idx → Elt Ideal .f32) (L : List (View.Piece (Elt Ideal) S2x2x1024x1024 .f32)) :
    v.readAt (Elt Ideal) s00.toLoadRect (v.writes (Elt Ideal) f (⟨s01, w⟩ :: L)) = v.readAt (Elt Ideal) s00.toLoadRect (v.writes (Elt Ideal) f L) := skip v f _ w L _ (by decide)
theorem skip_s00_s10 {κ : Kind} {sp : Space} (v : View sig κ sp S2x2x1024x1024 .f32) (f : v.ty.Contents (Elt Ideal)) (w : s10.shape.Idx → Elt Ideal .f32) (L : List (View.Piece (Elt Ideal) S2x2x1024x1024 .f32)) :
    v.readAt (Elt Ideal) s00.toLoadRect (v.writes (Elt Ideal) f (⟨s10, w⟩ :: L)) = v.readAt (Elt Ideal) s00.toLoadRect (v.writes (Elt Ideal) f L) := skip v f _ w L _ (by decide)
theorem skip_s00_s11 {κ : Kind} {sp : Space} (v : View sig κ sp S2x2x1024x1024 .f32) (f : v.ty.Contents (Elt Ideal)) (w : s11.shape.Idx → Elt Ideal .f32) (L : List (View.Piece (Elt Ideal) S2x2x1024x1024 .f32)) :
    v.readAt (Elt Ideal) s00.toLoadRect (v.writes (Elt Ideal) f (⟨s11, w⟩ :: L)) = v.readAt (Elt Ideal) s00.toLoadRect (v.writes (Elt Ideal) f L) := skip v f _ w L _ (by decide)
theorem skip_s01_s00 {κ : Kind} {sp : Space} (v : View sig κ sp S2x2x1024x1024 .f32) (f : v.ty.Contents (Elt Ideal)) (w : s00.shape.Idx → Elt Ideal .f32) (L : List (View.Piece (Elt Ideal) S2x2x1024x1024 .f32)) :
    v.readAt (Elt Ideal) s01.toLoadRect (v.writes (Elt Ideal) f (⟨s00, w⟩ :: L)) = v.readAt (Elt Ideal) s01.toLoadRect (v.writes (Elt Ideal) f L) := skip v f _ w L _ (by decide)
theorem skip_s01_s10 {κ : Kind} {sp : Space} (v : View sig κ sp S2x2x1024x1024 .f32) (f : v.ty.Contents (Elt Ideal)) (w : s10.shape.Idx → Elt Ideal .f32) (L : List (View.Piece (Elt Ideal) S2x2x1024x1024 .f32)) :
    v.readAt (Elt Ideal) s01.toLoadRect (v.writes (Elt Ideal) f (⟨s10, w⟩ :: L)) = v.readAt (Elt Ideal) s01.toLoadRect (v.writes (Elt Ideal) f L) := skip v f _ w L _ (by decide)
theorem skip_s01_s11 {κ : Kind} {sp : Space} (v : View sig κ sp S2x2x1024x1024 .f32) (f : v.ty.Contents (Elt Ideal)) (w : s11.shape.Idx → Elt Ideal .f32) (L : List (View.Piece (Elt Ideal) S2x2x1024x1024 .f32)) :
    v.readAt (Elt Ideal) s01.toLoadRect (v.writes (Elt Ideal) f (⟨s11, w⟩ :: L)) = v.readAt (Elt Ideal) s01.toLoadRect (v.writes (Elt Ideal) f L) := skip v f _ w L _ (by decide)
theorem skip_s10_s00 {κ : Kind} {sp : Space} (v : View sig κ sp S2x2x1024x1024 .f32) (f : v.ty.Contents (Elt Ideal)) (w : s00.shape.Idx → Elt Ideal .f32) (L : List (View.Piece (Elt Ideal) S2x2x1024x1024 .f32)) :
    v.readAt (Elt Ideal) s10.toLoadRect (v.writes (Elt Ideal) f (⟨s00, w⟩ :: L)) = v.readAt (Elt Ideal) s10.toLoadRect (v.writes (Elt Ideal) f L) := skip v f _ w L _ (by decide)
theorem skip_s10_s01 {κ : Kind} {sp : Space} (v : View sig κ sp S2x2x1024x1024 .f32) (f : v.ty.Contents (Elt Ideal)) (w : s01.shape.Idx → Elt Ideal .f32) (L : List (View.Piece (Elt Ideal) S2x2x1024x1024 .f32)) :
    v.readAt (Elt Ideal) s10.toLoadRect (v.writes (Elt Ideal) f (⟨s01, w⟩ :: L)) = v.readAt (Elt Ideal) s10.toLoadRect (v.writes (Elt Ideal) f L) := skip v f _ w L _ (by decide)
theorem skip_s10_s11 {κ : Kind} {sp : Space} (v : View sig κ sp S2x2x1024x1024 .f32) (f : v.ty.Contents (Elt Ideal)) (w : s11.shape.Idx → Elt Ideal .f32) (L : List (View.Piece (Elt Ideal) S2x2x1024x1024 .f32)) :
    v.readAt (Elt Ideal) s10.toLoadRect (v.writes (Elt Ideal) f (⟨s11, w⟩ :: L)) = v.readAt (Elt Ideal) s10.toLoadRect (v.writes (Elt Ideal) f L) := skip v f _ w L _ (by decide)
theorem skip_s11_s00 {κ : Kind} {sp : Space} (v : View sig κ sp S2x2x1024x1024 .f32) (f : v.ty.Contents (Elt Ideal)) (w : s00.shape.Idx → Elt Ideal .f32) (L : List (View.Piece (Elt Ideal) S2x2x1024x1024 .f32)) :
    v.readAt (Elt Ideal) s11.toLoadRect (v.writes (Elt Ideal) f (⟨s00, w⟩ :: L)) = v.readAt (Elt Ideal) s11.toLoadRect (v.writes (Elt Ideal) f L) := skip v f _ w L _ (by decide)
theorem skip_s11_s01 {κ : Kind} {sp : Space} (v : View sig κ sp S2x2x1024x1024 .f32) (f : v.ty.Contents (Elt Ideal)) (w : s01.shape.Idx → Elt Ideal .f32) (L : List (View.Piece (Elt Ideal) S2x2x1024x1024 .f32)) :
    v.readAt (Elt Ideal) s11.toLoadRect (v.writes (Elt Ideal) f (⟨s01, w⟩ :: L)) = v.readAt (Elt Ideal) s11.toLoadRect (v.writes (Elt Ideal) f L) := skip v f _ w L _ (by decide)
theorem skip_s11_s10 {κ : Kind} {sp : Space} (v : View sig κ sp S2x2x1024x1024 .f32) (f : v.ty.Contents (Elt Ideal)) (w : s10.shape.Idx → Elt Ideal .f32) (L : List (View.Piece (Elt Ideal) S2x2x1024x1024 .f32)) :
    v.readAt (Elt Ideal) s11.toLoadRect (v.writes (Elt Ideal) f (⟨s10, w⟩ :: L)) = v.readAt (Elt Ideal) s11.toLoadRect (v.writes (Elt Ideal) f L) := skip v f _ w L _ (by decide)
/-- Buffer 0, map 0 of the slab maxima. -/
abbrev p00 : Rect S2x2x1024x128 := Rect.unit (s := S2x2x1024x128) ![0, 0, 0, 0] S1x1x1024x128.size inb_S2x2x1024x128_S1x1x1024x128_0_0_0_0
/-- Buffer 0, map 1 of the slab maxima. -/
abbrev p01 : Rect S2x2x1024x128 := Rect.unit (s := S2x2x1024x128) ![0, 1, 0, 0] S1x1x1024x128.size inb_S2x2x1024x128_S1x1x1024x128_0_1_0_0
/-- Buffer 1, map 0 of the slab maxima. -/
abbrev p10 : Rect S2x2x1024x128 := Rect.unit (s := S2x2x1024x128) ![1, 0, 0, 0] S1x1x1024x128.size inb_S2x2x1024x128_S1x1x1024x128_1_0_0_0
/-- Buffer 1, map 1 of the slab maxima. -/
abbrev p11 : Rect S2x2x1024x128 := Rect.unit (s := S2x2x1024x128) ![1, 1, 0, 0] S1x1x1024x128.size inb_S2x2x1024x128_S1x1x1024x128_1_1_0_0
theorem skip_p00_p01 {κ : Kind} {sp : Space} (v : View sig κ sp S2x2x1024x128 .f32) (f : v.ty.Contents (Elt Ideal)) (w : p01.shape.Idx → Elt Ideal .f32) (L : List (View.Piece (Elt Ideal) S2x2x1024x128 .f32)) :
    v.readAt (Elt Ideal) p00.toLoadRect (v.writes (Elt Ideal) f (⟨p01, w⟩ :: L)) = v.readAt (Elt Ideal) p00.toLoadRect (v.writes (Elt Ideal) f L) := skip v f _ w L _ (by decide)
theorem skip_p00_p10 {κ : Kind} {sp : Space} (v : View sig κ sp S2x2x1024x128 .f32) (f : v.ty.Contents (Elt Ideal)) (w : p10.shape.Idx → Elt Ideal .f32) (L : List (View.Piece (Elt Ideal) S2x2x1024x128 .f32)) :
    v.readAt (Elt Ideal) p00.toLoadRect (v.writes (Elt Ideal) f (⟨p10, w⟩ :: L)) = v.readAt (Elt Ideal) p00.toLoadRect (v.writes (Elt Ideal) f L) := skip v f _ w L _ (by decide)
theorem skip_p00_p11 {κ : Kind} {sp : Space} (v : View sig κ sp S2x2x1024x128 .f32) (f : v.ty.Contents (Elt Ideal)) (w : p11.shape.Idx → Elt Ideal .f32) (L : List (View.Piece (Elt Ideal) S2x2x1024x128 .f32)) :
    v.readAt (Elt Ideal) p00.toLoadRect (v.writes (Elt Ideal) f (⟨p11, w⟩ :: L)) = v.readAt (Elt Ideal) p00.toLoadRect (v.writes (Elt Ideal) f L) := skip v f _ w L _ (by decide)
theorem skip_p01_p00 {κ : Kind} {sp : Space} (v : View sig κ sp S2x2x1024x128 .f32) (f : v.ty.Contents (Elt Ideal)) (w : p00.shape.Idx → Elt Ideal .f32) (L : List (View.Piece (Elt Ideal) S2x2x1024x128 .f32)) :
    v.readAt (Elt Ideal) p01.toLoadRect (v.writes (Elt Ideal) f (⟨p00, w⟩ :: L)) = v.readAt (Elt Ideal) p01.toLoadRect (v.writes (Elt Ideal) f L) := skip v f _ w L _ (by decide)
theorem skip_p01_p10 {κ : Kind} {sp : Space} (v : View sig κ sp S2x2x1024x128 .f32) (f : v.ty.Contents (Elt Ideal)) (w : p10.shape.Idx → Elt Ideal .f32) (L : List (View.Piece (Elt Ideal) S2x2x1024x128 .f32)) :
    v.readAt (Elt Ideal) p01.toLoadRect (v.writes (Elt Ideal) f (⟨p10, w⟩ :: L)) = v.readAt (Elt Ideal) p01.toLoadRect (v.writes (Elt Ideal) f L) := skip v f _ w L _ (by decide)
theorem skip_p01_p11 {κ : Kind} {sp : Space} (v : View sig κ sp S2x2x1024x128 .f32) (f : v.ty.Contents (Elt Ideal)) (w : p11.shape.Idx → Elt Ideal .f32) (L : List (View.Piece (Elt Ideal) S2x2x1024x128 .f32)) :
    v.readAt (Elt Ideal) p01.toLoadRect (v.writes (Elt Ideal) f (⟨p11, w⟩ :: L)) = v.readAt (Elt Ideal) p01.toLoadRect (v.writes (Elt Ideal) f L) := skip v f _ w L _ (by decide)
theorem skip_p10_p00 {κ : Kind} {sp : Space} (v : View sig κ sp S2x2x1024x128 .f32) (f : v.ty.Contents (Elt Ideal)) (w : p00.shape.Idx → Elt Ideal .f32) (L : List (View.Piece (Elt Ideal) S2x2x1024x128 .f32)) :
    v.readAt (Elt Ideal) p10.toLoadRect (v.writes (Elt Ideal) f (⟨p00, w⟩ :: L)) = v.readAt (Elt Ideal) p10.toLoadRect (v.writes (Elt Ideal) f L) := skip v f _ w L _ (by decide)
theorem skip_p10_p01 {κ : Kind} {sp : Space} (v : View sig κ sp S2x2x1024x128 .f32) (f : v.ty.Contents (Elt Ideal)) (w : p01.shape.Idx → Elt Ideal .f32) (L : List (View.Piece (Elt Ideal) S2x2x1024x128 .f32)) :
    v.readAt (Elt Ideal) p10.toLoadRect (v.writes (Elt Ideal) f (⟨p01, w⟩ :: L)) = v.readAt (Elt Ideal) p10.toLoadRect (v.writes (Elt Ideal) f L) := skip v f _ w L _ (by decide)
theorem skip_p10_p11 {κ : Kind} {sp : Space} (v : View sig κ sp S2x2x1024x128 .f32) (f : v.ty.Contents (Elt Ideal)) (w : p11.shape.Idx → Elt Ideal .f32) (L : List (View.Piece (Elt Ideal) S2x2x1024x128 .f32)) :
    v.readAt (Elt Ideal) p10.toLoadRect (v.writes (Elt Ideal) f (⟨p11, w⟩ :: L)) = v.readAt (Elt Ideal) p10.toLoadRect (v.writes (Elt Ideal) f L) := skip v f _ w L _ (by decide)
theorem skip_p11_p00 {κ : Kind} {sp : Space} (v : View sig κ sp S2x2x1024x128 .f32) (f : v.ty.Contents (Elt Ideal)) (w : p00.shape.Idx → Elt Ideal .f32) (L : List (View.Piece (Elt Ideal) S2x2x1024x128 .f32)) :
    v.readAt (Elt Ideal) p11.toLoadRect (v.writes (Elt Ideal) f (⟨p00, w⟩ :: L)) = v.readAt (Elt Ideal) p11.toLoadRect (v.writes (Elt Ideal) f L) := skip v f _ w L _ (by decide)
theorem skip_p11_p01 {κ : Kind} {sp : Space} (v : View sig κ sp S2x2x1024x128 .f32) (f : v.ty.Contents (Elt Ideal)) (w : p01.shape.Idx → Elt Ideal .f32) (L : List (View.Piece (Elt Ideal) S2x2x1024x128 .f32)) :
    v.readAt (Elt Ideal) p11.toLoadRect (v.writes (Elt Ideal) f (⟨p01, w⟩ :: L)) = v.readAt (Elt Ideal) p11.toLoadRect (v.writes (Elt Ideal) f L) := skip v f _ w L _ (by decide)
theorem skip_p11_p10 {κ : Kind} {sp : Space} (v : View sig κ sp S2x2x1024x128 .f32) (f : v.ty.Contents (Elt Ideal)) (w : p10.shape.Idx → Elt Ideal .f32) (L : List (View.Piece (Elt Ideal) S2x2x1024x128 .f32)) :
    v.readAt (Elt Ideal) p11.toLoadRect (v.writes (Elt Ideal) f (⟨p10, w⟩ :: L)) = v.readAt (Elt Ideal) p11.toLoadRect (v.writes (Elt Ideal) f L) := skip v f _ w L _ (by decide)

/-! ## The operands over the reals -/

/-- The query block over the reals. -/
def qvOf (x : Vec Ideal S1024x256 .bf16) (r : Fin 1024) (c : Fin 256) : ℝ := (x (ix2 r c) : EReal).toReal
/-- The keys, or the values, over the reals. -/
def kvOf (x : Vec Ideal S16384x256 .bf16) (k : ℕ) (c : Fin 256) : ℝ := if h : k < 16384 then (x (ix2 ⟨k, h⟩ c) : EReal).toReal else 0

/-- Every entry is a real number. -/
def Real2 {n m : ℕ} (x : Vec Ideal ⟨2, ![n, m]⟩ .bf16) : Prop := ∀ r c, ∃ y : ℝ, (x (ix2 r c) : EReal) = ((y : ℝ) : EReal)

theorem qvOf_eq {x : Vec Ideal S1024x256 .bf16} (h : Real2 (n := 1024) (m := 256) x) (r : Fin 1024) (c : Fin 256) : (x (ix2 r c) : EReal) = ((qvOf x r c : ℝ) : EReal) := by
  obtain ⟨y, hy⟩ := h r c
  unfold qvOf; rw [hy, EReal.toReal_coe]

theorem kvOf_eq {x : Vec Ideal S16384x256 .bf16} (h : Real2 (n := 16384) (m := 256) x) (k : Fin 16384) (c : Fin 256) : (x (ix2 k c) : EReal) = ((kvOf x k.val c : ℝ) : EReal) := by
  obtain ⟨y, hy⟩ := h k c
  unfold kvOf; rw [dif_pos k.isLt]; show _ = (((x (ix2 k c) : EReal).toReal : ℝ) : EReal); rw [hy, EReal.toReal_coe]

theorem qslice0 {x : Vec Ideal S1024x256 .bf16} (h : Real2 (n := 1024) (m := 256) x) (r : Fin 1024) (d : Fin 128) :
    (extractStridedSlice S1024x128 ![0, 0] x slices_S1024x256_o0_0_S1024x128 (ix2 r d) : EReal) = ((qvOf x r (mix 0 d) : ℝ) : EReal) := by
  rw [← qvOf_eq h]
  simp only [pointwise]
  exact congrArg x (congrArg₂ ix2 (Fin.ext (Nat.zero_add _)) (Fin.ext rfl))

theorem qslice1 {x : Vec Ideal S1024x256 .bf16} (h : Real2 (n := 1024) (m := 256) x) (r : Fin 1024) (d : Fin 128) :
    (extractStridedSlice S1024x128 ![0, 128] x slices_S1024x256_o0_128_S1024x128 (ix2 r d) : EReal) = ((qvOf x r (mix 1 d) : ℝ) : EReal) := by
  rw [← qvOf_eq h]
  simp only [pointwise]
  exact congrArg x (congrArg₂ ix2 (Fin.ext (Nat.zero_add _)) (Fin.ext rfl))

/-- A load of 1024 keys' columns of one map. -/
theorem kload {κ : Kind} {sp : Space} (v : View sig κ sp S16384x256 .bf16) (f : v.ty.Contents (Elt Ideal)) (h : Real2 (n := 16384) (m := 256) (v.read (Elt Ideal) f))
    (off : Fin 2 → ℕ) (inb : ∀ a, off a + S1024x128.size a ≤ S16384x256.size a) (n : ℕ) (m : Fin 2) (ho : off = ![1024 * n, 128 * m.val]) (c : Fin 1024) (d : Fin 128) :
    (v.readAt (Elt Ideal) (Rect.unit (s := S16384x256) off S1024x128.size inb).toLoadRect f (ix2 c d) : EReal)
      = ((kvOf (v.read (Elt Ideal) f) (1024 * n + c.val) (mix m d) : ℝ) : EReal) := by
  subst ho
  have hn : 1024 * n + 1024 ≤ 16384 := inb 0
  have hc := c.isLt
  rw [← kvOf_eq h ⟨1024 * n + c.val, by omega⟩]
  refine congrArg (v.read (Elt Ideal) f) (funext fun a => Fin.ext ?_)
  match a with
  | ⟨0, _⟩ => show 1024 * n + 1 * c.val = 1024 * n + c.val; omega
  | ⟨1, _⟩ => show 128 * m.val + 1 * d.val = 128 * m.val + d.val; omega

/-- A load of 1024 values. -/
theorem vload {κ : Kind} {sp : Space} (v : View sig κ sp S16384x256 .bf16) (f : v.ty.Contents (Elt Ideal)) (h : Real2 (n := 16384) (m := 256) (v.read (Elt Ideal) f))
    (off : Fin 2 → ℕ) (inb : ∀ a, off a + S1024x256.size a ≤ S16384x256.size a) (n : ℕ) (ho : off = ![1024 * n, 0]) (c : Fin 1024) (d : Fin 256) :
    (v.readAt (Elt Ideal) (Rect.unit (s := S16384x256) off S1024x256.size inb).toLoadRect f (ix2 c d) : EReal)
      = ((kvOf (v.read (Elt Ideal) f) (1024 * n + c.val) d : ℝ) : EReal) := by
  subst ho
  have hn : 1024 * n + 1024 ≤ 16384 := inb 0
  have hc := c.isLt
  rw [← kvOf_eq h ⟨1024 * n + c.val, by omega⟩]
  refine congrArg (v.read (Elt Ideal) f) (funext fun a => Fin.ext ?_)
  match a with
  | ⟨0, _⟩ => show 1024 * n + 1 * c.val = 1024 * n + c.val; omega
  | ⟨1, _⟩ => show 0 + 1 * d.val = d.val; omega

/-! ## The grid's words -/

theorem trips1 : ∀ i : grid0.Coords, (k0_t1_loop i).trips = ((i 2).val - 1) / 2 := by decide +kernel
theorem trips2 : ∀ i : grid0.Coords, (k0_t2_loop i).trips = 0 := by decide +kernel
theorem cond1 : ∀ i : grid0.Coords, k0_cond1 i = 1#1 ↔ 0 < (i 2).val := by decide +kernel
theorem cond2 : ∀ i : grid0.Coords, k0_cond2 i = 1#1 ↔ (i 2).val = 0 := by decide +kernel
theorem cond3 : ∀ i : grid0.Coords, k0_cond3 i = 1#1 ↔ (i 2).val % 2 = 1 := by decide +kernel
theorem cond4 : ∀ i : grid0.Coords, k0_cond4 i = 1#1 ↔ 0 < (i 2).val ∧ (i 2).val % 2 = 0 := by decide +kernel
theorem off1_1 : ∀ (i : grid0.Coords) (k : Fin (k0_t1_loop i).trips), k0_off1 i k 1#32 = ![1024 * (2 * k.val + 1), 128 * ((0 : Fin 2).val)] := by decide +kernel
theorem off1_2 : ∀ (i : grid0.Coords) (k : Fin (k0_t1_loop i).trips), k0_off1 i k 2#32 = ![1024 * (2 * k.val + 2), 128 * ((0 : Fin 2).val)] := by decide +kernel
theorem off2_1 : ∀ (i : grid0.Coords) (k : Fin (k0_t1_loop i).trips), k0_off2 i k 1#32 = ![1024 * (2 * k.val + 1), 128 * ((1 : Fin 2).val)] := by decide +kernel
theorem off2_2 : ∀ (i : grid0.Coords) (k : Fin (k0_t1_loop i).trips), k0_off2 i k 2#32 = ![1024 * (2 * k.val + 2), 128 * ((1 : Fin 2).val)] := by decide +kernel
theorem off3 : ∀ (i : grid0.Coords) (k : Fin (k0_t1_loop i).trips), k0_off3 i k = ![1024 * (2 * k.val), 0] := by decide +kernel
theorem off4 : ∀ (i : grid0.Coords) (k : Fin (k0_t1_loop i).trips), k0_off4 i k = ![1024 * (2 * k.val + 1), 0] := by decide +kernel
theorem off14 : ∀ i : grid0.Coords, k0_cond3 i = 1#1 → k0_off14 i = ![1024 * ((i 2).val - 1), 0] := by decide +kernel
theorem off16 : ∀ i : grid0.Coords, k0_cond4 i = 1#1 → k0_off16 i = ![1024 * ((i 2).val - 1), 128 * ((0 : Fin 2).val)] := by decide +kernel
theorem off17 : ∀ i : grid0.Coords, k0_cond4 i = 1#1 → k0_off17 i = ![1024 * ((i 2).val - 1), 128 * ((1 : Fin 2).val)] := by decide +kernel
theorem off18_2 : ∀ i : grid0.Coords, k0_cond4 i = 1#1 → k0_off18 i 2#32 = ![1024 * ((i 2).val - 2), 0] := by decide +kernel
theorem off18_1 : ∀ i : grid0.Coords, k0_cond4 i = 1#1 → k0_off18 i 1#32 = ![1024 * ((i 2).val - 1), 0] := by decide +kernel

theorem word_next (k j : ℕ) : Scalar.addi (Scalar.muli 2#32 (Scf.iv 0#32 1#32 k)) (BitVec.ofNat 32 j) = BitVec.ofNat 32 (2 * k + j) := by
  show 2#32 * (0#32 + BitVec.ofNat 32 k * 1#32) + BitVec.ofNat 32 j = _
  apply BitVec.eq_of_toNat_eq
  simp [BitVec.toNat_add, BitVec.toNat_mul]

end Cert.Proof.DiffMath
end
-- ==== Proof.DiffInv.lean ====
module
public import proofs.«01_k».proof.Proof.DiffBuf
public import Idealize.ShloMosaic.Lib.Pointwise
@[expose] public section
noncomputable section
namespace Cert.Proof.DiffMath
open Cert.Kernel2Ideal Cert.Kernel2Ideal.Gen
open Idealize.ShloMosaic Idealize.ShloMosaic.TcCoe
open Finset

theorem Acc.congr {s : Fin 1024 → ℕ → ℝ} {v : ℕ → Fin 256 → ℝ} {q n : ℕ} {X11 Y11 X12 Y12 : Vec Ideal S1x1024x128 .f32} {X13 Y13 : Vec Ideal S1x1024x256 .f32}
    (h11 : X11 = Y11) (h12 : X12 = Y12) (h13 : X13 = Y13) (h : Acc s v q n Y11 Y12 Y13) : Acc s v q n X11 X12 X13 := by
  rw [h11, h12, h13]; exact h

theorem Sc.congr {s : Fin 1024 → ℕ → ℝ} {q n : ℕ} {X9 Y9 : Vec Ideal S1x1x1024x1024 .f32} {X10 Y10 : Vec Ideal S1x1x1024x128 .f32}
    (h9 : X9 = Y9) (h10 : X10 = Y10) (h : Sc s q n Y9 Y10) : Sc s q n X9 X10 := by
  rw [h9, h10]; exact h

/-- The scores' slope over the reals. -/
def σOf (x : FVec Ideal S1x1 .f32) : ℝ := (x (ix2 0 0) : EReal).toReal

/-- The scores of query block `q` over the reals, in powers of two. -/
def sOf (v26 : FVec Ideal S1x1 .f32) (v28 : Vec Ideal S1024x256 .bf16) (x5 : Vec Ideal S16384x256 .bf16) (q : ℕ) (m : Fin 2) : Fin 1024 → ℕ → ℝ :=
  sR (qvOf v28) (kvOf x5) (σOf v26) q m

/-- What the body's operands are. -/
structure Hyp (q : ℕ) (arg2 : BitVec 32) (v26 : FVec Ideal S1x1 .f32) (v27 : IVec S1x1024 32) (v28 : Vec Ideal S1024x256 .bf16) (x5 x6 : Vec Ideal S16384x256 .bf16) : Prop where
  lt : q < 16
  h2 : arg2 = BitVec.ofNat 32 q
  h26 : (v26 (ix2 0 0) : EReal) = ((σOf v26 : ℝ) : EReal)
  h27 : ∀ c : Fin 1024, v27 (ix2 0 c) = BitVec.ofNat 32 c.val
  h28 : Real2 (n := 1024) (m := 256) v28
  h5 : Real2 (n := 16384) (m := 256) x5
  h6 : Real2 (n := 16384) (m := 256) x6

theorem Hyp.bias {q : ℕ} {arg2 : BitVec 32} {v26 : FVec Ideal S1x1 .f32} {v27 : IVec S1x1024 32} {v28 : Vec Ideal S1024x256 .bf16} {x5 x6 : Vec Ideal S16384x256 .bf16} (H : Hyp q arg2 v26 v27 v28 x5 x6)
    {n : ℕ} {w : BitVec 32} (hn : n < 17) (hw : w = BitVec.ofNat 32 n) (c : Fin 1024) :
    (biasOf v26 v27 (Scalar.muli (Scalar.subi w arg2) 1024#32) (ix2 0 c) : EReal) = ((σOf v26 * (((1024 * n + c.val : ℕ) : ℝ) - ((1024 * q : ℕ) : ℝ)) : ℝ) : EReal) := by
  rw [hw, H.h2]; exact bias_apply _ _ _ _ hn (by have := H.lt; omega) _ H.h26 H.h27 c

/-- What the loop keeps: blocks below `n` consumed into both maps' state, block `n`'s scores in the first buffer. -/
structure LInv (q n : ℕ) (v26 : FVec Ideal S1x1 .f32) (v28 : Vec Ideal S1024x256 .bf16) (x5 x6 : Vec Ideal S16384x256 .bf16)
    (arg9 : Memref sig .tc .vmem S2x2x1024x1024 .f32) (arg10 : Memref sig .tc .vmem S2x2x1024x128 .f32) (arg11 arg12 : Memref sig .tc .vmem S2x1024x128 .f32) (arg13 : Memref sig .tc .vmem S2x1024x256 .f32)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) : Prop where
  acc0 : Acc (sOf v26 v28 x5 q 0) (kvOf x6) q n (arg11.view.readAt (Elt Ideal) m0.toLoadRect f11) (arg12.view.readAt (Elt Ideal) m0.toLoadRect f12) (arg13.view.readAt (Elt Ideal) a0.toLoadRect f13)
  acc1 : Acc (sOf v26 v28 x5 q 1) (kvOf x6) q n (arg11.view.readAt (Elt Ideal) m1.toLoadRect f11) (arg12.view.readAt (Elt Ideal) m1.toLoadRect f12) (arg13.view.readAt (Elt Ideal) a1.toLoadRect f13)
  sc0 : n < q → Sc (sOf v26 v28 x5 q 0) q n (arg9.view.readAt (Elt Ideal) s00.toLoadRect f9) (arg10.view.readAt (Elt Ideal) p00.toLoadRect f10)
  sc1 : n < q → Sc (sOf v26 v28 x5 q 1) q n (arg9.view.readAt (Elt Ideal) s01.toLoadRect f9) (arg10.view.readAt (Elt Ideal) p01.toLoadRect f10)

/-- A store of the whole buffer, read back. -/
theorem read_whole {κ : Kind} {sp : Space} {s : Shape} {e : EltTy} (v : View sig κ sp s e) (f : v.ty.Contents (Elt Ideal)) {off : Fin s.rank → ℕ} (h : ∀ a, off a = 0)
    (inb : ∀ a, off a + s.size a ≤ s.size a) (w : s.Idx → Elt Ideal e) (L : List (View.Piece (Elt Ideal) s e)) :
    v.read (Elt Ideal) (v.writes (Elt Ideal) f (⟨Rect.unit off s.size inb, w⟩ :: L)) = w := by
  funext y
  have hr := View.read_writes_cons_emb (v := v) (f := f) (Rect.unit off s.size inb) w L y
  have hy : (Rect.unit off s.size inb).emb y = y := by
    funext a
    refine Fin.ext ?_
    show off a + 1 * (y a).val = _
    rw [h a]; omega
  rwa [hy] at hr

theorem zero_off3 : ∀ a : Fin 3, (![0, 0, 0] : Fin 3 → ℕ) a = 0 := by decide

theorem Acc.init {s : Fin 1024 → ℕ → ℝ} {v : ℕ → Fin 256 → ℝ} {q : ℕ} {X11 X12 : Vec Ideal S1x1024x128 .f32} {X13 : Vec Ideal S1x1024x256 .f32}
    (h11 : ∀ j, (X11 j : EReal) = ⊥) (h12 : ∀ j, (X12 j : EReal) = 0) (h13 : ∀ j, (X13 j : EReal) = 0) : Acc s v q 0 X11 X12 X13 := by
  intro r
  refine ⟨0, ?_, ?_, ?_⟩
  · intro l; simp only [h11, if_pos]
  · intro l; simp only [h12]; simp
  · intro d; simp only [h13]; simp

theorem Acc.cast {s : Fin 1024 → ℕ → ℝ} {v : ℕ → Fin 256 → ℝ} {q n n' : ℕ} {X11 X12 : Vec Ideal S1x1024x128 .f32} {X13 : Vec Ideal S1x1024x256 .f32} (hn : n = n')
    (h : Acc s v q n X11 X12 X13) : Acc s v q n' X11 X12 X13 := by
  subst hn; exact h

theorem word_pred (q : ℕ) (h0 : 0 < q) (h : q < 16) : Scalar.subi (BitVec.ofNat 32 q) 1#32 = BitVec.ofNat 32 (q - 1) := by
  show BitVec.ofNat 32 q - 1#32 = _
  interval_cases q <;> rfl

theorem Acc.init' {s : Fin 1024 → ℕ → ℝ} {v : ℕ → Fin 256 → ℝ} {q n : ℕ} {X11 X12 : Vec Ideal S1x1024x128 .f32} {X13 : Vec Ideal S1x1024x256 .f32} (hn : n = 0)
    (h11 : ∀ j, (X11 j : EReal) = ⊥) (h12 : ∀ j, (X12 j : EReal) = 0) (h13 : ∀ j, (X13 j : EReal) = 0) : Acc s v q n X11 X12 X13 := by
  subst hn; exact Acc.init h11 h12 h13

theorem pay417_eq : (k0_pay417 (F := Ideal)) = fun _ => (⊥ : EReal) := by
  funext j
  show Ideal.ofBits FTy.f32 0xFF800000#32 = ⊥
  simp [Ideal.ofBits, Ideal.ieee]

theorem pay418_eq : (k0_pay418 (F := Ideal)) = fun _ => (0 : EReal) := by
  funext j
  unfold k0_pay418
  simp only [pointwise]

theorem pay419_eq : (k0_pay419 (F := Ideal)) = fun _ => (0 : EReal) := by
  funext j
  unfold k0_pay419
  simp only [pointwise]

/-- A load after the weighted sums were cleared. -/
theorem cleared {κ : Kind} {sp : Space} (v : View sig κ sp S2x1024x256 .f32) (f : v.ty.Contents (Elt Ideal)) (L : List (View.Piece (Elt Ideal) S2x1024x256 .f32)) (B : LoadRect S2x1024x256) (j : B.shape.Idx) :
    (v.readAt (Elt Ideal) B (v.writes (Elt Ideal) f (⟨Rect.unit (s := S2x1024x256) ![0, 0, 0] S2x1024x256.size inb_S2x1024x256_S2x1024x256_0_0_0, k0_pay419 (F := Ideal)⟩ :: L)) j : EReal) = 0 :=
  congrFun ((read_whole v f zero_off3 _ _ L).trans pay419_eq) (B.idx j)

theorem word_zero : (0#32 : BitVec 32) = BitVec.ofNat 32 0 := rfl

end Cert.Proof.DiffMath
end
-- ==== Proof.DiffTrip.lean ====
module
public import proofs.«01_k».proof.Proof.DiffInv
public import Idealize.ShloMosaic.Lib.Tactic
@[expose] public section
noncomputable section
namespace Cert.Proof.DiffRun
open Cert.Kernel2Ideal Cert.Kernel2Ideal.Gen Cert.Proof.DiffMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What one more trip needs and leaves: the two operands, and the state with `n` blocks consumed. -/
def Res (c : Dev nD) (i : grid0.Coords) (arg5 arg6 : Memref sig .tc .vmem S16384x256 .bf16) (arg9 : Memref sig .tc .vmem S2x2x1024x1024 .f32) (arg10 : Memref sig .tc .vmem S2x2x1024x128 .f32) (arg11 arg12 : Memref sig .tc .vmem S2x1024x128 .f32) (arg13 : Memref sig .tc .vmem S2x1024x256 .f32)
    (v26 : FVec Ideal S1x1 .f32) (v28 : Vec Ideal S1024x256 .bf16) (f5 : BufTy.Contents (Elt Ideal) arg5.view.ty) (f6 : BufTy.Contents (Elt Ideal) arg6.view.ty) (n : ℕ) : sProp 𝕄 :=
  iprop(∃ (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty), (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜LInv (i 2).val (n) v26 v28 (arg5.view.read (Elt Ideal) f5) (arg6.view.read (Elt Ideal) f6) arg9 arg10 arg11 arg12 arg13 f9 f10 f11 f12 f13⌝)

set_option maxHeartbeats 1000000 in
/-- One trip: two blocks consumed, the next block's scores formed. -/
theorem trip_run (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16) (k : Fin (k0_t1_loop i).trips)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) :
    Res c i arg5 arg6 arg9 arg10 arg11 arg12 arg13 v26 v28 f5 f6 (2 * k.val)
      ⊢ wp frame (wpE (defs₀ (F := Ideal)) Variants.none (c : Thread nD τ) none) E (k0_t1_body (F := Ideal) i arg3 harg3 arg4 harg4 arg5 harg5 arg6 harg6 arg7 harg7 arg8 harg8 arg9 harg9 arg10 harg10 arg11 harg11 arg12 harg12 arg13 harg13 arg2 v26 v27 v28 k PUnit.unit)
          (fun _ => Res c i arg5 arg6 arg9 arg10 arg11 arg12 arg13 v26 v28 f5 f6 (2 * (k.val + 1))) := by
    have hk : 2 * k.val + 2 < (i 2).val := by have := k.isLt; have := trips1 i; omega
    have hq := H.lt
    unfold Res k0_t1_body
    iintro ⟨%f9, %f10, %f11, %f12, %f13, HR_arg5, HR_arg6, HW_arg9, HW_arg10, HW_arg11, HW_arg12, HW_arg13, %I⟩
    sl_exec
    sl_step
    iexists _; iexists _; iexists _; iexists _; iexists _
    isplitl [HR_arg5]; · iexact HR_arg5
    isplitl [HR_arg6]; · iexact HR_arg6
    isplitl [HW_arg9]; · iexact HW_arg9
    isplitl [HW_arg10]; · iexact HW_arg10
    isplitl [HW_arg11]; · iexact HW_arg11
    isplitl [HW_arg12]; · iexact HW_arg12
    isplitl [HW_arg13]; · iexact HW_arg13
    ipureintro
    have V0 : ∀ (x : Fin 1024) (d : Fin 256), ((trip_run.sl.r_1 i arg6 k f6) (ix2 x d) : EReal) = ((kvOf (arg6.view.read (Elt Ideal) f6) (1024 * (2 * k.val) + x.val) d : ℝ) : EReal) := vload _ _ H.h6 _ _ _ (off3 i k)
    have V1 : ∀ (x : Fin 1024) (d : Fin 256), ((trip_run.sl.r_2 i arg6 k f6) (ix2 x d) : EReal) = ((kvOf (arg6.view.read (Elt Ideal) f6) (1024 * (2 * k.val + 1) + x.val) d : ℝ) : EReal) := vload _ _ H.h6 _ _ _ (off4 i k)
    have A0 := step (n := 2 * k.val) I.acc0 (I.sc0 (by omega)) V0
    have A1 := step (n := 2 * k.val) I.acc1 (I.sc1 (by omega)) V0
    have B11_0 : (trip_run.sl.v401 arg10 arg11 f10 f11) = (newM (arg10.view.readAt (Elt Ideal) p00.toLoadRect f10) (arg11.view.readAt (Elt Ideal) m0.toLoadRect f11)) := (skip_m0_m1 _ _ _ _).trans (hit _ _ _ _ _)
    have B12_0 : (trip_run.sl.v440 arg9 arg10 arg11 arg12 f9 f10 f11 f12) = (newL (arg9.view.readAt (Elt Ideal) s00.toLoadRect f9) (arg10.view.readAt (Elt Ideal) p00.toLoadRect f10) (arg11.view.readAt (Elt Ideal) m0.toLoadRect f11) (arg12.view.readAt (Elt Ideal) m0.toLoadRect f12)) := (skip_m0_m1 _ _ _ _).trans (hit _ _ _ _ _)
    have B13_0 : (trip_run.sl.v457 i arg6 arg9 arg10 arg11 arg13 k f6 f9 f10 f11 f13) = (newA (arg9.view.readAt (Elt Ideal) s00.toLoadRect f9) (arg10.view.readAt (Elt Ideal) p00.toLoadRect f10) (arg11.view.readAt (Elt Ideal) m0.toLoadRect f11) (arg13.view.readAt (Elt Ideal) a0.toLoadRect f13) (trip_run.sl.r_1 i arg6 k f6)) := (skip_a0_a1 _ _ _ _).trans (hit _ _ _ _ _)
    have U_0 : Sc (sOf v26 v28 (arg5.view.read (Elt Ideal) f5) (i 2).val 0) (i 2).val (2 * k.val + 1) (trip_run.sl.v414 i arg5 arg9 arg2 v26 v27 v28 k f5) (trip_run.sl.v403 i arg5 arg10 arg2 v26 v27 v28 k f5) := by
      refine Sc.congr ((skip_s10_s01 _ _ _ _).trans ((skip_s10_s00 _ _ _ _).trans ((skip_s10_s11 _ _ _ _).trans (hit _ _ _ _ _)))) ((skip_p10_p01 _ _ _ _).trans ((skip_p10_p00 _ _ _ _).trans ((skip_p10_p11 _ _ _ _).trans (hit _ _ _ _ _)))) ?_
      exact putU (n := 2 * k.val + 1) (by omega) (qslice0 H.h28) (kload _ _ H.h5 _ _ _ 0 (off1_1 i k)) (H.bias (by omega) (word_next k.val 1))
    have C_0 := step (n := 2 * k.val + 1) (Acc.congr B11_0 B12_0 B13_0 A0) U_0 V1
    have B11_1 : (trip_run.sl.v465 i arg5 arg10 arg11 arg2 v26 v27 v28 k f5 f10 f11) = (newM (arg10.view.readAt (Elt Ideal) p01.toLoadRect f10) (arg11.view.readAt (Elt Ideal) m1.toLoadRect f11)) := (skip_m1_m0 _ _ _ _).trans (hit _ _ _ _ _)
    have B12_1 : (trip_run.sl.v504 i arg5 arg9 arg10 arg11 arg12 arg2 v26 v27 v28 k f5 f9 f10 f11 f12) = (newL (arg9.view.readAt (Elt Ideal) s01.toLoadRect f9) (arg10.view.readAt (Elt Ideal) p01.toLoadRect f10) (arg11.view.readAt (Elt Ideal) m1.toLoadRect f11) (arg12.view.readAt (Elt Ideal) m1.toLoadRect f12)) := (skip_m1_m0 _ _ _ _).trans (hit _ _ _ _ _)
    have B13_1 : (trip_run.sl.v521 i arg5 arg6 arg9 arg10 arg11 arg13 arg2 v26 v27 v28 k f5 f6 f9 f10 f11 f13) = (newA (arg9.view.readAt (Elt Ideal) s01.toLoadRect f9) (arg10.view.readAt (Elt Ideal) p01.toLoadRect f10) (arg11.view.readAt (Elt Ideal) m1.toLoadRect f11) (arg13.view.readAt (Elt Ideal) a1.toLoadRect f13) (trip_run.sl.r_1 i arg6 k f6)) := (skip_a1_a0 _ _ _ _).trans (hit _ _ _ _ _)
    have U_1 : Sc (sOf v26 v28 (arg5.view.read (Elt Ideal) f5) (i 2).val 1) (i 2).val (2 * k.val + 1) (trip_run.sl.v478 i arg5 arg9 arg2 v26 v27 v28 k f5) (trip_run.sl.v467 i arg5 arg10 arg2 v26 v27 v28 k f5) := by
      refine Sc.congr ((skip_s11_s01 _ _ _ _).trans ((skip_s11_s00 _ _ _ _).trans (hit _ _ _ _ _))) ((skip_p11_p01 _ _ _ _).trans ((skip_p11_p00 _ _ _ _).trans (hit _ _ _ _ _))) ?_
      exact putU (n := 2 * k.val + 1) (by omega) (qslice1 H.h28) (kload _ _ H.h5 _ _ _ 1 (off2_1 i k)) (H.bias (by omega) (word_next k.val 1))
    have C_1 := step (n := 2 * k.val + 1) (Acc.congr B11_1 B12_1 B13_1 A1) U_1 V1
    refine ⟨?a0, ?a1, fun _ => ?s0, fun _ => ?s1⟩
    case s0 =>
      refine Sc.congr ((skip_s00_s01 _ _ _ _).trans (hit _ _ _ _ _)) ((skip_p00_p01 _ _ _ _).trans (hit _ _ _ _ _)) ?_
      exact putU (n := 2 * k.val + 2) hk (qslice0 H.h28) (kload _ _ H.h5 _ _ _ 0 (off1_2 i k)) (H.bias (by omega) (word_next k.val 2))
    case s1 =>
      refine Sc.congr (hit _ _ _ _ _) (hit _ _ _ _ _) ?_
      exact putU (n := 2 * k.val + 2) hk (qslice1 H.h28) (kload _ _ H.h5 _ _ _ 1 (off2_2 i k)) (H.bias (by omega) (word_next k.val 2))
    case a0 =>
      refine Acc.congr ((skip_m0_m1 _ _ _ _).trans (hit _ _ _ _ _)) ((skip_m0_m1 _ _ _ _).trans (hit _ _ _ _ _)) ((skip_a0_a1 _ _ _ _).trans (hit _ _ _ _ _)) ?_
      exact C_0
    case a1 =>
      refine Acc.congr (hit _ _ _ _ _) (hit _ _ _ _ _) (hit _ _ _ _ _) ?_
      exact C_1
end Cert.Proof.DiffRun
end
-- ==== Proof.DiffRun.lean ====
module
public import proofs.«01_k».proof.Proof.DiffTrip
public import Idealize.ShloMosaic.Lib.Tactic
@[expose] public section
noncomputable section
namespace Cert.Proof.DiffRun
open Cert.Kernel2Ideal Cert.Kernel2Ideal.Gen Cert.Proof.DiffMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The loop, to the blocks before the last one or two. -/
theorem loop_run (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) {β : Type} {kk : Unit → Prog (TpuEff nD τ sig (Elt Ideal) Λ₀ .tc) β} {Q : β → sProp 𝕄} :
    Res c i arg5 arg6 arg9 arg10 arg11 arg12 arg13 v26 v28 f5 f6 (2 * 0) ⊢ iprop((∀ _a : Unit, Res c i arg5 arg6 arg9 arg10 arg11 arg12 arg13 v26 v28 f5 f6 (2 * (k0_t1_loop i).trips) -∗ wp frame (wpE (defs₀ (F := Ideal)) Variants.none (c : Thread nD τ) none) E (kk _a) Q)
      -∗ wp frame (wpE (defs₀ (F := Ideal)) Variants.none (c : Thread nD τ) none) E (Scf.Loop.for (k0_t1_loop i) (k0_t1_ok i) ⟨⟩ (k0_t1_body (F := Ideal) i arg3 harg3 arg4 harg4 arg5 harg5 arg6 harg6 arg7 harg7 arg8 harg8 arg9 harg9 arg10 harg10 arg11 harg11 arg12 harg12 arg13 harg13 arg2 v26 v27 v28) >>= kk) Q) :=
  exec_loop _ _ _ _ _ _ _ _ _ ⟨fun k _ => Res c i arg5 arg6 arg9 arg10 arg11 arg12 arg13 v26 v28 f5 f6 (2 * k), fun k _ => trip_run c E i arg3 harg3 arg4 harg4 arg5 harg5 arg6 harg6 arg7 harg7 arg8 harg8 arg9 harg9 arg10 harg10 arg11 harg11 arg12 harg12 arg13 harg13 arg2 v26 v27 v28 k f5 f6 H⟩

set_option maxHeartbeats 1000000 in
/-- The middle of the body past the first query block: the first block's scores, then the loop. -/
theorem part47_pos (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (hpos : 0 < (i 2).val) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (h11 : arg11.view.read (Elt Ideal) f11 = fun _ => (⊥ : EReal)) (h12 : arg12.view.read (Elt Ideal) f12 = fun _ => (0 : EReal)) :
    iprop((arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := Ideal)) Variants.none (c : Thread nD τ) none) E (k0_part47 (F := Ideal) i arg3 harg3 arg4 harg4 arg5 harg5 arg6 harg6 arg7 harg7 arg8 harg8 arg9 harg9 arg10 harg10 arg11 harg11 arg12 harg12 arg13 harg13 arg2 v26 v27 v28)
        (fun _ => Res c i arg5 arg6 arg9 arg10 arg11 arg12 arg13 v26 v28 f5 f6 (2 * ((((i 2).val) - 1) / 2))) := by
  have hc1 : k0_cond1 i = 1#1 := (cond1 i).2 hpos
  have hc2 : ¬ k0_cond2 i = 1#1 := fun h => by have := (cond2 i).1 h; omega
  have htr : (k0_t2_loop i).trips = 0 := trips2 i
  rw [← trips1 i]
  iintro ⟨HR_arg5, HR_arg6, HW_arg9, HW_arg10, HW_arg11, HW_arg12, HW_arg13⟩
  simp only [k0_part47_eq_skeleton]; unfold k0_part47_skel
  sl_exec
  ihave HR : (Res c i arg5 arg6 arg9 arg10 arg11 arg12 arg13 v26 v28 f5 f6 (2 * 0)) $$ [HR_arg5 HR_arg6 HW_arg9 HW_arg10 HW_arg11 HW_arg12 HW_arg13]
  · unfold Res
    iexists _; iexists _; iexists _; iexists _; iexists _
    isplitl [HR_arg5]; · iexact HR_arg5
    isplitl [HR_arg6]; · iexact HR_arg6
    isplitl [HW_arg9]; · iexact HW_arg9
    isplitl [HW_arg10]; · iexact HW_arg10
    isplitl [HW_arg11]; · iexact HW_arg11
    isplitl [HW_arg12]; · iexact HW_arg12
    isplitl [HW_arg13]; · iexact HW_arg13
    ipureintro
    refine ⟨?a0, ?a1, fun _ => ?s0, fun _ => ?s1⟩
    case a0 => exact Acc.init (fun j => congrFun h11 _) (fun j => congrFun h12 _) (cleared arg13.view arg13.view.junk [] a0.toLoadRect)
    case a1 => exact Acc.init (fun j => congrFun h11 _) (fun j => congrFun h12 _) (cleared arg13.view arg13.view.junk [] a1.toLoadRect)
    case s0 =>
      refine Sc.congr ((skip_s00_s01 _ _ _ _).trans (hit _ _ _ _ _)) ((skip_p00_p01 _ _ _ _).trans (hit _ _ _ _ _)) ?_
      exact putU (n := 2 * 0) hpos (qslice0 H.h28) (kload _ _ H.h5 _ _ (2 * 0) 0 rfl) (H.bias (by omega) word_zero)
    case s1 =>
      refine Sc.congr (hit _ _ _ _ _) (hit _ _ _ _ _) ?_
      exact putU (n := 2 * 0) hpos (qslice1 H.h28) (kload _ _ H.h5 _ _ (2 * 0) 1 rfl) (H.bias (by omega) word_zero)
  iapply (loop_run c E i arg3 harg3 arg4 harg4 arg5 harg5 arg6 harg6 arg7 harg7 arg8 harg8 arg9 harg9 arg10 harg10 arg11 harg11 arg12 harg12 arg13 harg13 arg2 v26 v27 v28 f5 f6 H) $$ HR
  iintro %a HR
  sl_exec
  sl_step
  iexact HR

set_option maxHeartbeats 1000000 in
/-- The middle of the body at the first query block: its one key block, masked and consumed. -/
theorem part47_zero (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (hz : (i 2).val = 0) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (h11 : arg11.view.read (Elt Ideal) f11 = fun _ => (⊥ : EReal)) (h12 : arg12.view.read (Elt Ideal) f12 = fun _ => (0 : EReal)) :
    iprop((arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := Ideal)) Variants.none (c : Thread nD τ) none) E (k0_part47 (F := Ideal) i arg3 harg3 arg4 harg4 arg5 harg5 arg6 harg6 arg7 harg7 arg8 harg8 arg9 harg9 arg10 harg10 arg11 harg11 arg12 harg12 arg13 harg13 arg2 v26 v27 v28)
        (fun _ => Res c i arg5 arg6 arg9 arg10 arg11 arg12 arg13 v26 v28 f5 f6 ((i 2).val + 1)) := by
  have hc1 : ¬ k0_cond1 i = 1#1 := fun h => by have := (cond1 i).1 h; omega
  have hc2 : k0_cond2 i = 1#1 := (cond2 i).2 hz
  have hq := H.lt
  have htr1 : (k0_t1_loop i).trips = 0 := by rw [trips1 i, hz]
  have htr2 : (k0_t2_loop i).trips = 0 := trips2 i
  iintro ⟨HR_arg5, HR_arg6, HW_arg9, HW_arg10, HW_arg11, HW_arg12, HW_arg13⟩
  simp only [k0_part47_eq_skeleton]; unfold k0_part47_skel
  sl_exec
  sl_step
  unfold Res
  iexists _; iexists _; iexists _; iexists _; iexists _
  isplitl [HR_arg5]; · iexact HR_arg5
  isplitl [HR_arg6]; · iexact HR_arg6
  isplitl [HW_arg9]; · iexact HW_arg9
  isplitl [HW_arg10]; · iexact HW_arg10
  isplitl [HW_arg11]; · iexact HW_arg11
  isplitl [HW_arg12]; · iexact HW_arg12
  isplitl [HW_arg13]; · iexact HW_arg13

  ipureintro
  have V0 : ∀ (x : Fin 1024) (d : Fin 256), ((part47_zero.sl.r_1 i arg6 f6 hc2) (ix2 x d) : EReal) = ((kvOf (arg6.view.read (Elt Ideal) f6) (1024 * (i 2).val + x.val) d : ℝ) : EReal) := vload _ _ H.h6 _ _ _ (k0_off11_eq i)
  have U_0 : Sc (sOf v26 v28 (arg5.view.read (Elt Ideal) f5) (i 2).val 0) (i 2).val (i 2).val (part47_zero.sl.v236 i arg5 arg9 arg2 v26 v27 v28 f5 hc2) (part47_zero.sl.v225 i arg5 arg10 arg2 v26 v27 v28 f5 hc2) := by
    refine Sc.congr ((skip_s00_s01 _ _ _ _).trans (hit _ _ _ _ _)) ((skip_p00_p01 _ _ _ _).trans (hit _ _ _ _ _)) ?_
    exact putM (qslice0 H.h28) (kload _ _ H.h5 _ _ _ 0 (k0_off9_eq i)) (H.bias (by omega) H.h2)
  have U_1 : Sc (sOf v26 v28 (arg5.view.read (Elt Ideal) f5) (i 2).val 1) (i 2).val (i 2).val (part47_zero.sl.v300 i arg5 arg9 arg2 v26 v27 v28 f5 hc2) (part47_zero.sl.v289 i arg5 arg10 arg2 v26 v27 v28 f5 hc2) := by
    refine Sc.congr (hit _ _ _ _ _) (hit _ _ _ _ _) ?_
    exact putM (qslice1 H.h28) (kload _ _ H.h5 _ _ _ 1 (k0_off10_eq i)) (H.bias (by omega) H.h2)
  have I_0 : Acc (sOf v26 v28 (arg5.view.read (Elt Ideal) f5) (i 2).val 0) (kvOf (arg6.view.read (Elt Ideal) f6)) (i 2).val (i 2).val (arg11.view.readAt (Elt Ideal) m0.toLoadRect f11) (arg12.view.readAt (Elt Ideal) m0.toLoadRect f12) (part47_zero.sl.v279 arg13) :=
    Acc.init' hz (fun j => congrFun h11 _) (fun j => congrFun h12 _) (cleared arg13.view arg13.view.junk [] a0.toLoadRect)
  have I_1 : Acc (sOf v26 v28 (arg5.view.read (Elt Ideal) f5) (i 2).val 1) (kvOf (arg6.view.read (Elt Ideal) f6)) (i 2).val (i 2).val (arg11.view.readAt (Elt Ideal) m1.toLoadRect f11) (arg12.view.readAt (Elt Ideal) m1.toLoadRect f12) (part47_zero.sl.v343 i arg5 arg6 arg9 arg10 arg11 arg13 arg2 v26 v27 v28 f5 f6 f11 hc2) :=
    Acc.init' hz (fun j => congrFun h11 _) (fun j => congrFun h12 _) (fun j => (congrFun (skip_a1_a0 _ _ _ _) j).trans (cleared arg13.view arg13.view.junk [] a1.toLoadRect j))
  refine ⟨?a0, ?a1, fun h => absurd h (by omega), fun h => absurd h (by omega)⟩
  case a0 =>
    refine Acc.congr ((skip_m0_m1 _ _ _ _).trans (hit _ _ _ _ _)) ((skip_m0_m1 _ _ _ _).trans (hit _ _ _ _ _)) ((skip_a0_a1 _ _ _ _).trans (hit _ _ _ _ _)) ?_
    exact step I_0 U_0 V0
  case a1 =>
    refine Acc.congr (hit _ _ _ _ _) (hit _ _ _ _ _) (hit _ _ _ _ _) ?_
    exact step I_1 U_1 V0
end Cert.Proof.DiffRun
end
-- ==== Proof.DiffLast.lean ====
module
public import proofs.«01_k».proof.Proof.DiffRun
public import Idealize.ShloMosaic.Lib.Tactic
@[expose] public section
noncomputable section
namespace Cert.Proof.DiffRun
open Cert.Kernel2Ideal Cert.Kernel2Ideal.Gen Cert.Proof.DiffMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What the last part of the body leaves: every block to the diagonal consumed, and the two maps' sums. -/
def Fin48 (c : Dev nD) (i : grid0.Coords) (arg5 arg6 : Memref sig .tc .vmem S16384x256 .bf16) (arg9 : Memref sig .tc .vmem S2x2x1024x1024 .f32) (arg10 : Memref sig .tc .vmem S2x2x1024x128 .f32) (arg11 arg12 : Memref sig .tc .vmem S2x1024x128 .f32) (arg13 : Memref sig .tc .vmem S2x1024x256 .f32)
    (v26 : FVec Ideal S1x1 .f32) (v28 : Vec Ideal S1024x256 .bf16) (f5 : BufTy.Contents (Elt Ideal) arg5.view.ty) (f6 : BufTy.Contents (Elt Ideal) arg6.view.ty) (r : Σ' (_ : FVec Ideal S1024x1 .f32), FVec Ideal S1024x128 .f32) : sProp 𝕄 :=
  iprop(∃ (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty), (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ ⌜(LInv (i 2).val ((i 2).val + 1) v26 v28 (arg5.view.read (Elt Ideal) f5) (arg6.view.read (Elt Ideal) f6) arg9 arg10 arg11 arg12 arg13 f9 f10 f11 f12 f13) ∧ r = ⟨k0_pay430 (arg12.view.readAt (Elt Ideal) m0.toLoadRect f12), k0_pay431 (arg12.view.readAt (Elt Ideal) m1.toLoadRect f12)⟩⌝)

set_option maxHeartbeats 1000000 in
/-- An odd query block: the block before the diagonal and the diagonal. -/
theorem part48_odd (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (w : BitVec 32) (hodd : (i 2).val % 2 = 1) :
    Res c i arg5 arg6 arg9 arg10 arg11 arg12 arg13 v26 v28 f5 f6 (2 * (((i 2).val - 1) / 2)) ⊢ wp frame (wpE (defs₀ (F := Ideal)) Variants.none (c : Thread nD τ) none) E (k0_part48 (F := Ideal) i arg3 harg3 arg4 harg4 arg5 harg5 arg6 harg6 arg7 harg7 arg8 harg8 arg9 harg9 arg10 harg10 arg11 harg11 arg12 harg12 arg13 harg13 arg2 v26 v27 v28 w)
        (Fin48 c i arg5 arg6 arg9 arg10 arg11 arg12 arg13 v26 v28 f5 f6) := by
  have hq := H.lt
  have hc3 : k0_cond3 i = 1#1 := (cond3 i).2 hodd
  have hc4 : ¬ k0_cond4 i = 1#1 := fun h => by have := (cond4 i).1 h; omega
  have he : 2 * (((i 2).val - 1) / 2) = (i 2).val - 1 := by omega
  rw [he]
  unfold Res Fin48
  iintro ⟨%f9, %f10, %f11, %f12, %f13, HR_arg5, HR_arg6, HW_arg9, HW_arg10, HW_arg11, HW_arg12, HW_arg13, %I⟩
  simp only [k0_part48_eq_skeleton]; unfold k0_part48_skel
  sl_exec
  sl_step
  iexists _; iexists _; iexists _; iexists _; iexists _
  isplitl [HR_arg5]; · iexact HR_arg5
  isplitl [HR_arg6]; · iexact HR_arg6
  isplitl [HW_arg9]; · iexact HW_arg9
  isplitl [HW_arg10]; · iexact HW_arg10
  isplitl [HW_arg11]; · iexact HW_arg11
  isplitl [HW_arg12]; · iexact HW_arg12
  isplitl [HW_arg13]; · iexact HW_arg13

  ipureintro
  have V0 : ∀ (x : Fin 1024) (d : Fin 256), ((part48_odd.sl.r_1 i arg6 f6 hc3) (ix2 x d) : EReal) = ((kvOf (arg6.view.read (Elt Ideal) f6) (1024 * ((i 2).val - 1) + x.val) d : ℝ) : EReal) := vload _ _ H.h6 _ _ _ (off14 i hc3)
  have V1 : ∀ (x : Fin 1024) (d : Fin 256), ((part48_odd.sl.r_2 i arg6 f6 hc3) (ix2 x d) : EReal) = ((kvOf (arg6.view.read (Elt Ideal) f6) (1024 * ((i 2).val) + x.val) d : ℝ) : EReal) := vload _ _ H.h6 _ _ _ (k0_off15_eq i)
  have A0_0 := step (n := (i 2).val - 1) I.acc0 (I.sc0 (by omega)) V0
  have U1_0 : Sc (sOf v26 v28 (arg5.view.read (Elt Ideal) f5) (i 2).val 0) (i 2).val ((i 2).val) (part48_odd.sl.v369 i arg5 arg9 arg2 v26 v27 v28 f5 hc3) (part48_odd.sl.v358 i arg5 arg10 arg2 v26 v27 v28 f5 hc3) := by
    refine Sc.congr ((skip_s10_s11 _ _ _ _).trans (hit _ _ _ _ _)) ((skip_p10_p11 _ _ _ _).trans (hit _ _ _ _ _)) ?_
    exact putM (qslice0 H.h28) (kload _ _ H.h5 _ _ ((i 2).val) 0 (k0_off12_eq i)) (H.bias (by omega) (H.h2))
  have B111_0 : (part48_odd.sl.v356 arg10 arg11 f10 f11) = newM (arg10.view.readAt (Elt Ideal) p00.toLoadRect f10) (arg11.view.readAt (Elt Ideal) m0.toLoadRect f11) := (skip_m0_m1 _ _ _ _).trans (hit _ _ _ _ _)
  have B112_0 : (part48_odd.sl.v395 arg9 arg10 arg11 arg12 f9 f10 f11 f12) = newL (arg9.view.readAt (Elt Ideal) s00.toLoadRect f9) (arg10.view.readAt (Elt Ideal) p00.toLoadRect f10) (arg11.view.readAt (Elt Ideal) m0.toLoadRect f11) (arg12.view.readAt (Elt Ideal) m0.toLoadRect f12) := (skip_m0_m1 _ _ _ _).trans (hit _ _ _ _ _)
  have B113_0 : (part48_odd.sl.v412 i arg6 arg9 arg10 arg11 arg13 f6 hc3 f9 f10 f11 f13) = newA (arg9.view.readAt (Elt Ideal) s00.toLoadRect f9) (arg10.view.readAt (Elt Ideal) p00.toLoadRect f10) (arg11.view.readAt (Elt Ideal) m0.toLoadRect f11) (arg13.view.readAt (Elt Ideal) a0.toLoadRect f13) (part48_odd.sl.r_1 i arg6 f6 hc3) := (skip_a0_a1 _ _ _ _).trans (hit _ _ _ _ _)
  have A1_0 := step (n := (i 2).val) (Acc.congr B111_0 B112_0 B113_0 (Acc.cast (by omega) A0_0)) U1_0 V1
  have A0_1 := step (n := (i 2).val - 1) I.acc1 (I.sc1 (by omega)) V0
  have U1_1 : Sc (sOf v26 v28 (arg5.view.read (Elt Ideal) f5) (i 2).val 1) (i 2).val ((i 2).val) (part48_odd.sl.v433 i arg5 arg9 arg2 v26 v27 v28 f5 hc3) (part48_odd.sl.v422 i arg5 arg10 arg2 v26 v27 v28 f5 hc3) := by
    refine Sc.congr (hit _ _ _ _ _) (hit _ _ _ _ _) ?_
    exact putM (qslice1 H.h28) (kload _ _ H.h5 _ _ ((i 2).val) 1 (k0_off13_eq i)) (H.bias (by omega) (H.h2))
  have B111_1 : (part48_odd.sl.v420 i arg5 arg10 arg11 arg2 v26 v27 v28 f5 hc3 f10 f11) = newM (arg10.view.readAt (Elt Ideal) p01.toLoadRect f10) (arg11.view.readAt (Elt Ideal) m1.toLoadRect f11) := (skip_m1_m0 _ _ _ _).trans (hit _ _ _ _ _)
  have B112_1 : (part48_odd.sl.v459 i arg5 arg9 arg10 arg11 arg12 arg2 v26 v27 v28 f5 hc3 f9 f10 f11 f12) = newL (arg9.view.readAt (Elt Ideal) s01.toLoadRect f9) (arg10.view.readAt (Elt Ideal) p01.toLoadRect f10) (arg11.view.readAt (Elt Ideal) m1.toLoadRect f11) (arg12.view.readAt (Elt Ideal) m1.toLoadRect f12) := (skip_m1_m0 _ _ _ _).trans (hit _ _ _ _ _)
  have B113_1 : (part48_odd.sl.v476 i arg5 arg6 arg9 arg10 arg11 arg13 arg2 v26 v27 v28 f5 f6 hc3 f9 f10 f11 f13) = newA (arg9.view.readAt (Elt Ideal) s01.toLoadRect f9) (arg10.view.readAt (Elt Ideal) p01.toLoadRect f10) (arg11.view.readAt (Elt Ideal) m1.toLoadRect f11) (arg13.view.readAt (Elt Ideal) a1.toLoadRect f13) (part48_odd.sl.r_1 i arg6 f6 hc3) := (skip_a1_a0 _ _ _ _).trans (hit _ _ _ _ _)
  have A1_1 := step (n := (i 2).val) (Acc.congr B111_1 B112_1 B113_1 (Acc.cast (by omega) A0_1)) U1_1 V1
  have e0 : (part48_odd.sl.v98 i arg5 arg9 arg10 arg11 arg12 arg2 v26 v27 v28 f5 hc3 f9 f10 f11 f12) = arg12.view.readAt (Elt Ideal) m0.toLoadRect (arg12.view.writes (Elt Ideal) f12 (part48_odd.sl.HW_arg12_4 i arg5 arg9 arg10 arg11 arg12 arg2 v26 v27 v28 f5 hc3 f9 f10 f11 f12)) := by
    refine Eq.trans ((skip_m0_m1 _ _ _ _).trans (hit _ _ _ _ _)) (Eq.symm ?_)
    exact (skip_m0_m1 _ _ _ _).trans (hit _ _ _ _ _)
  have e1 : (part48_odd.sl.v102 i arg5 arg9 arg10 arg11 arg12 arg2 v26 v27 v28 f5 hc3 f9 f10 f11 f12) = arg12.view.readAt (Elt Ideal) m1.toLoadRect (arg12.view.writes (Elt Ideal) f12 (part48_odd.sl.HW_arg12_4 i arg5 arg9 arg10 arg11 arg12 arg2 v26 v27 v28 f5 hc3 f9 f10 f11 f12)) := by
    refine Eq.trans (hit _ _ _ _ _) (Eq.symm ?_)
    exact hit _ _ _ _ _
  refine ⟨⟨?a0, ?a1, fun h => absurd h (by omega), fun h => absurd h (by omega)⟩, ?r⟩
  case a0 =>
    refine Acc.congr ((skip_m0_m1 _ _ _ _).trans (hit _ _ _ _ _)) ((skip_m0_m1 _ _ _ _).trans (hit _ _ _ _ _)) ((skip_a0_a1 _ _ _ _).trans (hit _ _ _ _ _)) ?_
    exact A1_0
  case a1 =>
    refine Acc.congr (hit _ _ _ _ _) (hit _ _ _ _ _) (hit _ _ _ _ _) ?_
    exact A1_1
  case r => exact congrArg₂ (fun (x y : Vec Ideal S1x1024x128 .f32) => (⟨k0_pay430 x, k0_pay431 y⟩ : Σ' (_ : FVec Ideal S1024x1 .f32), FVec Ideal S1024x128 .f32)) e0 e1

set_option maxHeartbeats 1000000 in
/-- A positive even query block: the two blocks before the diagonal and the diagonal. -/
theorem part48_even (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (w : BitVec 32) (hpos : 0 < (i 2).val) (hev : (i 2).val % 2 = 0) :
    Res c i arg5 arg6 arg9 arg10 arg11 arg12 arg13 v26 v28 f5 f6 (2 * (((i 2).val - 1) / 2)) ⊢ wp frame (wpE (defs₀ (F := Ideal)) Variants.none (c : Thread nD τ) none) E (k0_part48 (F := Ideal) i arg3 harg3 arg4 harg4 arg5 harg5 arg6 harg6 arg7 harg7 arg8 harg8 arg9 harg9 arg10 harg10 arg11 harg11 arg12 harg12 arg13 harg13 arg2 v26 v27 v28 w)
        (Fin48 c i arg5 arg6 arg9 arg10 arg11 arg12 arg13 v26 v28 f5 f6) := by
  have hq := H.lt
  have hc3 : ¬ k0_cond3 i = 1#1 := fun h => by have := (cond3 i).1 h; omega
  have hc4 : k0_cond4 i = 1#1 := (cond4 i).2 ⟨hpos, hev⟩
  have he : 2 * (((i 2).val - 1) / 2) = (i 2).val - 2 := by omega
  rw [he]
  unfold Res Fin48
  iintro ⟨%f9, %f10, %f11, %f12, %f13, HR_arg5, HR_arg6, HW_arg9, HW_arg10, HW_arg11, HW_arg12, HW_arg13, %I⟩
  simp only [k0_part48_eq_skeleton]; unfold k0_part48_skel
  sl_exec
  sl_step
  iexists _; iexists _; iexists _; iexists _; iexists _
  isplitl [HR_arg5]; · iexact HR_arg5
  isplitl [HR_arg6]; · iexact HR_arg6
  isplitl [HW_arg9]; · iexact HW_arg9
  isplitl [HW_arg10]; · iexact HW_arg10
  isplitl [HW_arg11]; · iexact HW_arg11
  isplitl [HW_arg12]; · iexact HW_arg12
  isplitl [HW_arg13]; · iexact HW_arg13

  ipureintro
  have hn1 : (i 2).val - 1 = (i 2).val - 2 + 1 := by omega
  have w1 : Scalar.subi arg2 1#32 = BitVec.ofNat 32 ((i 2).val - 2 + 1) := by rw [H.h2, word_pred _ hpos hq, hn1]
  have o16 : k0_off16 i = ![1024 * ((i 2).val - 2 + 1), 128 * ((0 : Fin 2).val)] := by rw [off16 i hc4, hn1]
  have o17 : k0_off17 i = ![1024 * ((i 2).val - 2 + 1), 128 * ((1 : Fin 2).val)] := by rw [off17 i hc4, hn1]
  have o18 : k0_off18 i 1#32 = ![1024 * ((i 2).val - 2 + 1), 0] := by rw [off18_1 i hc4, hn1]
  have V0 : ∀ (x : Fin 1024) (d : Fin 256), ((part48_even.sl.r i arg6 f6 hc4) (ix2 x d) : EReal) = ((kvOf (arg6.view.read (Elt Ideal) f6) (1024 * ((i 2).val - 2) + x.val) d : ℝ) : EReal) := vload _ _ H.h6 _ _ _ (off18_2 i hc4)
  have V1 : ∀ (x : Fin 1024) (d : Fin 256), ((part48_even.sl.r_3 i arg6 f6 hc4) (ix2 x d) : EReal) = ((kvOf (arg6.view.read (Elt Ideal) f6) (1024 * ((i 2).val - 2 + 1) + x.val) d : ℝ) : EReal) := vload _ _ H.h6 _ _ _ (o18)
  have V2 : ∀ (x : Fin 1024) (d : Fin 256), ((part48_even.sl.r_5 i arg6 f6 hc4) (ix2 x d) : EReal) = ((kvOf (arg6.view.read (Elt Ideal) f6) (1024 * ((i 2).val) + x.val) d : ℝ) : EReal) := vload _ _ H.h6 _ _ _ (k0_off21_eq i)
  have A0_0 := step (n := (i 2).val - 2) I.acc0 (I.sc0 (by omega)) V0
  have U1_0 : Sc (sOf v26 v28 (arg5.view.read (Elt Ideal) f5) (i 2).val 0) (i 2).val ((i 2).val - 2 + 1) (part48_even.sl.v434 i arg5 arg9 arg2 v26 v27 v28 f5 hc4) (part48_even.sl.v423 i arg5 arg10 arg2 v26 v27 v28 f5 hc4) := by
    refine Sc.congr ((skip_s10_s01 _ _ _ _).trans ((skip_s10_s00 _ _ _ _).trans ((skip_s10_s11 _ _ _ _).trans (hit _ _ _ _ _)))) ((skip_p10_p01 _ _ _ _).trans ((skip_p10_p00 _ _ _ _).trans ((skip_p10_p11 _ _ _ _).trans (hit _ _ _ _ _)))) ?_
    exact putU (n := (i 2).val - 2 + 1) (by omega) (qslice0 H.h28) (kload _ _ H.h5 _ _ ((i 2).val - 2 + 1) 0 (o16)) (H.bias (by omega) (w1))
  have B111_0 : (part48_even.sl.v421 arg10 arg11 f10 f11) = newM (arg10.view.readAt (Elt Ideal) p00.toLoadRect f10) (arg11.view.readAt (Elt Ideal) m0.toLoadRect f11) := (skip_m0_m1 _ _ _ _).trans (hit _ _ _ _ _)
  have B112_0 : (part48_even.sl.v460 arg9 arg10 arg11 arg12 f9 f10 f11 f12) = newL (arg9.view.readAt (Elt Ideal) s00.toLoadRect f9) (arg10.view.readAt (Elt Ideal) p00.toLoadRect f10) (arg11.view.readAt (Elt Ideal) m0.toLoadRect f11) (arg12.view.readAt (Elt Ideal) m0.toLoadRect f12) := (skip_m0_m1 _ _ _ _).trans (hit _ _ _ _ _)
  have B113_0 : (part48_even.sl.v477 i arg6 arg9 arg10 arg11 arg13 f6 hc4 f9 f10 f11 f13) = newA (arg9.view.readAt (Elt Ideal) s00.toLoadRect f9) (arg10.view.readAt (Elt Ideal) p00.toLoadRect f10) (arg11.view.readAt (Elt Ideal) m0.toLoadRect f11) (arg13.view.readAt (Elt Ideal) a0.toLoadRect f13) (part48_even.sl.r i arg6 f6 hc4) := (skip_a0_a1 _ _ _ _).trans (hit _ _ _ _ _)
  have A1_0 := step (n := (i 2).val - 2 + 1) (Acc.congr B111_0 B112_0 B113_0 (Acc.cast (rfl) A0_0)) U1_0 V1
  have U2_0 : Sc (sOf v26 v28 (arg5.view.read (Elt Ideal) f5) (i 2).val 0) (i 2).val ((i 2).val) (part48_even.sl.v566 i arg5 arg9 arg2 v26 v27 v28 f5 hc4) (part48_even.sl.v555 i arg5 arg10 arg2 v26 v27 v28 f5 hc4) := by
    refine Sc.congr ((skip_s00_s01 _ _ _ _).trans (hit _ _ _ _ _)) ((skip_p00_p01 _ _ _ _).trans (hit _ _ _ _ _)) ?_
    exact putM (qslice0 H.h28) (kload _ _ H.h5 _ _ ((i 2).val) 0 (k0_off19_eq i)) (H.bias (by omega) (H.h2))
  have B211_0 : (part48_even.sl.v553 i arg5 arg10 arg11 arg2 v26 v27 v28 f5 hc4 f10 f11) = newM (part48_even.sl.v423 i arg5 arg10 arg2 v26 v27 v28 f5 hc4) (part48_even.sl.v421 arg10 arg11 f10 f11) := (skip_m0_m1 _ _ _ _).trans (hit _ _ _ _ _)
  have B212_0 : (part48_even.sl.v592 i arg5 arg9 arg10 arg11 arg12 arg2 v26 v27 v28 f5 hc4 f9 f10 f11 f12) = newL (part48_even.sl.v434 i arg5 arg9 arg2 v26 v27 v28 f5 hc4) (part48_even.sl.v423 i arg5 arg10 arg2 v26 v27 v28 f5 hc4) (part48_even.sl.v421 arg10 arg11 f10 f11) (part48_even.sl.v460 arg9 arg10 arg11 arg12 f9 f10 f11 f12) := (skip_m0_m1 _ _ _ _).trans (hit _ _ _ _ _)
  have B213_0 : (part48_even.sl.v609 i arg5 arg6 arg9 arg10 arg11 arg13 arg2 v26 v27 v28 f5 f6 hc4 f9 f10 f11 f13) = newA (part48_even.sl.v434 i arg5 arg9 arg2 v26 v27 v28 f5 hc4) (part48_even.sl.v423 i arg5 arg10 arg2 v26 v27 v28 f5 hc4) (part48_even.sl.v421 arg10 arg11 f10 f11) (part48_even.sl.v477 i arg6 arg9 arg10 arg11 arg13 f6 hc4 f9 f10 f11 f13) (part48_even.sl.r_3 i arg6 f6 hc4) := (skip_a0_a1 _ _ _ _).trans (hit _ _ _ _ _)
  have A2_0 := step (n := (i 2).val) (Acc.congr B211_0 B212_0 B213_0 (Acc.cast (by omega) A1_0)) U2_0 V2
  have A0_1 := step (n := (i 2).val - 2) I.acc1 (I.sc1 (by omega)) V0
  have U1_1 : Sc (sOf v26 v28 (arg5.view.read (Elt Ideal) f5) (i 2).val 1) (i 2).val ((i 2).val - 2 + 1) (part48_even.sl.v498 i arg5 arg9 arg2 v26 v27 v28 f5 hc4) (part48_even.sl.v487 i arg5 arg10 arg2 v26 v27 v28 f5 hc4) := by
    refine Sc.congr ((skip_s11_s01 _ _ _ _).trans ((skip_s11_s00 _ _ _ _).trans (hit _ _ _ _ _))) ((skip_p11_p01 _ _ _ _).trans ((skip_p11_p00 _ _ _ _).trans (hit _ _ _ _ _))) ?_
    exact putU (n := (i 2).val - 2 + 1) (by omega) (qslice1 H.h28) (kload _ _ H.h5 _ _ ((i 2).val - 2 + 1) 1 (o17)) (H.bias (by omega) (w1))
  have B111_1 : (part48_even.sl.v485 i arg5 arg10 arg11 arg2 v26 v27 v28 f5 hc4 f10 f11) = newM (arg10.view.readAt (Elt Ideal) p01.toLoadRect f10) (arg11.view.readAt (Elt Ideal) m1.toLoadRect f11) := (skip_m1_m0 _ _ _ _).trans (hit _ _ _ _ _)
  have B112_1 : (part48_even.sl.v524 i arg5 arg9 arg10 arg11 arg12 arg2 v26 v27 v28 f5 hc4 f9 f10 f11 f12) = newL (arg9.view.readAt (Elt Ideal) s01.toLoadRect f9) (arg10.view.readAt (Elt Ideal) p01.toLoadRect f10) (arg11.view.readAt (Elt Ideal) m1.toLoadRect f11) (arg12.view.readAt (Elt Ideal) m1.toLoadRect f12) := (skip_m1_m0 _ _ _ _).trans (hit _ _ _ _ _)
  have B113_1 : (part48_even.sl.v541 i arg5 arg6 arg9 arg10 arg11 arg13 arg2 v26 v27 v28 f5 f6 hc4 f9 f10 f11 f13) = newA (arg9.view.readAt (Elt Ideal) s01.toLoadRect f9) (arg10.view.readAt (Elt Ideal) p01.toLoadRect f10) (arg11.view.readAt (Elt Ideal) m1.toLoadRect f11) (arg13.view.readAt (Elt Ideal) a1.toLoadRect f13) (part48_even.sl.r i arg6 f6 hc4) := (skip_a1_a0 _ _ _ _).trans (hit _ _ _ _ _)
  have A1_1 := step (n := (i 2).val - 2 + 1) (Acc.congr B111_1 B112_1 B113_1 (Acc.cast (rfl) A0_1)) U1_1 V1
  have U2_1 : Sc (sOf v26 v28 (arg5.view.read (Elt Ideal) f5) (i 2).val 1) (i 2).val ((i 2).val) (part48_even.sl.v630 i arg5 arg9 arg2 v26 v27 v28 f5 hc4) (part48_even.sl.v619 i arg5 arg10 arg2 v26 v27 v28 f5 hc4) := by
    refine Sc.congr (hit _ _ _ _ _) (hit _ _ _ _ _) ?_
    have inb : ∀ a, k0_off20 i a + S1024x128.size a ≤ S16384x256.size a := by
      rw [k0_off20_eq]; intro a; fin_cases a <;> simp [S1024x128, S16384x256] <;> omega
    have S : Sc (sOf v26 v28 (arg5.view.read (Elt Ideal) f5) (i 2).val 1) (i 2).val ((i 2).val)
        (k0_pay420 (F := Ideal) (scoreM (biasOf v26 v27 (Scalar.muli (Scalar.subi arg2 arg2) 1024#32)) (extractStridedSlice S1024x128 ![0, 128] v28 slices_S1024x256_o0_128_S1024x128)
          (arg5.view.readAt (Elt Ideal) (Rect.unit (s := S16384x256) (k0_off20 i) S1024x128.size inb).toLoadRect f5)))
        (k0_pay421 (F := Ideal) (scoreM (biasOf v26 v27 (Scalar.muli (Scalar.subi arg2 arg2) 1024#32)) (extractStridedSlice S1024x128 ![0, 128] v28 slices_S1024x256_o0_128_S1024x128)
          (arg5.view.readAt (Elt Ideal) (Rect.unit (s := S16384x256) (k0_off20 i) S1024x128.size inb).toLoadRect f5))) :=
      putM (qslice1 H.h28) (kload _ _ H.h5 _ _ ((i 2).val) 1 (k0_off20_eq i)) (H.bias (by omega) (H.h2))
    exact S
  have B211_1 : (part48_even.sl.v617 i arg5 arg10 arg11 arg2 v26 v27 v28 f5 hc4 f10 f11) = newM (part48_even.sl.v487 i arg5 arg10 arg2 v26 v27 v28 f5 hc4) (part48_even.sl.v485 i arg5 arg10 arg11 arg2 v26 v27 v28 f5 hc4 f10 f11) := (skip_m1_m0 _ _ _ _).trans (hit _ _ _ _ _)
  have B212_1 : (part48_even.sl.v656 i arg5 arg9 arg10 arg11 arg12 arg2 v26 v27 v28 f5 hc4 f9 f10 f11 f12) = newL (part48_even.sl.v498 i arg5 arg9 arg2 v26 v27 v28 f5 hc4) (part48_even.sl.v487 i arg5 arg10 arg2 v26 v27 v28 f5 hc4) (part48_even.sl.v485 i arg5 arg10 arg11 arg2 v26 v27 v28 f5 hc4 f10 f11) (part48_even.sl.v524 i arg5 arg9 arg10 arg11 arg12 arg2 v26 v27 v28 f5 hc4 f9 f10 f11 f12) := (skip_m1_m0 _ _ _ _).trans (hit _ _ _ _ _)
  have B213_1 : (part48_even.sl.v673 i arg5 arg6 arg9 arg10 arg11 arg13 arg2 v26 v27 v28 f5 f6 hc4 f9 f10 f11 f13) = newA (part48_even.sl.v498 i arg5 arg9 arg2 v26 v27 v28 f5 hc4) (part48_even.sl.v487 i arg5 arg10 arg2 v26 v27 v28 f5 hc4) (part48_even.sl.v485 i arg5 arg10 arg11 arg2 v26 v27 v28 f5 hc4 f10 f11) (part48_even.sl.v541 i arg5 arg6 arg9 arg10 arg11 arg13 arg2 v26 v27 v28 f5 f6 hc4 f9 f10 f11 f13) (part48_even.sl.r_3 i arg6 f6 hc4) := (skip_a1_a0 _ _ _ _).trans (hit _ _ _ _ _)
  have A2_1 := step (n := (i 2).val) (Acc.congr B211_1 B212_1 B213_1 (Acc.cast (by omega) A1_1)) U2_1 V2
  have e0 : (part48_even.sl.v98 i arg5 arg9 arg10 arg11 arg12 arg2 v26 v27 v28 f5 hc4 f9 f10 f11 f12) = arg12.view.readAt (Elt Ideal) m0.toLoadRect (arg12.view.writes (Elt Ideal) f12 (part48_even.sl.HW_arg12_6 i arg5 arg9 arg10 arg11 arg12 arg2 v26 v27 v28 f5 hc4 f9 f10 f11 f12)) := by
    refine Eq.trans ((skip_m0_m1 _ _ _ _).trans (hit _ _ _ _ _)) (Eq.symm ?_)
    exact (skip_m0_m1 _ _ _ _).trans (hit _ _ _ _ _)
  have e1 : (part48_even.sl.v102 i arg5 arg9 arg10 arg11 arg12 arg2 v26 v27 v28 f5 hc4 f9 f10 f11 f12) = arg12.view.readAt (Elt Ideal) m1.toLoadRect (arg12.view.writes (Elt Ideal) f12 (part48_even.sl.HW_arg12_6 i arg5 arg9 arg10 arg11 arg12 arg2 v26 v27 v28 f5 hc4 f9 f10 f11 f12)) := by
    refine Eq.trans (hit _ _ _ _ _) (Eq.symm ?_)
    exact hit _ _ _ _ _
  refine ⟨⟨?a0, ?a1, fun h => absurd h (by omega), fun h => absurd h (by omega)⟩, ?r⟩
  case a0 =>
    refine Acc.congr ((skip_m0_m1 _ _ _ _).trans (hit _ _ _ _ _)) ((skip_m0_m1 _ _ _ _).trans (hit _ _ _ _ _)) ((skip_a0_a1 _ _ _ _).trans (hit _ _ _ _ _)) ?_
    exact A2_0
  case a1 =>
    refine Acc.congr (hit _ _ _ _ _) (hit _ _ _ _ _) (hit _ _ _ _ _) ?_
    exact A2_1
  case r => exact congrArg₂ (fun (x y : Vec Ideal S1x1024x128 .f32) => (⟨k0_pay430 x, k0_pay431 y⟩ : Σ' (_ : FVec Ideal S1024x1 .f32), FVec Ideal S1024x128 .f32)) e0 e1

set_option maxHeartbeats 1000000 in
/-- The first query block: nothing is left to consume. -/
theorem part48_zero (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (w : BitVec 32) (hz : (i 2).val = 0) :
    Res c i arg5 arg6 arg9 arg10 arg11 arg12 arg13 v26 v28 f5 f6 ((i 2).val + 1) ⊢ wp frame (wpE (defs₀ (F := Ideal)) Variants.none (c : Thread nD τ) none) E (k0_part48 (F := Ideal) i arg3 harg3 arg4 harg4 arg5 harg5 arg6 harg6 arg7 harg7 arg8 harg8 arg9 harg9 arg10 harg10 arg11 harg11 arg12 harg12 arg13 harg13 arg2 v26 v27 v28 w)
        (Fin48 c i arg5 arg6 arg9 arg10 arg11 arg12 arg13 v26 v28 f5 f6) := by
  have hq := H.lt
  have hc3 : ¬ k0_cond3 i = 1#1 := fun h => by have := (cond3 i).1 h; omega
  have hc4 : ¬ k0_cond4 i = 1#1 := fun h => by have := (cond4 i).1 h; omega
  unfold Res Fin48
  iintro ⟨%f9, %f10, %f11, %f12, %f13, HR_arg5, HR_arg6, HW_arg9, HW_arg10, HW_arg11, HW_arg12, HW_arg13, %I⟩
  simp only [k0_part48_eq_skeleton]; unfold k0_part48_skel
  sl_exec
  sl_step
  iexists _; iexists _; iexists _; iexists _; iexists _
  isplitl [HR_arg5]; · iexact HR_arg5
  isplitl [HR_arg6]; · iexact HR_arg6
  isplitl [HW_arg9]; · iexact HW_arg9
  isplitl [HW_arg10]; · iexact HW_arg10
  isplitl [HW_arg11]; · iexact HW_arg11
  isplitl [HW_arg12]; · iexact HW_arg12
  isplitl [HW_arg13]; · iexact HW_arg13

  ipureintro
  exact ⟨I, rfl⟩

end Cert.Proof.DiffRun
end
-- ==== Proof.DiffBody.lean ====
module
public import proofs.«01_k».proof.Proof.DiffLast
public import Idealize.ShloMosaic.Lib.Tactic
@[expose] public section
noncomputable section
namespace Cert.Proof.DiffRun
open Cert.Kernel2Ideal Cert.Kernel2Ideal.Gen Cert.Proof.DiffMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A load of a whole memref. -/
theorem load_whole {κ : Kind} {sp : Space} {s : Shape} {e : EltTy} (v : View sig κ sp s e) (f : v.ty.Contents (Elt Ideal)) {off : Fin s.rank → ℕ} (h : ∀ a, off a = 0) (inb : ∀ a, off a + s.size a ≤ s.size a) :
    v.readAt (Elt Ideal) (Rect.unit (s := s) off s.size inb).toLoadRect f = v.read (Elt Ideal) f := by
  funext j
  refine congrArg (v.read (Elt Ideal) f) ?_
  funext a
  refine Fin.ext ?_
  show off a + 1 * (j a).val = _
  rw [h a]; omega

theorem zero_off2 : ∀ a : Fin 2, (![0, 0] : Fin 2 → ℕ) a = 0 := by decide

/-- How many blocks are consumed when the last part begins. -/
def mid (q : ℕ) : ℕ := if q = 0 then q + 1 else 2 * ((q - 1) / 2)

theorem part47_any (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (h11 : arg11.view.read (Elt Ideal) f11 = fun _ => (⊥ : EReal)) (h12 : arg12.view.read (Elt Ideal) f12 = fun _ => (0 : EReal)) {β : Type} {kk : BitVec 32 → Prog (TpuEff nD τ sig (Elt Ideal) Λ₀ .tc) β} {Q : β → sProp 𝕄} :
    iprop((arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ iprop((∀ w : BitVec 32, Res c i arg5 arg6 arg9 arg10 arg11 arg12 arg13 v26 v28 f5 f6 (mid (i 2).val) -∗ wp frame (wpE (defs₀ (F := Ideal)) Variants.none (c : Thread nD τ) none) E (kk w) Q)
      -∗ wp frame (wpE (defs₀ (F := Ideal)) Variants.none (c : Thread nD τ) none) E (k0_part47 (F := Ideal) i arg3 harg3 arg4 harg4 arg5 harg5 arg6 harg6 arg7 harg7 arg8 harg8 arg9 harg9 arg10 harg10 arg11 harg11 arg12 harg12 arg13 harg13 arg2 v26 v27 v28 >>= kk) Q) := by
  have h : iprop((arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := Ideal)) Variants.none (c : Thread nD τ) none) E (k0_part47 (F := Ideal) i arg3 harg3 arg4 harg4 arg5 harg5 arg6 harg6 arg7 harg7 arg8 harg8 arg9 harg9 arg10 harg10 arg11 harg11 arg12 harg12 arg13 harg13 arg2 v26 v27 v28)
      (fun _ => Res c i arg5 arg6 arg9 arg10 arg11 arg12 arg13 v26 v28 f5 f6 (mid (i 2).val)) := by
    unfold mid
    by_cases hz : (i 2).val = 0
    · rw [if_pos hz]; exact part47_zero c E i arg3 harg3 arg4 harg4 arg5 harg5 arg6 harg6 arg7 harg7 arg8 harg8 arg9 harg9 arg10 harg10 arg11 harg11 arg12 harg12 arg13 harg13 arg2 v26 v27 v28 f5 f6 H hz f9 f10 f11 f12 f13 h11 h12
    · rw [if_neg hz]; exact part47_pos c E i arg3 harg3 arg4 harg4 arg5 harg5 arg6 harg6 arg7 harg7 arg8 harg8 arg9 harg9 arg10 harg10 arg11 harg11 arg12 harg12 arg13 harg13 arg2 v26 v27 v28 f5 f6 H (Nat.pos_of_ne_zero hz) f9 f10 f11 f12 f13 h11 h12
  iintro HP HK
  rw [wp_bind]
  iapply (wp_wand_r Idealize.ShloMosaic.frame (wpE (defs₀ (F := Ideal)) Variants.none (c : Thread nD τ) none) E)
  isplitl [HP]
  · iapply h; iexact HP
  iexact HK

theorem part48_any (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec Ideal S1x1 .f32) (v27 : IVec S1x1024 32) (v28 : Vec Ideal S1024x256 .bf16)
    (f5 : BufTy.Contents (Elt Ideal) arg5.view.ty) (f6 : BufTy.Contents (Elt Ideal) arg6.view.ty)
    (H : Hyp (i 2).val arg2 v26 v27 v28 (arg5.view.read (Elt Ideal) f5) (arg6.view.read (Elt Ideal) f6)) (w : BitVec 32) {β : Type} {kk : (Σ' (_ : FVec Ideal S1024x1 .f32), FVec Ideal S1024x128 .f32) → Prog (TpuEff nD τ sig (Elt Ideal) Λ₀ .tc) β} {Q : β → sProp 𝕄} :
    Res c i arg5 arg6 arg9 arg10 arg11 arg12 arg13 v26 v28 f5 f6 (mid (i 2).val) ⊢ iprop((∀ r : (Σ' (_ : FVec Ideal S1024x1 .f32), FVec Ideal S1024x128 .f32), Fin48 c i arg5 arg6 arg9 arg10 arg11 arg12 arg13 v26 v28 f5 f6 r -∗ wp frame (wpE (defs₀ (F := Ideal)) Variants.none (c : Thread nD τ) none) E (kk r) Q)
      -∗ wp frame (wpE (defs₀ (F := Ideal)) Variants.none (c : Thread nD τ) none) E (k0_part48 (F := Ideal) i arg3 harg3 arg4 harg4 arg5 harg5 arg6 harg6 arg7 harg7 arg8 harg8 arg9 harg9 arg10 harg10 arg11 harg11 arg12 harg12 arg13 harg13 arg2 v26 v27 v28 w >>= kk) Q) := by
  have h : Res c i arg5 arg6 arg9 arg10 arg11 arg12 arg13 v26 v28 f5 f6 (mid (i 2).val) ⊢ wp frame (wpE (defs₀ (F := Ideal)) Variants.none (c : Thread nD τ) none) E (k0_part48 (F := Ideal) i arg3 harg3 arg4 harg4 arg5 harg5 arg6 harg6 arg7 harg7 arg8 harg8 arg9 harg9 arg10 harg10 arg11 harg11 arg12 harg12 arg13 harg13 arg2 v26 v27 v28 w)
      (Fin48 c i arg5 arg6 arg9 arg10 arg11 arg12 arg13 v26 v28 f5 f6) := by
    unfold mid
    by_cases hz : (i 2).val = 0
    · rw [if_pos hz]; exact part48_zero c E i arg3 harg3 arg4 harg4 arg5 harg5 arg6 harg6 arg7 harg7 arg8 harg8 arg9 harg9 arg10 harg10 arg11 harg11 arg12 harg12 arg13 harg13 arg2 v26 v27 v28 f5 f6 H w hz
    · rw [if_neg hz]
      rcases Nat.mod_two_eq_zero_or_one (i 2).val with he | ho
      · exact part48_even c E i arg3 harg3 arg4 harg4 arg5 harg5 arg6 harg6 arg7 harg7 arg8 harg8 arg9 harg9 arg10 harg10 arg11 harg11 arg12 harg12 arg13 harg13 arg2 v26 v27 v28 f5 f6 H w (Nat.pos_of_ne_zero hz) he
      · exact part48_odd c E i arg3 harg3 arg4 harg4 arg5 harg5 arg6 harg6 arg7 harg7 arg8 harg8 arg9 harg9 arg10 harg10 arg11 harg11 arg12 harg12 arg13 harg13 arg2 v26 v27 v28 f5 f6 H w ho
  iintro HP HK
  rw [wp_bind]
  iapply (wp_wand_r Idealize.ShloMosaic.frame (wpE (defs₀ (F := Ideal)) Variants.none (c : Thread nD τ) none) E)
  isplitl [HP]
  · iapply h; iexact HP
  iexact HK

/-- What the body leaves in the result's block: the two maps' running sums over the blocks up to the diagonal, put
    together by the last payload. -/
def Blk (q : ℕ) (v16 v26 : FVec Ideal S1x1 .f32) (v28 : Vec Ideal S1024x256 .bf16) (x5 x6 : Vec Ideal S16384x256 .bf16) (x7 : Vec Ideal S1x1x256 .f32) (Y : Vec Ideal S1024x256 .bf16) : Prop :=
  ∃ (X0 X1 Z0 Z1 : Vec Ideal S1x1024x128 .f32) (W0 W1 : Vec Ideal S1x1024x256 .f32),
    Acc (sOf v26 v28 x5 q 0) (kvOf x6) q (q + 1) X0 Z0 W0 ∧ Acc (sOf v26 v28 x5 q 1) (kvOf x6) q (q + 1) X1 Z1 W1
      ∧ Y = k0_pay1 (F := Ideal) v16 (k0_pay430 Z0) (k0_pay431 Z1) W0 W1 x7

/-- A memref at some contents. -/
abbrev some (c : Dev nD) {sh : Shape} {e : EltTy} (a : Memref sig .tc .vmem sh e) : sProp 𝕄 :=
  iprop(∃ f : BufTy.Contents (Elt Ideal) a.view.ty, a.view.loc (c : Thread nD τ) ↦[a.view.set]{fullShare} f)

/-- The scratch memrefs, each at some contents. -/
abbrev scratch (c : Dev nD) (arg9 : Memref sig .tc .vmem S2x2x1024x1024 .f32) (arg10 : Memref sig .tc .vmem S2x2x1024x128 .f32) (arg11 arg12 : Memref sig .tc .vmem S2x1024x128 .f32) (arg13 : Memref sig .tc .vmem S2x1024x256 .f32) : sProp 𝕄 :=
  iprop(some c arg9 ∗ some c arg10 ∗ some c arg11 ∗ some c arg12 ∗ some c arg13)

set_option maxHeartbeats 1000000 in
/-- The kernel body on whole staging memrefs, from real queries, keys, values and slope. -/
theorem body_run (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (x0 : Vec Ideal S8x128 .f32) (x1 : Vec Ideal S1024x256 .bf16) (x2 x3 : Vec Ideal S16384x256 .bf16) (x4 : Vec Ideal S1x1x256 .f32)
    (hσ : ((k0_pay416 (F := Ideal) i x0) (ix2 0 0) : EReal) = ((σOf (k0_pay416 (F := Ideal) i x0) : ℝ) : EReal))
    (hx1 : Real2 (n := 1024) (m := 256) x1) (hx2 : Real2 (n := 16384) (m := 256) x2) (hx3 : Real2 (n := 16384) (m := 256) x3) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ scratch c arg9 arg10 arg11 arg12 arg13)
      ⊢ wp frame (wpE (defs₀ (F := Ideal)) Variants.none (c : Thread nD τ) none) E (cc0_diffattn (F := Ideal) i arg3 harg3 arg4 harg4 arg5 harg5 arg6 harg6 arg7 harg7 arg8 harg8 arg9 harg9 arg10 harg10 arg11 harg11 arg12 harg12 arg13 harg13)
          fun _ => iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ (∃ d, owns (c : Thread nD τ) arg8 fullShare d ∗ ⌜Blk (i 2).val (k0_pay415 (F := Ideal) x0) (k0_pay416 (F := Ideal) i x0) x1 x2 x3 x4 d⌝)
            ∗ scratch c arg9 arg10 arg11 arg12 arg13) := by
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%f9, H9⟩, ⟨%f10, H10⟩, ⟨%f11, H11⟩, ⟨%f12, H12⟩, ⟨%f13, H13⟩⟩
  simp only [cc0_diffattn_eq_skeleton]; unfold cc0_diffattn_skel
  set_option sl_exec.stopBefore "k0_part47" in sl_exec
  have e0 : arg3.view.readAt (Elt Ideal) (Rect.unit (s := S8x128) ![0, 0] S8x128.size inb_S8x128_S8x128_0_0).toLoadRect f3 = x0 := (load_whole _ _ zero_off2 _).trans h3
  have e1 : body_run.sl.r_2 c arg4 f4 = x1 := (load_whole _ _ zero_off2 _).trans h4
  have e16 : body_run.sl.r c arg3 f3 = k0_pay415 (F := Ideal) x0 := congrArg (k0_pay415 (F := Ideal)) e0
  have e26 : body_run.sl.r_1 c i arg3 f3 = k0_pay416 (F := Ideal) i x0 := congrArg (k0_pay416 (F := Ideal) i) e0
  have H : Hyp (i 2).val (BitVec.ofNat 32 (i 2).val) (body_run.sl.r_1 c i arg3 f3) body_run.sl.v27 (body_run.sl.r_2 c arg4 f4) (arg5.view.read (Elt Ideal) f5) (arg6.view.read (Elt Ideal) f6) := by
    refine ⟨(i 2).isLt, rfl, ?_, ?_, ?_, ?_, ?_⟩
    · rw [e26]; exact hσ
    · intro k
      show BitVec.ofNat 32 (0 * 1024 + k.val) = _
      rw [Nat.zero_mul, Nat.zero_add]
    · rw [e1]; exact hx1
    · rw [h5]; exact hx2
    · rw [h6]; exact hx3
  ihave HP : iprop((arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (arg11.view.writes (Elt Ideal) f11 [⟨Rect.unit (s := S2x1024x128) ![0, 0, 0] S2x1024x128.size inb_S2x1024x128_S2x1024x128_0_0_0, k0_pay417 (F := Ideal)⟩])) ∗ (arg12.view.loc (c : Thread nD τ) ↦[arg12.view.set]{fullShare} (arg12.view.writes (Elt Ideal) f12 [⟨Rect.unit (s := S2x1024x128) ![0, 0, 0] S2x1024x128.size inb_S2x1024x128_S2x1024x128_0_0_0, k0_pay418 (F := Ideal)⟩])) ∗ (arg13.view.loc (c : Thread nD τ) ↦[arg13.view.set]{fullShare} f13)) $$ [H5 H6 H9 H10 H11 H12 H13]
  · isplitl [H5]; · iexact H5
    isplitl [H6]; · iexact H6
    isplitl [H9]; · iexact H9
    isplitl [H10]; · iexact H10
    isplitl [H11]; · iexact H11
    isplitl [H12]; · iexact H12
    iexact H13
  iapply (part47_any c E i arg3 harg3 arg4 harg4 arg5 harg5 arg6 harg6 arg7 harg7 arg8 harg8 arg9 harg9 arg10 harg10 arg11 harg11 arg12 harg12 arg13 harg13 _ _ _ _ f5 f6 H f9 f10 _ _ f13 ((read_whole _ _ zero_off3 _ _ _).trans pay417_eq) ((read_whole _ _ zero_off3 _ _ _).trans pay418_eq)) $$ HP
  iintro %w HR
  iapply (part48_any c E i arg3 harg3 arg4 harg4 arg5 harg5 arg6 harg6 arg7 harg7 arg8 harg8 arg9 harg9 arg10 harg10 arg11 harg11 arg12 harg12 arg13 harg13 _ _ _ _ f5 f6 H w) $$ HR
  iintro %r HF
  unfold Fin48
  icases HF with ⟨%g9, %g10, %g11, %g12, %g13, HR5, HR6, HW9, HW10, HW11, HW12, HW13, %I⟩
  obtain ⟨I, rfl⟩ := I
  sl_exec
  sl_step
  isplitl [H3]; · iexists f3; isplitr; · ipureintro; exact h3
                  iexact H3
  isplitl [H4]; · iexists f4; isplitr; · ipureintro; exact h4
                  iexact H4
  isplitl [HR5]; · iexists f5; isplitr; · ipureintro; exact h5
                   iexact HR5
  isplitl [HR6]; · iexists f6; isplitr; · ipureintro; exact h6
                   iexact HR6
  isplitl [H7]; · iexists f7; isplitr; · ipureintro; exact h7
                  iexact H7
  isplitl [H8]
  · iexists _
    isplitl [H8]
    · iexists _; isplitr; swap; · iexact H8
      ipureintro; rfl
    ipureintro
    have J0 := I.acc0
    have J1 := I.acc1
    rw [e26, e1, h5, h6] at J0 J1
    exact ⟨_, _, _, _, _, _, J0, J1, (read_whole _ _ zero_off2 _ _ _).trans (congrArg₂ (fun a b => k0_pay1 (F := Ideal) a _ _ _ _ b) e16 ((load_whole _ _ zero_off3 _).trans h7))⟩
  isplitl [HW9]; · iexists _; iexact HW9
  isplitl [HW10]; · iexists _; iexact HW10
  isplitl [HW11]; · iexists _; iexact HW11
  isplitl [HW12]; · iexists _; iexact HW12
  iexists _; iexact HW13

end Cert.Proof.DiffRun
end
-- ==== Proof.DiffSpec.lean ====
/- The differential attention of one query over the reals, and its norm. -/
module
public import Idealize.ShloMosaic.PureOps.Ideal.Laws
public import Idealize.ShloMosaic.Lib.Pointwise
@[expose] public section
noncomputable section
namespace Cert.DiffSpec
open Idealize.ShloMosaic
open Finset

/-- The weight of key `k` for query `Q`, before the softmax's division. -/
def E (sl : ℝ) (D : ℕ → ℝ) (Q k : ℕ) : ℝ := if k ≤ Q then Real.exp (D k * Real.log 2 + -sl * ((Q : ℝ) - (k : ℝ))) else 0

/-- One map's attention: the weighted mean of the values. -/
def R (sl : ℝ) (D : ℕ → ℝ) (v : ℕ → Fin 256 → ℝ) (Q : ℕ) (d : Fin 256) : ℝ :=
  (∑ k ∈ range 16384, E sl D Q k * v k d) / ∑ k ∈ range 16384, E sl D Q k

/-- The difference of the two maps. -/
def O (lam sl : ℝ) (D0 D1 : ℕ → ℝ) (v : ℕ → Fin 256 → ℝ) (Q : ℕ) (d : Fin 256) : ℝ := R sl D0 v Q d - lam * R sl D1 v Q d

/-- The root mean square norm of a head, with its gain, and the factor of the layer. -/
def norm (o : Fin 256 → ℝ) (g : EReal) (d : Fin 256) : EReal :=
  ((o d : ℝ) : EReal) * Ideal.rsqrt (Ideal.div (∑ e, ((o e : ℝ) : EReal) * ((o e : ℝ) : EReal)) (Ideal.ofBits .f32 0x43800000#32) + Ideal.ofBits .f32 0x358637BD#32)
    * g * Ideal.ofBits .f32 0x3F4CCCCD#32

theorem E_nonneg (sl : ℝ) (D : ℕ → ℝ) (Q k : ℕ) : 0 ≤ E sl D Q k := by
  unfold E; split
  · exact (Real.exp_pos _).le
  · exact le_rfl

theorem E_sum_pos (sl : ℝ) (D : ℕ → ℝ) (Q n : ℕ) (hn : 0 < n) : 0 < ∑ k ∈ range n, E sl D Q k :=
  sum_pos' (fun k _ => E_nonneg sl D Q k) ⟨0, mem_range.2 hn, by unfold E; rw [if_pos (Nat.zero_le _)]; exact Real.exp_pos _⟩

/-- The causal keys are the first ones. -/
theorem E_extend (sl : ℝ) (D : ℕ → ℝ) (Q n : ℕ) (h : Q < n) (hn : n ≤ 16384) (f : ℕ → ℝ) :
    ∑ k ∈ range n, E sl D Q k * f k = ∑ k ∈ range 16384, E sl D Q k * f k :=
  sum_subset (range_mono hn) fun k _ hk => by
    have : ¬ k ≤ Q := fun h' => hk (mem_range.2 (by omega))
    unfold E; rw [if_neg this, zero_mul]

theorem E_extend' (sl : ℝ) (D : ℕ → ℝ) (Q n : ℕ) (h : Q < n) (hn : n ≤ 16384) :
    ∑ k ∈ range n, E sl D Q k = ∑ k ∈ range 16384, E sl D Q k := by
  have := E_extend sl D Q n h hn fun _ => 1
  simpa using this

/-- A sum taken in blocks. -/
theorem sum_blocks (f : ℕ → ℝ) (m n : ℕ) : ∑ j ∈ range n, ∑ i ∈ range m, f (m * j + i) = ∑ k ∈ range (m * n), f k := by
  induction n with
  | zero => simp
  | succ n ih => rw [sum_range_succ, ih, Nat.mul_succ, sum_range_add]

/-- A sum of blocks of 1024, each taken lane by lane. -/
theorem sum_lanes (f : ℕ → ℝ) (n : ℕ) :
    ∑ l : Fin 128, ∑ j ∈ range n, ∑ c ∈ range 8, f (1024 * j + (128 * c + l.val)) = ∑ k ∈ range (1024 * n), f k := by
  rw [← sum_blocks f 1024 n, sum_comm]
  refine sum_congr rfl fun j _ => ?_
  rw [show (1024 : ℕ) = 128 * 8 from rfl, ← sum_blocks (fun i => f (128 * 8 * j + i)) 128 8, sum_comm]
  refine sum_congr rfl fun c _ => ?_
  rw [← Fin.sum_univ_eq_sum_range (fun i => f (128 * 8 * j + (128 * c + i))) 128]

end Cert.DiffSpec
end
-- ==== Proof.DiffFinal.lean ====
/- What the body leaves in the result's block, index by index. -/
module
public import proofs.«01_k».proof.Proof.DiffBody
public import proofs.«01_k».proof.Proof.DiffSpec
public import Idealize.ShloMosaic.Lib.Pointwise
@[expose] public section
noncomputable section
namespace Cert.Proof.DiffRun
open Cert.Kernel2Ideal Cert.Kernel2Ideal.Gen Cert.Proof.DiffMath
open Idealize.ShloMosaic Idealize.ShloMosaic.TcCoe
open Finset

/-- The products of a query and the keys in one map. -/
def dotOf (v28 : Vec Ideal S1024x256 .bf16) (x5 : Vec Ideal S16384x256 .bf16) (m : Fin 2) (r : Fin 1024) (k : ℕ) : ℝ :=
  ∑ d : Fin 128, qvOf v28 r (mix m d) * kvOf x5 k (mix m d)

/-- A kernel's weight is the reference's, but for a factor of the row. -/
theorem w_eq (v26 : FVec Ideal S1x1 .f32) (v28 : Vec Ideal S1024x256 .bf16) (x5 : Vec Ideal S16384x256 .bf16) (q : ℕ) (m : Fin 2) (r : Fin 1024) (sl μ : ℝ)
    (hσ : σOf v26 = sl * (Real.log 2)⁻¹) (k : ℕ) :
    w (sOf v26 v28 x5 q m r) (1024 * q + r.val) μ k = Real.exp (sl * (r.val : ℝ) - μ * Real.log 2) * DiffSpec.E sl (dotOf v28 x5 m r) (1024 * q + r.val) k := by
  unfold w DiffSpec.E
  split
  · rw [← Real.exp_add]
    show (2 : ℝ) ^ (sOf v26 v28 x5 q m r k - μ) = _
    rw [Real.rpow_def_of_pos (by norm_num)]
    congr 1
    have h2 : Real.log 2 ≠ 0 := (Real.log_pos (by norm_num)).ne'
    unfold sOf sR dotOf
    rw [hσ]
    push_cast
    field_simp
    ring
  · rw [mul_zero]

theorem sums (v26 : FVec Ideal S1x1 .f32) (v28 : Vec Ideal S1024x256 .bf16) (x5 x6 : Vec Ideal S16384x256 .bf16) (q : ℕ) (hq : q < 16) (m : Fin 2) (r : Fin 1024) (sl : ℝ)
    (hσ : σOf v26 = sl * (Real.log 2)⁻¹) {X Z : Vec Ideal S1x1024x128 .f32} {W : Vec Ideal S1x1024x256 .f32} (h : Acc (sOf v26 v28 x5 q m) (kvOf x6) q (q + 1) X Z W) :
    ∃ C : ℝ, 0 < C ∧ (∑ l : Fin 128, (Z (ix3 0 r l) : EReal)) = ((C * ∑ k ∈ range 16384, DiffSpec.E sl (dotOf v28 x5 m r) (1024 * q + r.val) k : ℝ) : EReal)
      ∧ ∀ d, (W (ix3 0 r d) : EReal) = ((C * ∑ k ∈ range 16384, DiffSpec.E sl (dotOf v28 x5 m r) (1024 * q + r.val) k * kvOf x6 k d : ℝ) : EReal) := by
  obtain ⟨μ, -, hL, hA⟩ := h r
  have hr := r.isLt
  refine ⟨Real.exp (sl * (r.val : ℝ) - μ * Real.log 2), Real.exp_pos _, ?_, fun d => ?_⟩
  · have hL' : ∀ l : Fin 128, (Z (ix3 0 r l) : EReal) = _ := hL
    rw [sum_congr rfl fun l _ => hL' l, ← coe_sum, DiffSpec.sum_lanes, ← DiffSpec.E_extend' sl _ _ (1024 * (q + 1)) (by omega) (by omega), mul_sum]
    exact congrArg _ (sum_congr rfl fun k _ => w_eq v26 v28 x5 q m r sl μ hσ k)
  · have hA' : (W (ix3 0 r d) : EReal) = _ := hA d
    rw [hA', ← DiffSpec.E_extend sl _ _ (1024 * (q + 1)) (by omega) (by omega) fun k => kvOf x6 k d, mul_sum]
    exact congrArg _ (sum_congr rfl fun k _ => by rw [w_eq v26 v28 x5 q m r sl μ hσ k, mul_assoc])

theorem quot {C a b : ℝ} (hC : 0 < C) (hb : 0 < b) : Ideal.div ((C * a : ℝ) : EReal) ((C * b : ℝ) : EReal) = ((a / b : ℝ) : EReal) := by
  rw [Ideal.div_coe (mul_pos hC hb).ne', ← EReal.coe_mul]
  congr 1
  have := hC.ne'; have := hb.ne'
  field_simp

theorem blk_apply {q : ℕ} (hq : q < 16) {v16 v26 : FVec Ideal S1x1 .f32} {v28 : Vec Ideal S1024x256 .bf16} {x5 x6 : Vec Ideal S16384x256 .bf16} {x7 : Vec Ideal S1x1x256 .f32} {Y : Vec Ideal S1024x256 .bf16}
    {lam sl : ℝ} (hlam : (v16 (ix2 0 0) : EReal) = ((lam : ℝ) : EReal)) (hσ : σOf v26 = sl * (Real.log 2)⁻¹) (h : Blk q v16 v26 v28 x5 x6 x7 Y) (r : Fin 1024) (d : Fin 256) :
    (Y (ix2 r d) : EReal) = DiffSpec.norm (DiffSpec.O lam sl (dotOf v28 x5 0 r) (dotOf v28 x5 1 r) (kvOf x6) (1024 * q + r.val)) (x7 (ix3 0 0 d)) d := by
  obtain ⟨X0, X1, Z0, Z1, W0, W1, h0, h1, rfl⟩ := h
  obtain ⟨C0, hC0, hZ0, hW0⟩ := sums v26 v28 x5 x6 q hq 0 r sl hσ h0
  obtain ⟨C1, hC1, hZ1, hW1⟩ := sums v26 v28 x5 x6 q hq 1 r sl hσ h1
  unfold k0_pay1 k0_pay430 k0_pay431
  simp only [pointwise]
  let o : Fin 256 → EReal := fun e => Ideal.div (W0 (ix3 0 r e)) (∑ k, (Z0 (ix3 0 r k) : EReal)) - (v16 (ix2 0 0) : EReal) * Ideal.div (W1 (ix3 0 r e)) (∑ k, (Z1 (ix3 0 r k) : EReal))
  have ho : ∀ e, o e = ((DiffSpec.O lam sl (dotOf v28 x5 0 r) (dotOf v28 x5 1 r) (kvOf x6) (1024 * q + r.val) e : ℝ) : EReal) := fun e => by
    have hE0 := DiffSpec.E_sum_pos sl (dotOf v28 x5 0 r) (1024 * q + r.val) 16384 (by norm_num)
    have hE1 := DiffSpec.E_sum_pos sl (dotOf v28 x5 1 r) (1024 * q + r.val) 16384 (by norm_num)
    show Ideal.div (W0 (ix3 0 r e)) (∑ k, (Z0 (ix3 0 r k) : EReal)) - (v16 (ix2 0 0) : EReal) * Ideal.div (W1 (ix3 0 r e)) (∑ k, (Z1 (ix3 0 r k) : EReal)) = _
    rw [hZ0, hZ1, hW0, hW1, hlam, quot hC0 hE0, quot hC1 hE1]
    rfl
  refine Eq.trans (b := o d * Ideal.rsqrt (Ideal.div (∑ e, o e * o e) (Ideal.ofBits .f32 0x43800000#32) + Ideal.ofBits .f32 0x358637BD#32) * (x7 (ix3 0 0 d) : EReal) * Ideal.ofBits .f32 0x3F4CCCCD#32) rfl ?_
  simp only [ho]
  rfl

end Cert.Proof.DiffRun
end
-- ==== Proof.DiffGoal.lean ====
/- The result of the differential attention from its arguments, over the reals; what the precondition says of them. -/
module
public import proofs.«01_k».proof.Proof.DiffSpec
public import proofs.«01_k».proof.Pre_finite
public import Idealize.ShloMosaic.Lib.ReduceAll
public import Idealize.ShloMosaic.Lib.Affine
@[expose] public section
noncomputable section
namespace Cert.DiffSpec
open Idealize.ShloMosaic

/-- An element of the projection as a real, zero past its ends. -/
def pr (X : (⟨2, ![32768, 17408]⟩ : Shape).Idx → EReal) (n c : ℕ) : ℝ :=
  if h : n < 32768 ∧ c < 17408 then (X (ix2 ⟨n, h.1⟩ ⟨c, h.2⟩)).toReal else 0

/-- The logit of map `m` of head `h` of batch `b` between query `Q` and key `k`. -/
def D (X : (⟨2, ![32768, 17408]⟩ : Shape).Idx → EReal) (b h m Q k : ℕ) : ℝ :=
  ∑ d : Fin 128, pr X (16384 * b + Q) (256 * h + (128 * m + d.val)) * pr X (16384 * b + k) (2048 + 256 * h + (128 * m + d.val))

/-- The value of key `k`. -/
def V (X : (⟨2, ![32768, 17408]⟩ : Shape).Idx → EReal) (b h k : ℕ) (d : Fin 256) : ℝ := pr X (16384 * b + k) (4096 + 256 * h + d.val)

/-- The literal that the weight of the second map starts from. -/
def lam0 : ℝ := (Ideal.ofBits .f32 0x3E4CCCCD#32).toReal

/-- The weight of the second map. -/
def lam (a b c d : (⟨1, ![128]⟩ : Shape).Idx → EReal) : ℝ :=
  Real.exp (∑ e : Fin 128, (a (ix1 e)).toReal * (b (ix1 e)).toReal) - Real.exp (∑ e : Fin 128, (c (ix1 e)).toReal * (d (ix1 e)).toReal) + lam0

/-- The slope of head `h`. -/
def slope (h : ℕ) : ℝ := (2 : ℝ) ^ ((-8 * (1 + (h : ℝ))) * (1 / 8 : ℝ))

/-- The result. -/
def G (X : (⟨2, ![32768, 17408]⟩ : Shape).Idx → EReal) (a b c d : (⟨1, ![128]⟩ : Shape).Idx → EReal) (g : (⟨2, ![8, 256]⟩ : Shape).Idx → EReal)
    (i : (⟨2, ![32768, 2048]⟩ : Shape).Idx) : EReal :=
  norm (O (lam a b c d) (slope ((i 1).val / 256)) (D X ((i 0).val / 16384) ((i 1).val / 256) 0 ((i 0).val % 16384)) (D X ((i 0).val / 16384) ((i 1).val / 256) 1 ((i 0).val % 16384))
      (V X ((i 0).val / 16384) ((i 1).val / 256)) ((i 0).val % 16384))
    (g (ix2 (⟨(i 1).val / 256, by have h : (i 1).val < 2048 := (i 1).isLt; omega⟩ : Fin 8) (⟨(i 1).val % 256, Nat.mod_lt _ (by norm_num)⟩ : Fin 256))) ⟨(i 1).val % 256, Nat.mod_lt _ (by norm_num)⟩

theorem G_at (X : (⟨2, ![32768, 17408]⟩ : Shape).Idx → EReal) (a b c d : (⟨1, ![128]⟩ : Shape).Idx → EReal) (g : (⟨2, ![8, 256]⟩ : Shape).Idx → EReal)
    (i : (⟨2, ![32768, 2048]⟩ : Shape).Idx) (B Q h : ℕ) (e : Fin 256) (hQ : Q < 16384) (hh : h < 8) (h0 : (i 0).val = 16384 * B + Q) (h1 : (i 1).val = 256 * h + e.val) :
    G X a b c d g i = norm (O (lam a b c d) (slope h) (D X B h 0 Q) (D X B h 1 Q) (V X B h) Q) (g (ix2 (⟨h, hh⟩ : Fin 8) e)) e := by
  have he := e.isLt
  have e0 : (i 0).val / 16384 = B := by omega
  have e1 : (i 0).val % 16384 = Q := by omega
  have e2 : (i 1).val / 256 = h := by omega
  have e3 : (i 1).val % 256 = e.val := by omega
  unfold G
  simp only [e0, e1, e2, e3]

/-- Only the keys there are count. -/
theorem O_congr (lam sl : ℝ) {D0 D0' D1 D1' : ℕ → ℝ} {v v' : ℕ → Fin 256 → ℝ} (Q : ℕ) (h0 : ∀ k < 16384, D0 k = D0' k) (h1 : ∀ k < 16384, D1 k = D1' k)
    (hv : ∀ k < 16384, ∀ d, v k d = v' k d) : O lam sl D0 D1 v Q = O lam sl D0' D1' v' Q := by
  have hR : ∀ {D D' : ℕ → ℝ}, (∀ k < 16384, D k = D' k) → ∀ d, R sl D v Q d = R sl D' v' Q d := fun {D D'} hD d => by
    have hE : ∀ k ∈ Finset.range 16384, E sl D Q k = E sl D' Q k := fun k hk => by
      unfold E; rw [hD k (Finset.mem_range.1 hk)]
    unfold R
    rw [Finset.sum_congr rfl hE, Finset.sum_congr rfl fun k hk => by rw [hE k hk, hv k (Finset.mem_range.1 hk) d]]
  funext d
  unfold O
  rw [hR h0, hR h1]

theorem pr_eq (X : (⟨2, ![32768, 17408]⟩ : Shape).Idx → EReal) {n c : ℕ} (i : (⟨2, ![32768, 17408]⟩ : Shape).Idx) (h0 : (i 0).val = n) (h1 : (i 1).val = c) : pr X n c = (X i).toReal := by
  subst h0 h1
  unfold pr
  rw [dif_pos ⟨(i 0).isLt, (i 1).isLt⟩]
  refine congrArg (fun t => (X t).toReal) (funext fun a => ?_)
  match a with
  | ⟨0, _⟩ => rfl
  | ⟨1, _⟩ => rfl

theorem lam0_eq : Ideal.ofBits .f32 0x3E4CCCCD#32 = (lam0 : EReal) := by
  unfold lam0
  have : ∃ y : ℝ, Ideal.ofBits .f32 0x3E4CCCCD#32 = (y : EReal) := ⟨_, by simp [Ideal.ofBits, Ideal.ieee, -EReal.coe_mul]; rfl⟩
  obtain ⟨y, h⟩ := this
  rw [h, EReal.toReal_coe]

/-- The power that the slopes are taken by. -/
theorem slope_eq (h : ℕ) :
    Ideal.pow (Ideal.ofBits .f32 0x40000000#32) (Ideal.div (Ideal.ofBits .f32 0xC1000000#32 * (Ideal.ofBits .f32 0x3F800000#32 + ((h : ℝ) : EReal))) (Ideal.ofBits .f32 0x41000000#32)) = (slope h : EReal) := by
  have e2 : Ideal.ofBits .f32 0x40000000#32 = ((2 : ℝ) : EReal) := by simp [Ideal.ofBits, Ideal.ieee, -EReal.coe_mul]; norm_num
  have e8 : Ideal.ofBits .f32 0x41000000#32 = ((8 : ℝ) : EReal) := by simp [Ideal.ofBits, Ideal.ieee, -EReal.coe_mul]; norm_num
  have em : Ideal.ofBits .f32 0xC1000000#32 = ((-8 : ℝ) : EReal) := by simp [Ideal.ofBits, Ideal.ieee, -EReal.coe_mul]; norm_num
  have e1 : Ideal.ofBits .f32 0x3F800000#32 = ((1 : ℝ) : EReal) := by simp [Ideal.ofBits, Ideal.ieee, -EReal.coe_mul]; norm_num
  rw [e2, e8, em, e1, ← EReal.coe_add, ← EReal.coe_mul, Ideal.div_coe (by norm_num), ← EReal.coe_mul, Ideal.pow_coe_coe]
  rfl

/-- A sum of products of reals. -/
theorem sum_mul_coe {n : ℕ} (a b : Fin n → EReal) (ha : ∀ e, ∃ y : ℝ, a e = (y : EReal)) (hb : ∀ e, ∃ y : ℝ, b e = (y : EReal)) :
    ∑ e, a e * b e = ((∑ e, (a e).toReal * (b e).toReal : ℝ) : EReal) := by
  rw [show ((∑ e, (a e).toReal * (b e).toReal : ℝ) : EReal) = ∑ e, (((a e).toReal * (b e).toReal : ℝ) : EReal) from
    map_sum (⟨⟨fun x : ℝ => (x : EReal), EReal.coe_zero⟩, EReal.coe_add⟩ : ℝ →+ EReal) _ _]
  refine Finset.sum_congr rfl fun e _ => ?_
  obtain ⟨x, hx⟩ := ha e
  obtain ⟨y, hy⟩ := hb e
  rw [hx, hy, EReal.toReal_coe, EReal.toReal_coe, EReal.coe_mul]

/-- Every element is a real. -/
def AllReal {s : Shape} (x : s.Idx → EReal) : Prop := ∀ i, ∃ y : ℝ, x i = (y : EReal)

theorem real_of_abs {x : EReal} (h : max x (-x) < (⊤ : EReal)) : ∃ y : ℝ, x = (y : EReal) := by
  induction x with
  | bot => exact absurd h (by simp)
  | top => exact absurd h (by simp)
  | coe y => exact ⟨y, rfl⟩

theorem inf_eq : Ideal.ofBits .f32 0x7F800000#32 = (⊤ : EReal) := by simp [Ideal.ofBits, Ideal.ieee]

theorem of_olt {x : EReal} (h : Ideal.cmp .olt (max x (-x)) (Ideal.ofBits .f32 0x7F800000#32) = 1#1) : ∃ y : ℝ, x = (y : EReal) := by
  refine real_of_abs ?_
  rw [inf_eq] at h
  by_contra h'
  exact absurd h (by simp [Ideal.cmp, h'])

/-- What the precondition says. -/
theorem of_pre [Pre_finite.Facts] {x0 : FVec Ideal (⟨2, ![32768, 17408]⟩ : Shape) .bf16} {x1 x2 x3 x4 : FVec Ideal (⟨1, ![128]⟩ : Shape) .f32} {x5 : FVec Ideal (⟨2, ![8, 256]⟩ : Shape) .f32}
    (h : Pre_finite.fn (F := Ideal) x0 x1 x2 x3 x4 x5 = fun _ => 1#1) :
    AllReal (s := ⟨2, ![32768, 17408]⟩) x0 ∧ AllReal (s := ⟨1, ![128]⟩) x1 ∧ AllReal (s := ⟨1, ![128]⟩) x2 ∧ AllReal (s := ⟨1, ![128]⟩) x3 ∧ AllReal (s := ⟨1, ![128]⟩) x4 := by
  haveI : Subsingleton (⟨0, ![]⟩ : Shape).Idx := ⟨fun a b => funext fun e => e.elim0⟩
  have h := congrFun h ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => of_olt (Host.reduce_andi_all _ _ _ _ _ h0 i), fun i => of_olt (Host.reduce_andi_all _ _ _ _ _ h1 i),
    fun i => of_olt (Host.reduce_andi_all _ _ _ _ _ h2 i), fun i => of_olt (Host.reduce_andi_all _ _ _ _ _ h3 i), fun i => of_olt (Host.reduce_andi_all _ _ _ _ _ h4 i)⟩

end Cert.DiffSpec
end
-- ==== Proof.DiffHost.lean ====
/- What the host operations leave in the small table: the four vectors and the slopes; the weight of the second map and the head's
   slope as the body reads them. -/
module
public import proofs.«01_k».proof.Proof.Gen.Kernel2Ideal.Frame
public import proofs.«01_k».proof.Proof.Gen.Kernel2Ideal.Skeleton
public import proofs.«01_k».proof.Proof.DiffGoal
public import Idealize.ShloMosaic.Lib.Routing.OpsPair
public import Idealize.ShloMosaic.Lib.Routing.OpsSet
public import Idealize.ShloMosaic.Lib.Pointwise
public import Idealize.ShloMosaic.Lib.ValueIdx
public import Idealize.ShloMosaic.Lib.Pipeline.Value
@[expose] public section
noncomputable section
namespace Cert.Proof.DiffHost
open Cert.Kernel2Ideal Cert.Kernel2Ideal.Gen
open Idealize.ShloMosaic Idealize.ShloMosaic.TcCoe Idealize.SL.Sem Idealize.ShloMosaic.Routing
open Cert

/-- The first scatter's updates land in the first four rows. -/
theorem lands_a (idx : IVec S1 32) (hidx : idx (ix1 0) = 0#32) (k : S4x128.Idx) (r : Fin 8) (c : Fin 128) :
    scatter_S8x128_S1_S4x128_01_n_0_0.resultIdx? k idx = some (ix2 r c) ↔ (k 0).val = r.val ∧ (k 1).val = c.val := by
  refine (resultIdx?_ix2 scatter_S8x128_S1_S4x128_01_n_0_0 k idx r c).trans ?_
  have s0 : scatter_S8x128_S1_S4x128_01_n_0_0.start k idx 0 = (idx (ix1 0)).toInt := by
    refine congrArg (fun t => (idx t).toInt) (?_ : _ = ix1 0)
    funext a; match a with | ⟨0, _⟩ => rfl
  have s1 : scatter_S8x128_S1_S4x128_01_n_0_0.start k idx 1 = 0 := rfl
  have w0 : scatter_S8x128_S1_S4x128_01_n_0_0.window k 0 = (k 0).val := rfl
  have w1 : scatter_S8x128_S1_S4x128_01_n_0_0.window k 1 = (k 1).val := rfl
  rw [s0, s1, w0, w1, hidx]
  constructor
  · rintro ⟨a, b⟩
    simp at a b
    omega
  · rintro ⟨a, b⟩
    simp
    omega

/-- The second scatter's updates land in the first eight lanes of row 4. -/
theorem lands_b (idx : IVec S2 32) (h0 : idx (ix1 0) = 4#32) (h1 : idx (ix1 1) = 0#32) (k : S8.Idx) (r : Fin 8) (c : Fin 128) :
    scatter_S8x128_S2_S8_0_0_01_0.resultIdx? k idx = some (ix2 r c) ↔ r.val = 4 ∧ (k 0).val = c.val := by
  refine (resultIdx?_ix2 scatter_S8x128_S2_S8_0_0_01_0 k idx r c).trans ?_
  have s0 : scatter_S8x128_S2_S8_0_0_01_0.start k idx 0 = (idx (ix1 0)).toInt := by
    refine congrArg (fun t => (idx t).toInt) (?_ : _ = ix1 0)
    funext a; match a with | ⟨0, _⟩ => rfl
  have s1 : scatter_S8x128_S2_S8_0_0_01_0.start k idx 1 = (idx (ix1 1)).toInt := by
    refine congrArg (fun t => (idx t).toInt) (?_ : _ = ix1 1)
    funext a; match a with | ⟨0, _⟩ => rfl
  have w0 : scatter_S8x128_S2_S8_0_0_01_0.window k 0 = 0 := rfl
  have w1 : scatter_S8x128_S2_S8_0_0_01_0.window k 1 = (k 0).val := rfl
  rw [s0, s1, w0, w1, h0, h1]
  rw [show (4#32).toInt = 4 by decide, show (0#32).toInt = 0 by decide]
  constructor
  · rintro ⟨a, b⟩
    simp at a b
    omega
  · rintro ⟨a, b⟩
    simp
    omega

theorem table (x : S8x128.Idx → EReal) (ia : IVec S1 32) (ha : ia (ix1 0) = 0#32) (ib : IVec S2 32) (h0 : ib (ix1 0) = 4#32) (h1 : ib (ix1 1) = 0#32)
    (u : S4x128.Idx → EReal) (w : S8.Idx → EReal) (r : Fin 8) (c : Fin 128) :
    Host.scatter scatter_S8x128_S2_S8_0_0_01_0 (fun _ b => b) (Host.scatter scatter_S8x128_S1_S4x128_01_n_0_0 (fun _ b => b) x ia u) ib w (ix2 r c)
      = if h : r.val = 4 ∧ c.val < 8 then w (ix1 ⟨c.val, h.2⟩) else if h : r.val < 4 then u (ix2 ⟨r.val, h⟩ c) else x (ix2 r c) := by
  by_cases h : r.val = 4 ∧ c.val < 8
  · rw [dif_pos h]
    refine scatter_set_hit _ _ _ _ _ _ (fun k hk => congrArg w ?_) (ix1 ⟨c.val, h.2⟩) ((lands_b ib h0 h1 _ r c).2 ⟨h.1, rfl⟩)
    funext a
    match a with | ⟨0, _⟩ => exact Fin.ext ((lands_b ib h0 h1 k r c).1 hk).2
  · rw [dif_neg h, scatter_set_miss _ _ _ _ _ fun k hk => h ⟨((lands_b ib h0 h1 k r c).1 hk).1, by
      have e := ((lands_b ib h0 h1 k r c).1 hk).2
      have : (k 0).val < 8 := (k 0).isLt
      omega⟩]
    by_cases h' : r.val < 4
    · rw [dif_pos h']
      refine scatter_set_hit _ _ _ _ _ _ (fun k hk => congrArg u ?_) (ix2 ⟨r.val, h'⟩ c) ((lands_a ia ha _ r c).2 ⟨rfl, rfl⟩)
      have e := (lands_a ia ha k r c).1 hk
      funext a
      match a with
      | ⟨0, _⟩ => exact Fin.ext e.1
      | ⟨1, _⟩ => exact Fin.ext e.2
    · rw [dif_neg h', scatter_set_miss _ _ _ _ _ fun k hk => h' (by
        have e := ((lands_a ia ha k r c).1 hk).1
        have : (k 0).val < 4 := (k 0).isLt
        omega)]

/-- The four vectors one on another. -/
abbrev four (a b c d : S128.Idx → EReal) : List ((s : Shape) × (s.Idx → EReal)) :=
  [⟨S1x128, broadcastInDim S1x128 ![1] bcast_S128_S1x128_1 a⟩, ⟨S1x128, broadcastInDim S1x128 ![1] bcast_S128_S1x128_1 b⟩,
      ⟨S1x128, broadcastInDim S1x128 ![1] bcast_S128_S1x128_1 c⟩, ⟨S1x128, broadcastInDim S1x128 ![1] bcast_S128_S1x128_1 d⟩]

theorem one_row (a : S128.Idx → EReal) (l : Fin 128) : broadcastInDim S1x128 ![1] bcast_S128_S1x128_1 a (ix2 0 l) = a (ix1 l) :=
  congrArg a (by
    funext e
    match e with | ⟨0, _⟩ => rfl)

theorem row0 (a b c d : S128.Idx → EReal) (l : Fin 128) :
    concatenate S4x128 0 (four a b c d) concatenates_S1x128_S1x128_S1x128_S1x128_S4x128_d0 (ix2 (⟨0, by norm_num⟩ : Fin 4) l) = a (ix1 l) := by
  refine (concatenate_apply_piece (t := S4x128) 0 (four a b c d) concatenates_S1x128_S1x128_S1x128_S1x128_S4x128_d0 (ix2 (⟨0, by norm_num⟩ : Fin 4) l) 0 (by show 0 < 4; norm_num) S1x128
    (broadcastInDim S1x128 ![1] bcast_S128_S1x128_1 a) rfl rfl 0 (by rfl) (ix2 0 l) (fun e he => ?_) rfl).trans (one_row a l)
  match e, he with
  | ⟨0, _⟩, he => exact absurd rfl he
  | ⟨1, _⟩, _ => rfl

theorem row1 (a b c d : S128.Idx → EReal) (l : Fin 128) :
    concatenate S4x128 0 (four a b c d) concatenates_S1x128_S1x128_S1x128_S1x128_S4x128_d0 (ix2 (⟨1, by norm_num⟩ : Fin 4) l) = b (ix1 l) := by
  refine (concatenate_apply_piece (t := S4x128) 0 (four a b c d) concatenates_S1x128_S1x128_S1x128_S1x128_S4x128_d0 (ix2 (⟨1, by norm_num⟩ : Fin 4) l) 1 (by show 1 < 4; norm_num) S1x128
    (broadcastInDim S1x128 ![1] bcast_S128_S1x128_1 b) rfl rfl 1 (by rfl) (ix2 0 l) (fun e he => ?_) rfl).trans (one_row b l)
  match e, he with
  | ⟨0, _⟩, he => exact absurd rfl he
  | ⟨1, _⟩, _ => rfl

theorem row2 (a b c d : S128.Idx → EReal) (l : Fin 128) :
    concatenate S4x128 0 (four a b c d) concatenates_S1x128_S1x128_S1x128_S1x128_S4x128_d0 (ix2 (⟨2, by norm_num⟩ : Fin 4) l) = c (ix1 l) := by
  refine (concatenate_apply_piece (t := S4x128) 0 (four a b c d) concatenates_S1x128_S1x128_S1x128_S1x128_S4x128_d0 (ix2 (⟨2, by norm_num⟩ : Fin 4) l) 2 (by show 2 < 4; norm_num) S1x128
    (broadcastInDim S1x128 ![1] bcast_S128_S1x128_1 c) rfl rfl 2 (by rfl) (ix2 0 l) (fun e he => ?_) rfl).trans (one_row c l)
  match e, he with
  | ⟨0, _⟩, he => exact absurd rfl he
  | ⟨1, _⟩, _ => rfl

theorem row3 (a b c d : S128.Idx → EReal) (l : Fin 128) :
    concatenate S4x128 0 (four a b c d) concatenates_S1x128_S1x128_S1x128_S1x128_S4x128_d0 (ix2 (⟨3, by norm_num⟩ : Fin 4) l) = d (ix1 l) := by
  refine (concatenate_apply_piece (t := S4x128) 0 (four a b c d) concatenates_S1x128_S1x128_S1x128_S1x128_S4x128_d0 (ix2 (⟨3, by norm_num⟩ : Fin 4) l) 3 (by show 3 < 4; norm_num) S1x128
    (broadcastInDim S1x128 ![1] bcast_S128_S1x128_1 d) rfl rfl 3 (by rfl) (ix2 0 l) (fun e he => ?_) rfl).trans (one_row d l)
  match e, he with
  | ⟨0, _⟩, he => exact absurd rfl he
  | ⟨1, _⟩, _ => rfl

variable (m : (ℓ : Loc nD τ sig) → Buf (Elt Ideal) ℓ)

set_option maxHeartbeats 2000000 in
/-- The small table, as the host operations leave it. -/
theorem V20 (c : Dev nD) (r : Fin 8) (l : Fin 128) :
    (V m c main_v20 (ix2 r l) : EReal) = if r.val = 0 then (m ((c : Thread nD τ).loc main_arg1) (ix1 l) : EReal) else if r.val = 1 then (m ((c : Thread nD τ).loc main_arg2) (ix1 l) : EReal)
      else if r.val = 2 then (m ((c : Thread nD τ).loc main_arg3) (ix1 l) : EReal) else if r.val = 3 then (m ((c : Thread nD τ).loc main_arg4) (ix1 l) : EReal)
      else if r.val = 4 ∧ l.val < 8 then ((DiffSpec.slope l.val : ℝ) : EReal) else (0 : EReal) := by
  have e : V m c main_v20 = Host.scatter scatter_S8x128_S2_S8_0_0_01_0 (fun _ b => b)
      (Host.scatter scatter_S8x128_S1_S4x128_01_n_0_0 (fun _ b => b) (broadcastInDim S8x128 ![] bcast_S_S8x128 (constant (F := Ideal) S_ .f32 0x00000000#32))
        (broadcastInDim S1 ![] bcast_S_S1 (constantI S_ 32 0#32))
        (concatenate S4x128 0 [⟨S1x128, broadcastInDim S1x128 ![1] bcast_S128_S1x128_1 (m ((c : Thread nD τ).loc main_arg1))⟩, ⟨S1x128, broadcastInDim S1x128 ![1] bcast_S128_S1x128_1 (m ((c : Thread nD τ).loc main_arg2))⟩,
          ⟨S1x128, broadcastInDim S1x128 ![1] bcast_S128_S1x128_1 (m ((c : Thread nD τ).loc main_arg3))⟩, ⟨S1x128, broadcastInDim S1x128 ![1] bcast_S128_S1x128_1 (m ((c : Thread nD τ).loc main_arg4))⟩] concatenates_S1x128_S1x128_S1x128_S1x128_S4x128_d0))
      (concatenate S2 0 [⟨S1, broadcastInDim S1 ![] bcast_S_S1 (constantI S_ 32 4#32)⟩, ⟨S1, broadcastInDim S1 ![] bcast_S_S1 (constantI S_ 32 0#32)⟩] concatenates_S1_S1_S2_d0)
      (Host.powf (broadcastInDim S8 ![] bcast_S_S8 (constant (F := Ideal) S_ .f32 0x40000000#32))
        (Host.divf (mulf (broadcastInDim S8 ![] bcast_S_S8 (constant (F := Ideal) S_ .f32 0xC1000000#32)) (addf (broadcastInDim S8 ![] bcast_S_S8 (constant (F := Ideal) S_ .f32 0x3F800000#32)) (sitofp .f32 (iotaInDim S8 32 0))))
          (broadcastInDim S8 ![] bcast_S_S8 (constant (F := Ideal) S_ .f32 0x41000000#32)))) := by
    dsimp only [V]; unfold hostOps0; after_results <;> rfl
  rw [e, table _ _ rfl _ rfl rfl]
  have hz : (broadcastInDim S8x128 ![] bcast_S_S8x128 (constant (F := Ideal) S_ .f32 0x00000000#32) (ix2 r l) : EReal) = 0 := by
    refine Eq.trans (b := Ideal.ofBits .f32 0x00000000#32) rfl (by simp [Ideal.ofBits, Ideal.ieee])
  rw [hz]
  by_cases h : r.val = 4 ∧ l.val < 8
  · rw [dif_pos h, if_neg (by omega), if_neg (by omega), if_neg (by omega), if_neg (by omega), if_pos h]
    refine Eq.trans ?_ (DiffSpec.slope_eq l.val)
    refine Eq.trans (b := Ideal.pow (Ideal.ofBits .f32 0x40000000#32) (Ideal.div (Ideal.ofBits .f32 0xC1000000#32 * (Ideal.ofBits .f32 0x3F800000#32 + ((((BitVec.ofNat 32 l.val).toInt : ℤ) : ℝ) : EReal))) (Ideal.ofBits .f32 0x41000000#32))) rfl ?_
    have : (BitVec.ofNat 32 l.val).toInt = (l.val : ℤ) := (by decide : ∀ j : Fin 8, (BitVec.ofNat 32 j.val).toInt = (j.val : ℤ)) ⟨l.val, h.2⟩
    rw [this]; rfl
  · rw [dif_neg h]
    by_cases h' : r.val < 4
    · rw [dif_pos h']
      obtain ⟨r, hr⟩ := r
      match r, hr, h, h' with
      | 0, _, _, _ => exact (row0 _ _ _ _ l).trans rfl
      | 1, _, _, _ => exact (row1 _ _ _ _ l).trans rfl
      | 2, _, _, _ => exact (row2 _ _ _ _ l).trans rfl
      | 3, _, _, _ => exact (row3 _ _ _ _ l).trans rfl
    · rw [dif_neg h', if_neg (by omega), if_neg (by omega), if_neg (by omega), if_neg (by omega), if_neg h]

/-- The weight of the second map, as the body computes it. -/
theorem pay415_eq (x : Vec Ideal S8x128 .f32) (a b c d : S128.Idx → EReal) (ha : DiffSpec.AllReal a) (hb : DiffSpec.AllReal b) (hc : DiffSpec.AllReal c) (hd : DiffSpec.AllReal d)
    (h0 : ∀ l, (x (ix2 0 l) : EReal) = a (ix1 l)) (h1 : ∀ l, (x (ix2 1 l) : EReal) = b (ix1 l)) (h2 : ∀ l, (x (ix2 2 l) : EReal) = c (ix1 l)) (h3 : ∀ l, (x (ix2 3 l) : EReal) = d (ix1 l)) :
    (k0_pay415 (F := Ideal) x (ix2 0 0) : EReal) = ((DiffSpec.lam a b c d : ℝ) : EReal) := by
  unfold k0_pay415 k0_pay414
  simp only [pointwise]
  refine Eq.trans (b := Ideal.exp (∑ l : Fin 128, (x (ix2 0 l) : EReal) * x (ix2 1 l)) - Ideal.exp (∑ l : Fin 128, (x (ix2 2 l) : EReal) * x (ix2 3 l)) + Ideal.ofBits .f32 0x3E4CCCCD#32) ?_ ?_
  · have e : ∀ l : Fin 128, (⟨0 + l.val, by omega⟩ : Fin 128) = l := fun l => Fin.ext (Nat.zero_add _)
    refine congrArg (· + _) (congrArg₂ (fun a b => Ideal.exp a - Ideal.exp b) ?_ ?_)
    · refine Finset.sum_congr rfl fun l _ => congrArg₂ (· * ·) ?_ ?_
      · exact congrArg (fun t => x (ix2 0 t)) (e l)
      · exact congrArg (fun t => x (ix2 1 t)) (e l)
    · refine Finset.sum_congr rfl fun l _ => congrArg₂ (· * ·) ?_ ?_
      · exact congrArg (fun t => x (ix2 2 t)) (e l)
      · exact congrArg (fun t => x (ix2 3 t)) (e l)
  · simp only [h0, h1, h2, h3]
    rw [DiffSpec.sum_mul_coe (fun l => a (ix1 l)) (fun l => b (ix1 l)) (fun l => ha _) (fun l => hb _), DiffSpec.sum_mul_coe (fun l => c (ix1 l)) (fun l => d (ix1 l)) (fun l => hc _) (fun l => hd _),
      Ideal.exp_coe, Ideal.exp_coe, DiffSpec.lam0_eq, ← EReal.coe_sub, ← EReal.coe_add]
    rfl

theorem eq_word {j k : ℕ} (hj : j < 128) (hk : k < 128) : IntOp.cmpi .eq (BitVec.ofNat 32 j) (BitVec.ofNat 32 k) = if j = k then 1#1 else 0#1 := by
  have : (BitVec.ofNat 32 j = BitVec.ofNat 32 k) ↔ j = k := by
    constructor
    · intro h
      have := congrArg BitVec.toNat h
      simp only [BitVec.toNat_ofNat] at this
      omega
    · rintro rfl; rfl
  by_cases h : j = k
  · subst h; simp [IntOp.cmpi]
  · have hb : (BitVec.ofNat 32 j == BitVec.ofNat 32 k) = false := beq_eq_false_iff_ne.2 fun e => h (this.1 e)
    rw [if_neg h]
    show BitVec.ofBool (BitVec.ofNat 32 j == BitVec.ofNat 32 k) = 0#1
    rw [hb]; rfl

/-- The head's slope in the softmax's base. -/
theorem pay416_eq (i : grid0.Coords) (x : Vec Ideal S8x128 .f32) (y : ℝ) (h4 : ∀ l : Fin 128, l.val = (i 1).val → (x (ix2 4 l) : EReal) = ((y : ℝ) : EReal)) :
    (k0_pay416 (F := Ideal) i x (ix2 0 0) : EReal) = ((y * (Real.log 2)⁻¹ : ℝ) : EReal) := by
  unfold k0_pay416 k0_pay414
  simp only [pointwise]
  have hi : (i 1).val < 8 := (i 1).isLt
  refine Eq.trans (b := (∑ l : Fin 128, Scalar.select (IntOp.cmpi .eq (BitVec.ofNat 32 l.val) (BitVec.ofNat 32 (i 1).val)) (x (ix2 4 l) : EReal) 0) * (Named.named (F := Ideal) κ "log2e" (0x3FB8AA3B#32 : BitVec (FTy.bits .f32)) : Ideal .f32)) ?_ ?_
  · refine congrArg (· * _) (Finset.sum_congr rfl fun l _ => ?_)
    have e : (⟨0 + l.val, by omega⟩ : Fin 128) = l := Fin.ext (Nat.zero_add _)
    refine congrArg₂ (fun a b => Scalar.select (IntOp.cmpi .eq (BitVec.ofNat 32 a) (BitVec.ofNat 32 (i 1).val)) b (0 : EReal)) ?_ ?_
    · show 0 * 128 + l.val = l.val
      omega
    · exact congrArg (fun t => x (ix2 4 t)) e
  · have hn : (Named.named (F := Ideal) κ "log2e" (0x3FB8AA3B#32 : BitVec (FTy.bits .f32)) : Ideal .f32) = (((Real.log 2)⁻¹ : ℝ) : EReal) :=
      IdealRules.named_const.ideal_named_scalar _ _ _ _ rfl
    rw [hn]
    rw [Finset.sum_eq_single (⟨(i 1).val, by omega⟩ : Fin 128)]
    · rw [eq_word (by dsimp only; omega) (by omega), if_pos rfl, h4 _ rfl]
      rw [EReal.coe_mul]
      rfl
    · intro l _ hl
      rw [eq_word l.isLt (by omega), if_neg fun h => hl (Fin.ext h)]
      rfl
    · intro h; exact absurd (Finset.mem_univ _) h

end Cert.Proof.DiffHost
end
-- ==== Proof.DiffValue.lean ====
/- The kernel's run at the ideal instance: each grid point leaves its block of the result, the blocks cover the result. -/
module
public import proofs.«01_k».proof.Proof.DiffBody
public import proofs.«01_k».proof.Proof.DiffFinal
public import proofs.«01_k».proof.Proof.DiffHost
@[expose] public section
noncomputable section
namespace Cert.Proof.DiffValue
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Cert.Proof.DiffRun
open Cert.Kernel2Ideal Cert.Kernel2Ideal.Gen Cert.Proof.DiffMath
open Cert.DiffSpec (AllReal slope lam D O_congr pr_eq G_at)

local notation "𝕄" => MT nD τ sig Unit (Elt Ideal) ℕ (UR sig nD τ) ℕ

variable (m : (ℓ : Loc nD τ sig) → Buf (Elt Ideal) ℓ) (ρ : Dev nD → PrngReg)

/-- The whole result from the launch's arguments. -/
def G (c : Dev nD) : S32768x2048.Idx → EReal :=
  DiffSpec.G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The arguments that must be real. -/
structure Fin' (c : Dev nD) : Prop where
  hx : AllReal (s := S32768x17408) (m ((c : Thread nD τ).loc main_arg0))
  ha : AllReal (s := S128) (m ((c : Thread nD τ).loc main_arg1))
  hb : AllReal (s := S128) (m ((c : Thread nD τ).loc main_arg2))
  hc : AllReal (s := S128) (m ((c : Thread nD τ).loc main_arg3))
  hd : AllReal (s := S128) (m ((c : Thread nD τ).loc main_arg4))

set_option maxRecDepth 20000 in
/-- Where each point's blocks begin. -/
theorem starts : ∀ t : Fin cfg0.N, win0_0.index t (0 : Fin 2) = 0 ∧ win0_0.index t (1 : Fin 2) = 0
    ∧ win0_1.index t (0 : Fin 2) = (grid0.coords t 0).val * 16 + (grid0.coords t 2).val ∧ win0_1.index t (1 : Fin 2) = (grid0.coords t 1).val
    ∧ win0_2.index t (0 : Fin 2) = (grid0.coords t 0).val ∧ win0_2.index t (1 : Fin 2) = 8 + (grid0.coords t 1).val
    ∧ win0_3.index t (0 : Fin 2) = (grid0.coords t 0).val ∧ win0_3.index t (1 : Fin 2) = 16 + (grid0.coords t 1).val
    ∧ win0_4.index t (0 : Fin 3) = (grid0.coords t 1).val ∧ win0_4.index t (1 : Fin 3) = 0 ∧ win0_4.index t (2 : Fin 3) = 0
    ∧ win0_5.index t (0 : Fin 2) = (grid0.coords t 0).val * 16 + (grid0.coords t 2).val ∧ win0_5.index t (1 : Fin 2) = (grid0.coords t 1).val :=
  (by decide +kernel : ∀ t : Fin grid0.N, _)

theorem blk0 (c : Dev nD) (t : Fin cfg0.N) (r : Fin 8) (l : Fin 128) : iblk m c 0 t (ix2 r l) = V m c main_v20 (ix2 r l) := by
  show V m c main_v20 ((win0_0.rect t).emb (ix2 r l)) = _
  refine congrArg _ (funext fun a => Fin.ext ?_)
  fin_cases a
  · show win0_0.index t (0 : Fin 2) * 8 + 1 * r.val = r.val
    rw [(starts t).1]; omega
  · show win0_0.index t (1 : Fin 2) * 128 + 1 * l.val = l.val
    rw [(starts t).2.1]; omega

/-- The query block's elements. -/
theorem blk1 (c : Dev nD) (t : Fin cfg0.N) (r : Fin 1024) (e : Fin 256) : ∃ j : S32768x17408.Idx, (iblk m c 1 t (ix2 r e) : EReal) = m ((c : Thread nD τ).loc main_arg0) j
    ∧ (j 0).val = 16384 * (grid0.coords t 0).val + (1024 * (grid0.coords t 2).val + r.val) ∧ (j 1).val = 256 * (grid0.coords t 1).val + e.val := by
  obtain ⟨-, -, h0, h1, -⟩ := starts t
  refine ⟨(win0_1.rect t).emb (ix2 r e), ?_, ?_, ?_⟩
  · show V m c main_arg0 ((win0_1.rect t).emb (ix2 r e)) = _
    rw [V_main_arg0]
  · show win0_1.index t (0 : Fin 2) * 1024 + 1 * r.val = _
    rw [h0]; omega
  · show win0_1.index t (1 : Fin 2) * 256 + 1 * e.val = _
    rw [h1]; omega

/-- The key block's elements. -/
theorem blk2 (c : Dev nD) (t : Fin cfg0.N) (k : Fin 16384) (e : Fin 256) : ∃ j : S32768x17408.Idx, (iblk m c 2 t (ix2 k e) : EReal) = m ((c : Thread nD τ).loc main_arg0) j
    ∧ (j 0).val = 16384 * (grid0.coords t 0).val + k.val ∧ (j 1).val = 2048 + 256 * (grid0.coords t 1).val + e.val := by
  obtain ⟨-, -, -, -, h0, h1, -⟩ := starts t
  refine ⟨(win0_2.rect t).emb (ix2 k e), ?_, ?_, ?_⟩
  · show V m c main_arg0 ((win0_2.rect t).emb (ix2 k e)) = _
    rw [V_main_arg0]
  · show win0_2.index t (0 : Fin 2) * 16384 + 1 * k.val = _
    rw [h0]; omega
  · show win0_2.index t (1 : Fin 2) * 256 + 1 * e.val = _
    rw [h1]; omega

/-- The value block's elements. -/
theorem blk3 (c : Dev nD) (t : Fin cfg0.N) (k : Fin 16384) (e : Fin 256) : ∃ j : S32768x17408.Idx, (iblk m c 3 t (ix2 k e) : EReal) = m ((c : Thread nD τ).loc main_arg0) j
    ∧ (j 0).val = 16384 * (grid0.coords t 0).val + k.val ∧ (j 1).val = 4096 + 256 * (grid0.coords t 1).val + e.val := by
  obtain ⟨-, -, -, -, -, -, h0, h1, -⟩ := starts t
  refine ⟨(win0_3.rect t).emb (ix2 k e), ?_, ?_, ?_⟩
  · show V m c main_arg0 ((win0_3.rect t).emb (ix2 k e)) = _
    rw [V_main_arg0]
  · show win0_3.index t (0 : Fin 2) * 16384 + 1 * k.val = _
    rw [h0]; omega
  · show win0_3.index t (1 : Fin 2) * 256 + 1 * e.val = _
    rw [h1]; omega

theorem V21 (c : Dev nD) (h : Fin 8) (e : Fin 256) : V m c main_v21 (ix3 h 0 e) = m ((c : Thread nD τ).loc main_arg5) (ix2 h e) := by
  have e' : V m c main_v21 = shapeCast S8x1x256 (m ((c : Thread nD τ).loc main_arg5)) shapeCasts_S8x256_S8x1x256 := by
    dsimp only [V]; unfold hostOps0; after_results <;> rfl
  rw [e']
  simp only [pointwise]

/-- The head's gain. -/
theorem blk4 (c : Dev nD) (t : Fin cfg0.N) (e : Fin 256) : (iblk m c 4 t (ix3 0 0 e) : EReal) = m ((c : Thread nD τ).loc main_arg5) (ix2 (⟨(grid0.coords t 1).val, (grid0.coords t 1).isLt⟩ : Fin 8) e) := by
  obtain ⟨-, -, -, -, -, -, -, -, h0, h1, h2, -⟩ := starts t
  refine Eq.trans (?_ : _ = V m c main_v21 (ix3 (⟨(grid0.coords t 1).val, (grid0.coords t 1).isLt⟩ : Fin 8) 0 e)) (V21 m c _ e)
  show V m c main_v21 ((win0_4.rect t).emb (ix3 0 0 e)) = _
  refine congrArg _ (funext fun a => Fin.ext ?_)
  fin_cases a
  · show win0_4.index t (0 : Fin 3) * 1 + 1 * 0 = (grid0.coords t 1).val
    rw [h0]; omega
  · show win0_4.index t (1 : Fin 3) * 1 + 1 * 0 = 0
    rw [h1]
  · show win0_4.index t (2 : Fin 3) * 256 + 1 * e.val = e.val
    rw [h2]; omega

section
variable {m}

theorem real1 {c : Dev nD} (H : Fin' m c) (t : Fin cfg0.N) : Real2 (n := 1024) (m := 256) (iblk m c 1 t) := fun r e => by
  obtain ⟨j, h, -⟩ := blk1 m c t r e
  obtain ⟨y, hy⟩ := H.hx j
  exact ⟨y, h.trans hy⟩

theorem real2 {c : Dev nD} (H : Fin' m c) (t : Fin cfg0.N) : Real2 (n := 16384) (m := 256) (iblk m c 2 t) := fun r e => by
  obtain ⟨j, h, -⟩ := blk2 m c t r e
  obtain ⟨y, hy⟩ := H.hx j
  exact ⟨y, h.trans hy⟩

theorem real3 {c : Dev nD} (H : Fin' m c) (t : Fin cfg0.N) : Real2 (n := 16384) (m := 256) (iblk m c 3 t) := fun r e => by
  obtain ⟨j, h, -⟩ := blk3 m c t r e
  obtain ⟨y, hy⟩ := H.hx j
  exact ⟨y, h.trans hy⟩

theorem sig_eq (c : Dev nD) (t : Fin cfg0.N) :
    (k0_pay416 (F := Ideal) (grid0.coords t) (iblk m c 0 t) (ix2 0 0) : EReal) = ((slope (grid0.coords t 1).val * (Real.log 2)⁻¹ : ℝ) : EReal) :=
  DiffHost.pay416_eq (grid0.coords t) (iblk m c 0 t) _ fun l hl => by
    have hi : (grid0.coords t 1).val < 8 := (grid0.coords t 1).isLt
    rw [blk0, DiffHost.V20, if_neg (by decide), if_neg (by decide), if_neg (by decide), if_neg (by decide), if_pos ⟨rfl, by omega⟩, hl]

theorem lam_eq {c : Dev nD} (H : Fin' m c) (t : Fin cfg0.N) :
    (k0_pay415 (F := Ideal) (iblk m c 0 t) (ix2 0 0) : EReal)
      = ((lam (m ((c : Thread nD τ).loc main_arg1)) (m ((c : Thread nD τ).loc main_arg2)) (m ((c : Thread nD τ).loc main_arg3)) (m ((c : Thread nD τ).loc main_arg4)) : ℝ) : EReal) :=
  DiffHost.pay415_eq (iblk m c 0 t) _ _ _ _ H.ha H.hb H.hc H.hd
    (fun l => by rw [blk0, DiffHost.V20, if_pos (by decide)]) (fun l => by rw [blk0, DiffHost.V20, if_neg (by decide), if_pos (by decide)])
    (fun l => by rw [blk0, DiffHost.V20, if_neg (by decide), if_neg (by decide), if_pos (by decide)])
    (fun l => by rw [blk0, DiffHost.V20, if_neg (by decide), if_neg (by decide), if_neg (by decide), if_pos (by decide)])

theorem dot_eq (c : Dev nD) (t : Fin cfg0.N) (μ : Fin 2) (r : Fin 1024) (k : ℕ) (hk : k < 16384) :
    dotOf (iblk m c 1 t) (iblk m c 2 t) μ r k = D (m ((c : Thread nD τ).loc main_arg0)) (grid0.coords t 0).val (grid0.coords t 1).val μ.val (1024 * (grid0.coords t 2).val + r.val) k := by
  unfold dotOf D
  refine Finset.sum_congr rfl fun d _ => congrArg₂ (· * ·) ?_ ?_
  · obtain ⟨j, h, h0, h1⟩ := blk1 m c t r (mix μ d)
    unfold qvOf
    rw [h]
    exact (pr_eq _ j h0 h1).symm
  · obtain ⟨j, h, h0, h1⟩ := blk2 m c t ⟨k, hk⟩ (mix μ d)
    unfold kvOf
    rw [dif_pos hk, h]
    exact (pr_eq _ j h0 h1).symm

theorem val_eq (c : Dev nD) (t : Fin cfg0.N) (k : ℕ) (hk : k < 16384) (d : Fin 256) :
    kvOf (iblk m c 3 t) k d = DiffSpec.V (m ((c : Thread nD τ).loc main_arg0)) (grid0.coords t 0).val (grid0.coords t 1).val k d := by
  obtain ⟨j, h, h0, h1⟩ := blk3 m c t ⟨k, hk⟩ d
  unfold kvOf DiffSpec.V
  rw [dif_pos hk, h]
  exact (pr_eq _ j h0 h1).symm

/-- What the body leaves is the result's block. -/
theorem blk_eq {c : Dev nD} (H : Fin' m c) (t : Fin cfg0.N) (Y : Vec Ideal S1024x256 .bf16)
    (h : Blk (grid0.coords t 2).val (k0_pay415 (F := Ideal) (iblk m c 0 t)) (k0_pay416 (F := Ideal) (grid0.coords t) (iblk m c 0 t)) (iblk m c 1 t) (iblk m c 2 t) (iblk m c 3 t) (iblk m c 4 t) Y) :
    Y = (win0_5.blk t).view.read (Elt Ideal) (G m c) := by
  obtain ⟨-, -, -, -, -, -, -, -, -, -, -, h0, h1⟩ := starts t
  have hq : (grid0.coords t 2).val < 16 := (grid0.coords t 2).isLt
  have hh : (grid0.coords t 1).val < 8 := (grid0.coords t 1).isLt
  have hσ : σOf (k0_pay416 (F := Ideal) (grid0.coords t) (iblk m c 0 t)) = slope (grid0.coords t 1).val * (Real.log 2)⁻¹ := by
    unfold σOf
    rw [sig_eq, EReal.toReal_coe]
  funext j
  obtain ⟨r, d, rfl⟩ : ∃ (r : Fin 1024) (d : Fin 256), j = ix2 r d := ⟨j 0, j 1, by funext a; match a with | ⟨0, _⟩ => rfl | ⟨1, _⟩ => rfl⟩
  refine (blk_apply hq (lam_eq H t) hσ h r d).trans ?_
  show _ = G m c ((win0_5.rect t).emb (ix2 r d))
  unfold G
  rw [G_at _ _ _ _ _ _ ((win0_5.rect t).emb (ix2 r d)) (grid0.coords t 0).val (1024 * (grid0.coords t 2).val + r.val) (grid0.coords t 1).val d (by omega) hh
    (by show win0_5.index t (0 : Fin 2) * 1024 + 1 * r.val = _; rw [h0]; omega) (by show win0_5.index t (1 : Fin 2) * 256 + 1 * d.val = _; rw [h1]; omega)]
  rw [blk4, O_congr _ _ _ (dot_eq c t 0 r) (dot_eq c t 1 r) (val_eq c t)]
  rfl
end

/-- The pipeline's proof data: the arrays as the region finds them, each input's buffer at its block after the body;
    the result's at its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (win0_5.blk t).view.read (Elt Ideal) (G m c)
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d

/-- The scoped buffers beside the staging buffers are the scratch. -/
theorem scoped_scratch (c : Dev nD) :
    (Pipeline.scopedRest (Ix := Unit) (Name := ℕ) (U := UR sig nD τ) (Lvl := ℕ) (Val := Elt Ideal) spec0 c : sProp 𝕄)
      = scratch c (Memref.whole cc0_scratch0) (Memref.whole cc0_scratch1) (Memref.whole cc0_scratch2) (Memref.whole cc0_scratch3) (Memref.whole cc0_scratch4) := by
  rw [scopedRest0_eq]
  unfold scratch DiffRun.some
  simp only [Memref.view_whole, View.set_whole]

theorem after5 (c : Dev nD) (t : Fin cfg0.N) : (dats m 0 c).after 5 t = (win0_5.blk t).view.read (Elt Ideal) (G m c) := by dsimp only [dats]

theorem row (t : Fin cfg0.N) : defs₀ (F := Ideal) .tc cfg0.body (cfg0.bodyArgs t (cfg0.slots t)) = bodyAt0 t := by
  unfold defs₀; rw [Defs.onTc_tc]

set_option maxHeartbeats 1000000 in
/-- The body at any point. -/
theorem sound_body (c : Dev nD) (H : Fin' m c) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := Ideal)) Variants.none c none) Set.univ (bodyAt0 t) (fun _ => iprop(
      (dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t))) := by
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5]
  unfold bodyAt0
  simp only [before0, before1, before2, before3, before4]
  unfold Pipeline.ΦA
  rw [scoped_scratch]
  iintro ⟨⟨HS, HP⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := Ideal)) Variants.none (c : Thread nD τ) none) Set.univ)
  isplitl [HS H0 H1 H2 H3 H4 H5]
  · iapply (body_run c Set.univ (grid0.coords t) _ _ _ _ _ _ _ _ _ _ _ _ _ _ _ _ _ _ _ _ _ _ (iblk m c 0 t) (iblk m c 1 t) (iblk m c 2 t) (iblk m c 3 t) (iblk m c 4 t)
      (by unfold σOf; rw [sig_eq, EReal.toReal_coe]) (real1 H t) (real2 H t) (real3 H t))
    isplitl [H0]; · iexact H0
    isplitl [H1]; · iexact H1
    isplitl [H2]; · iexact H2
    isplitl [H3]; · iexact H3
    isplitl [H4]; · iexact H4
    isplitl [H5]; · iexists _; iexact H5
    iexact HS
  iintro %_ ⟨H0, H1, H2, H3, H4, ⟨%Y, H5, %hY⟩, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  rw [← blk_eq H t Y hY]
  iexact H5

/-- The body obligation at every point. -/
theorem body_obligation (c : Dev nD) (H : Fin' m c) : BodyObligation (dats m 0 c) (defs₀ (F := Ideal)) Variants.none () Set.univ := fun t => by
  rw [bigSep_W0, bigSep_W0, row]
  exact triple_restated (sound_body m c H t) rfl .rfl fun _ => .rfl

set_option backward.isDefEq.respectTransparency.types false in
set_option maxHeartbeats 800000 in
/-- The run. -/
theorem run_main (H : ∀ c, Fin' m c) : θ_run defs (onTc (τ := τ) (main (F := Ideal))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
      (hbody := fun c => (body_obligation m c (H c)).loose) (hq := fun c w _ => rfl)
      (howed := fun _ _ => rfl) (V := V m) (hmain := hmain m Variants.none) (hA := A_eq m) (hΦ := fun _ _ => rfl)

theorem coords : ∀ t : Fin cfg0.N, (grid0.coords t 0).val = t.val / 128 ∧ (grid0.coords t 1).val = t.val / 16 % 8 ∧ (grid0.coords t 2).val = t.val % 16 :=
  (by decide +kernel : ∀ t : Fin grid0.N, _)

theorem cover (i : S32768x2048.Idx) : ∃ t : Fin cfg0.N, (cfg0.win 5).flush t = true ∧ i ∈ ((cfg0.win 5).blk t).view.set := by
  have h0 : (i 0).val < 32768 := (i 0).isLt
  have h1 : (i 1).val < 2048 := (i 1).isLt
  have hN : cfg0.N = 256 := by decide
  let t : Fin cfg0.N := ⟨(i 0).val / 16384 * 128 + (i 1).val / 256 * 16 + (i 0).val / 1024 % 16, by omega⟩
  have ht : t.val = (i 0).val / 16384 * 128 + (i 1).val / 256 * 16 + (i 0).val / 1024 % 16 := rfl
  obtain ⟨-, -, -, -, -, -, -, -, -, -, -, e0, e1⟩ := starts t
  obtain ⟨c0, c1, c2⟩ := coords t
  rw [c0, c2] at e0
  rw [c1] at e1
  refine ⟨t, flush0_5 t, ?_⟩
  show i ∈ ((View.whole main_v22).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 256 ≤ (i 1).val ∧ (i 1).val < win0_5.index t (1 : Fin 2) * 256 + 256
    rw [e1]; omega

theorem flushed5 (c : Dev nD) (t : Fin cfg0.N) : (dats m 0 c).flushed 5 t = (win0_5.blk t).view.read (Elt Ideal) (G m c) := by
  rfl

/-- After the run the result array holds the result. -/
theorem final (c : Dev nD) : (dats m 0 c).arrAt 5 cfg0.N = G m c :=
  (dats m 0 c).arrAt_eq_of_cover 5 (G m c) (fun t _ => flushed5 m c t) cover

end Cert.Proof.DiffValue
end
-- ==== Proof.DiffRef.lean ====
/- The reference's differential attention, operation by operation: the logits, the softmax over the causal keys, the difference of the
   maps, the values, the norm. -/
module
public import proofs.«01_k».proof.Proof.Gen.Reference2Ideal.Read
public import proofs.«01_k».proof.Proof.DiffGoal
public import Idealize.ShloMosaic.Lib.Pointwise
@[expose] public section
noncomputable section
namespace Cert.Proof.DiffRef
open Cert.Reference2Ideal Cert.Reference2Ideal.Gen Cert.Reference2Ideal.Read
open Idealize.ShloMosaic Idealize.ShloMosaic.TcCoe Idealize.SL.Sem
open Cert.DiffSpec (AllReal slope lam D E R O norm O_congr pr pr_eq G_at sum_mul_coe)

variable (X : (⟨S32768x17408, .bf16⟩ : BufTy).Contents (Elt Ideal))

theorem q_eq (i : S2x16384x8x2x128.Idx) : ∃ j : S32768x17408.Idx, (val_main_v2 (F := Ideal) X i : EReal) = X j
    ∧ (j 0).val = 16384 * (i 0).val + (i 1).val ∧ (j 1).val = 256 * (i 2).val + (128 * (i 3).val + (i 4).val) := by
  have h0 : (i 0).val < 2 := (i 0).isLt
  have h1 : (i 1).val < 16384 := (i 1).isLt
  have h2 : (i 2).val < 8 := (i 2).isLt
  have h3 : (i 3).val < 2 := (i 3).isLt
  have h4 : (i 4).val < 128 := (i 4).isLt
  refine ⟨idx_main_v0 (idx_main_v2 i), ?_, ?_, ?_⟩
  · rw [val_main_v2_apply, val_main_v1_apply, val_main_v0_apply]; rfl
  · show (((((i 0).val * 16384 + (i 1).val) * 8 + (i 2).val) * 2 + (i 3).val) * 128 + (i 4).val) / 2048 = _
    omega
  · show (((((i 0).val * 16384 + (i 1).val) * 8 + (i 2).val) * 2 + (i 3).val) * 128 + (i 4).val) % 2048 = _
    omega

theorem k_eq (i : S2x16384x8x2x128.Idx) : ∃ j : S32768x17408.Idx, (val_main_v5 (F := Ideal) X i : EReal) = X j
    ∧ (j 0).val = 16384 * (i 0).val + (i 1).val ∧ (j 1).val = 2048 + 256 * (i 2).val + (128 * (i 3).val + (i 4).val) := by
  have h0 : (i 0).val < 2 := (i 0).isLt
  have h1 : (i 1).val < 16384 := (i 1).isLt
  have h2 : (i 2).val < 8 := (i 2).isLt
  have h3 : (i 3).val < 2 := (i 3).isLt
  have h4 : (i 4).val < 128 := (i 4).isLt
  refine ⟨idx_main_v3 (idx_main_v5 i), ?_, ?_, ?_⟩
  · rw [val_main_v5_apply, val_main_v4_apply, val_main_v3_apply]; rfl
  · show (((((i 0).val * 16384 + (i 1).val) * 8 + (i 2).val) * 2 + (i 3).val) * 128 + (i 4).val) / 2048 = _
    omega
  · show 2048 + (((((i 0).val * 16384 + (i 1).val) * 8 + (i 2).val) * 2 + (i 3).val) * 128 + (i 4).val) % 2048 = _
    omega

theorem v_eq (i : S2x16384x8x256.Idx) : ∃ j : S32768x17408.Idx, (val_main_v8 (F := Ideal) X i : EReal) = X j
    ∧ (j 0).val = 16384 * (i 0).val + (i 1).val ∧ (j 1).val = 4096 + 256 * (i 2).val + (i 3).val := by
  have h0 : (i 0).val < 2 := (i 0).isLt
  have h1 : (i 1).val < 16384 := (i 1).isLt
  have h2 : (i 2).val < 8 := (i 2).isLt
  have h3 : (i 3).val < 256 := (i 3).isLt
  refine ⟨idx_main_v6 (idx_main_v8 i), ?_, ?_, ?_⟩
  · rw [val_main_v8_apply, val_main_v7_apply, val_main_v6_apply]; rfl
  · show ((((i 0).val * 16384 + (i 1).val) * 8 + (i 2).val) * 256 + (i 3).val) / 2048 = _
    omega
  · show 4096 + ((((i 0).val * 16384 + (i 1).val) * 8 + (i 2).val) * 256 + (i 3).val) % 2048 = _
    omega

variable {X}

/-- The products of the queries and keys. -/
theorem dot_eq (hX : AllReal (s := S32768x17408) X) (i : S2x8x2x16384x16384.Idx) :
    (val_main_v26 (F := Ideal) X i : EReal) = ((D X (i 0).val (i 1).val (i 2).val (i 3).val (i 4).val : ℝ) : EReal) := by
  rw [val_main_v26_apply]
  refine (sum_mul_coe (fun k => (val_main_v2 (F := Ideal) X (lidx_main_v26 i k) : EReal)) (fun k => (val_main_v5 (F := Ideal) X (ridx_main_v26 i k) : EReal)) (fun k => ?_) (fun k => ?_)).trans (congrArg Real.toEReal ?_)
  · obtain ⟨j, h, -⟩ := q_eq X (lidx_main_v26 i k)
    obtain ⟨y, hy⟩ := hX j
    exact ⟨y, h.trans hy⟩
  · obtain ⟨j, h, -⟩ := k_eq X (ridx_main_v26 i k)
    obtain ⟨y, hy⟩ := hX j
    exact ⟨y, h.trans hy⟩
  · unfold D
    refine Finset.sum_congr rfl fun d _ => congrArg₂ (· * ·) ?_ ?_
    · obtain ⟨j, h, h0, h1⟩ := q_eq X (lidx_main_v26 i d)
      rw [h]; exact (pr_eq X j h0 h1).symm
    · obtain ⟨j, h, h0, h1⟩ := k_eq X (ridx_main_v26 i d)
      rw [h]; exact (pr_eq X j h0 h1).symm

theorem log_two : (val_main_v27 (F := Ideal) ix0 : EReal) = ((Real.log 2 : ℝ) : EReal) := by
  rw [val_main_v27_apply, val_main_cst_6_apply]
  show Ideal.log (Ideal.ofBits .f32 0x40000000#32) = _
  have e2 : Ideal.ofBits .f32 0x40000000#32 = ((2 : ℝ) : EReal) := by simp [Ideal.ofBits, Ideal.ieee, -EReal.coe_mul]; norm_num
  rw [e2]
  exact (Ideal.log_coe 2).trans (by norm_num)

theorem slopes (h : Fin 8) : (val_main_v25 (F := Ideal) (ix1 h) : EReal) = ((slope h.val : ℝ) : EReal) := by
  refine Eq.trans ?_ (DiffSpec.slope_eq h.val)
  rw [val_main_v25_apply, val_main_v24_apply, val_main_v23_apply, val_main_v22_apply, val_main_v21_apply, val_main_v20_apply, val_main_v19_apply, val_main_v18_apply,
    val_main_cst_2_apply, val_main_cst_3_apply, val_main_cst_4_apply, val_main_cst_5_apply]
  refine Eq.trans (b := Ideal.pow (Ideal.ofBits .f32 0x40000000#32) (Ideal.div (Ideal.ofBits .f32 0xC1000000#32 * (Ideal.ofBits .f32 0x3F800000#32 + ((((BitVec.ofNat 32 h.val).toInt : ℤ) : ℝ) : EReal))) (Ideal.ofBits .f32 0x41000000#32))) rfl ?_
  rw [(by decide : ∀ j : Fin 8, (BitVec.ofNat 32 j.val).toInt = (j.val : ℤ)) h]; rfl

theorem int_sub {a b : ℕ} (ha : a < 16384) (hb : b < 16384) : (BitVec.ofNat 32 a - BitVec.ofNat 32 b).toInt = (a : ℤ) - b := by
  have e : ∀ n : ℕ, n < 16384 → (BitVec.ofNat 32 n).toInt = (n : ℤ) := fun n hn => by
    rw [BitVec.toInt_eq_toNat_cond, BitVec.toNat_ofNat, Nat.mod_eq_of_lt (by omega), if_pos (by omega)]
  rw [BitVec.toInt_sub, e a ha, e b hb, Int.bmod_def]
  split <;> omega

theorem dist_eq (i : S16384x16384.Idx) : val_main_v35 (F := Ideal) i = BitVec.ofNat 32 (i 0).val - BitVec.ofNat 32 (i 1).val := by
  rw [val_main_v35_apply, val_main_v34_apply, val_main_v33_apply, val_main_v32_apply, val_main_v31_apply, val_main_v30_apply, val_main_v30_apply]
  rfl

theorem bias_eq (i : S2x8x2x16384x16384.Idx) :
    (val_main_v45 (F := Ideal) i : EReal) = ((-slope (i 1).val * (((i 3).val : ℝ) - ((i 4).val : ℝ)) : ℝ) : EReal) := by
  have h3 : (i 3).val < 16384 := (i 3).isLt
  have h4 : (i 4).val < 16384 := (i 4).isLt
  rw [val_main_v45_apply, val_main_v42_apply, val_main_v41_apply, val_main_v40_apply, val_main_v39_apply, val_main_v38_apply, val_main_v37_apply, val_main_v36_apply, dist_eq]
  refine Eq.trans (b := -((slope (i 1).val : ℝ) : EReal) * ((((BitVec.ofNat 32 (i 3).val - BitVec.ofNat 32 (i 4).val).toInt : ℝ) : EReal))) ?_ ?_
  · refine Eq.trans (b := -(val_main_v25 (F := Ideal) (ix1 (i 1)) : EReal) * ((((BitVec.ofNat 32 (i 3).val - BitVec.ofNat 32 (i 4).val).toInt : ℝ) : EReal))) rfl ?_
    exact congrArg (fun t : EReal => -t * ((((BitVec.ofNat 32 (i 3).val - BitVec.ofNat 32 (i 4).val).toInt : ℝ) : EReal))) (slopes (i 1))
  · rw [int_sub h3 h4, ← EReal.coe_neg, ← EReal.coe_mul]
    push_cast; rfl

theorem mask_eq (i : S2x8x2x16384x16384.Idx) : val_main_call0_v1 (F := Ideal) i = if (i 4).val ≤ (i 3).val then 1#1 else 0#1 := by
  have h3 : (i 3).val < 16384 := (i 3).isLt
  have h4 : (i 4).val < 16384 := (i 4).isLt
  rw [val_main_call0_v1_apply, val_main_v44_apply, val_main_v43_apply, val_main_c_apply, dist_eq]
  refine Eq.trans (b := if (0#32).toInt ≤ (BitVec.ofNat 32 (i 3).val - BitVec.ofNat 32 (i 4).val).toInt then 1#1 else 0#1) ?_ ?_
  · refine Eq.trans (b := IntOp.cmpi .sge (BitVec.ofNat 32 (i 3).val - BitVec.ofNat 32 (i 4).val) 0#32) rfl ?_
    generalize BitVec.ofNat 32 (i 3).val - BitVec.ofNat 32 (i 4).val = w
    simp only [IntOp.cmpi, BitVec.sle]
    by_cases h : (0#32).toInt ≤ w.toInt
    · rw [if_pos h, decide_eq_true h]; rfl
    · rw [if_neg h, decide_eq_false h]; rfl
  · rw [int_sub h3 h4]
    refine if_congr ?_ rfl rfl
    rw [show (0#32).toInt = 0 from rfl]; omega

/-- The logits. -/
theorem logit (hX : AllReal (s := S32768x17408) X) (i : S2x8x2x16384x16384.Idx) :
    (val_main_v47 (F := Ideal) X i : EReal) = if (i 4).val ≤ (i 3).val then
      ((D X (i 0).val (i 1).val (i 2).val (i 3).val (i 4).val * Real.log 2 + -slope (i 1).val * (((i 3).val : ℝ) - ((i 4).val : ℝ)) : ℝ) : EReal) else ⊥ := by
  rw [val_main_v47_apply, mask_eq, val_main_v46_apply, val_main_v29_apply, val_main_v28_apply, val_main_call0_v2_apply, val_main_call0_v0_apply, val_main_cst_7_apply]
  by_cases h : (i 4).val ≤ (i 3).val
  · rw [if_pos h, if_pos h]
    refine Eq.trans (b := (val_main_v26 (F := Ideal) X i : EReal) * (val_main_v27 (F := Ideal) ix0 : EReal) + (val_main_v45 (F := Ideal) i : EReal)) ?_ ?_
    · rfl
    · rw [dot_eq hX, log_two, bias_eq, ← EReal.coe_mul, ← EReal.coe_add]
  · rw [if_neg h, if_neg h]
    refine Eq.trans (b := Ideal.ofBits .f32 0xFF800000#32) ?_ (by simp [Ideal.ofBits, Ideal.ieee])
    rfl

theorem fold_real {n : ℕ} (b : EReal) (f : Fin n → EReal) (hb : b ≠ ⊤) (hf : ∀ k, f k ≠ ⊤) (k : Fin n) (hk : f k ≠ ⊥) :
    ∃ M : ℝ, Finset.fold max b f Finset.univ = (M : EReal) := by
  have h1 : Finset.fold max b f Finset.univ < ⊤ := (Finset.fold_max_lt _).2 ⟨lt_top_iff_ne_top.2 hb, fun x _ => lt_top_iff_ne_top.2 (hf x)⟩
  have h2 : ⊥ < Finset.fold max b f Finset.univ := (Finset.lt_fold_max _).2 (Or.inr ⟨k, Finset.mem_univ k, bot_lt_iff_ne_bot.2 hk⟩)
  exact ⟨_, (EReal.coe_toReal h1.ne h2.ne').symm⟩

theorem negInf : Ideal.ofBits .f32 0xFF800000#32 = (⊥ : EReal) := by simp [Ideal.ofBits, Ideal.ieee]

theorem rowmax (hX : AllReal (s := S32768x17408) X) (i : S2x8x2x16384.Idx) : ∃ M : ℝ, (val_main_v50 (F := Ideal) X i : EReal) = (M : EReal) := by
  rw [val_main_v50_apply, val_main_v49_apply, val_main_cst_9_apply]
  unfold val_main_v48
  simp only [pointwise]
  obtain ⟨M, hM⟩ := fold_real (val_main_cst_8 (F := Ideal) (Shape.Idx.first h_S_)) (fun k => (val_main_v47 (F := Ideal) X (ix5 (i 0) (i 1) (i 2) (i 3) k) : EReal))
    (by rw [val_main_cst_8_apply]; exact fun h => bot_ne_top (negInf.symm.trans h))
    (fun k => by rw [logit hX]; split; exacts [EReal.coe_ne_top _, bot_ne_top])
    (i 3) (by refine ne_of_eq_of_ne ((logit hX _).trans (if_pos (le_refl (i 3).val))) (EReal.coe_ne_bot _))
  refine ⟨M, ?_⟩
  rw [hM]
  refine (congrArg (fun t : EReal => max t (M : EReal)) negInf).trans (max_eq_right bot_le)

/-- The weights' numerators. -/
theorem weights (hX : AllReal (s := S32768x17408) X) (j : S2x8x2x16384.Idx) : ∃ C : ℝ, 0 < C ∧ ∀ k : Fin 16384,
    (val_main_v54 (F := Ideal) X (idx_main_v55 j k) : EReal)
      = ((C * E (slope (j 1).val) (D X (j 0).val (j 1).val (j 2).val (j 3).val) (j 3).val k.val : ℝ) : EReal) := by
  obtain ⟨M, hM⟩ := rowmax hX j
  refine ⟨Real.exp (-M), Real.exp_pos _, fun k => ?_⟩
  have e : idx_main_v51 (idx_main_v52 (idx_main_v55 j k)) = j := funext fun a => by
    match a with
    | ⟨0, _⟩ => rfl
    | ⟨1, _⟩ => rfl
    | ⟨2, _⟩ => rfl
    | ⟨3, _⟩ => rfl
  rw [val_main_v54_apply, val_main_v53_apply, val_main_v52_apply, val_main_v51_apply, e]
  refine Eq.trans (b := Ideal.exp ((val_main_v47 (F := Ideal) X (idx_main_v55 j k) : EReal) - (val_main_v50 (F := Ideal) X j : EReal))) rfl ?_
  rw [hM]
  refine (congrArg (fun t : EReal => Ideal.exp (t - (M : EReal))) (logit hX (idx_main_v55 j k))).trans ?_
  show Ideal.exp ((if k.val ≤ (j 3).val then
      ((D X (j 0).val (j 1).val (j 2).val (j 3).val k.val * Real.log 2 + -slope (j 1).val * (((j 3).val : ℝ) - (k.val : ℝ)) : ℝ) : EReal) else ⊥) - (M : EReal)) = _
  unfold E
  by_cases h : k.val ≤ (j 3).val
  · rw [if_pos h, if_pos h, ← EReal.coe_sub, Ideal.exp_coe, ← Real.exp_add]
    refine congrArg (fun t : ℝ => ((Real.exp t : ℝ) : EReal)) ?_
    ring
  · rw [if_neg h, if_neg h, mul_zero]
    rw [EReal.bot_sub, Ideal.exp_bot]; rfl

theorem sum_real {n : ℕ} (f : Fin n → EReal) (g : ℕ → ℝ) (h : ∀ k : Fin n, f k = ((g k.val : ℝ) : EReal)) :
    ∑ k : Fin n, f k = ((∑ k ∈ Finset.range n, g k : ℝ) : EReal) := by
  rw [← Fin.sum_univ_eq_sum_range, show ((∑ k : Fin n, g k.val : ℝ) : EReal) = ∑ k : Fin n, ((g k.val : ℝ) : EReal) from
    map_sum (⟨⟨fun x : ℝ => (x : EReal), EReal.coe_zero⟩, EReal.coe_add⟩ : ℝ →+ EReal) _ _]
  exact Finset.sum_congr rfl fun k _ => h k

theorem quot {C x y : ℝ} (hC : 0 < C) (hy : 0 < y) : Ideal.div ((C * x : ℝ) : EReal) ((C * y : ℝ) : EReal) = ((x / y : ℝ) : EReal) := by
  have hC' := hC.ne'
  have hy' := hy.ne'
  rw [Ideal.div_coe (mul_ne_zero hC' hy'), ← EReal.coe_mul]
  refine congrArg Real.toEReal ?_
  field_simp

/-- The weights. -/
theorem attn (hX : AllReal (s := S32768x17408) X) (j : S2x8x2x16384.Idx) (k : Fin 16384) :
    (val_main_v58 (F := Ideal) X (idx_main_v55 j k) : EReal)
      = ((E (slope (j 1).val) (D X (j 0).val (j 1).val (j 2).val (j 3).val) (j 3).val k.val
          / ∑ l ∈ Finset.range 16384, E (slope (j 1).val) (D X (j 0).val (j 1).val (j 2).val (j 3).val) (j 3).val l : ℝ) : EReal) := by
  have h3 : (j 3).val < 16384 := (j 3).isLt
  obtain ⟨C, hC, hw⟩ := weights hX j
  have e : idx_main_v56 (idx_main_v57 (idx_main_v55 j k)) = j := funext fun a => by
    match a with
    | ⟨0, _⟩ => rfl
    | ⟨1, _⟩ => rfl
    | ⟨2, _⟩ => rfl
    | ⟨3, _⟩ => rfl
  have hs : (val_main_v55 (F := Ideal) X j : EReal)
      = ((C * ∑ l ∈ Finset.range 16384, E (slope (j 1).val) (D X (j 0).val (j 1).val (j 2).val (j 3).val) (j 3).val l : ℝ) : EReal) := by
    rw [val_main_v55_apply, Finset.mul_sum]
    refine Eq.trans (b := (0 : EReal) + ∑ k : Fin 16384, (val_main_v54 (F := Ideal) X (idx_main_v55 j k) : EReal)) ?_ ?_
    · exact congrArg (fun t : EReal => t + ∑ k : Fin 16384, (val_main_v54 (F := Ideal) X (idx_main_v55 j k) : EReal)) Ideal.ofBits_zero_f32
    · rw [zero_add]; exact sum_real _ _ hw
  rw [val_main_v58_apply, val_main_v57_apply, val_main_v56_apply, e]
  refine Eq.trans (b := Ideal.div (val_main_v54 (F := Ideal) X (idx_main_v55 j k) : EReal) (val_main_v55 (F := Ideal) X j : EReal)) rfl ?_
  rw [hs, hw k]
  exact quot hC (DiffSpec.E_sum_pos _ _ _ _ (by norm_num))

variable {a b c d : (⟨S128, .f32⟩ : BufTy).Contents (Elt Ideal)}

theorem dots_eq (ha : AllReal (s := S128) a) (hb : AllReal (s := S128) b) :
    (∑ j : S128.Idx, (a j : EReal) * (b j : EReal)) = ((∑ i : Fin 128, (a (ix1 i) : EReal).toReal * (b (ix1 i) : EReal).toReal : ℝ) : EReal) := by
  refine Eq.trans (Fintype.sum_equiv (⟨fun j => j 0, fun i => ix1 i, fun j => funext fun z => ?_, fun i => rfl⟩ : S128.Idx ≃ Fin 128) _
    (fun i => (a (ix1 i) : EReal) * (b (ix1 i) : EReal)) fun j => ?_) (sum_mul_coe (fun i => (a (ix1 i) : EReal)) (fun i => (b (ix1 i) : EReal)) (fun i => ha (ix1 i)) (fun i => hb (ix1 i)))
  · match z with
    | ⟨0, _⟩ => rfl
  · have e : j = ix1 (j 0) := funext fun z => by
      match z with
      | ⟨0, _⟩ => rfl
    exact congrArg (fun t => (a t : EReal) * (b t : EReal)) e

theorem lam_eq (ha : AllReal (s := S128) a) (hb : AllReal (s := S128) b) (hc : AllReal (s := S128) c) (hd : AllReal (s := S128) d) (z : S_.Idx) :
    (val_main_v16 (F := Ideal) a b c d z : EReal) = ((lam a b c d : ℝ) : EReal) := by
  rw [val_main_v16_apply, val_main_v15_apply, val_main_v14_apply, val_main_v11_apply, val_main_v10_apply, val_main_v13_apply]
  refine Eq.trans (b := Ideal.exp (Ideal.ofBits .f32 0#32 + ∑ j : S128.Idx, (a j : EReal) * (b j : EReal)) - Ideal.exp (Ideal.ofBits .f32 0#32 + ∑ j : S128.Idx, (c j : EReal) * (d j : EReal)) + Ideal.ofBits .f32 0x3E4CCCCD#32) rfl ?_
  rw [show Ideal.ofBits .f32 0#32 = 0 from Ideal.ofBits_zero_f32, zero_add, zero_add, dots_eq ha hb, dots_eq hc hd, Ideal.exp_coe, Ideal.exp_coe, DiffSpec.lam0_eq, ← EReal.coe_sub, ← EReal.coe_add]
  rfl

theorem map0 (r : S2x8x16384x16384.Idx) : idx_main_v59 (idx_main_v60 r) = idx_main_v55 (ix4 (r 0) (r 1) (0 : Fin 2) (r 2)) (r 3) := by
  have h0 : (r 0).val < 2 := (r 0).isLt
  have h1 : (r 1).val < 8 := (r 1).isLt
  have h2 : (r 2).val < 16384 := (r 2).isLt
  have h3 : (r 3).val < 16384 := (r 3).isLt
  refine funext fun z => Fin.ext ?_
  match z with
  | ⟨0, _⟩ => show ((((r 0).val * 8 + (r 1).val) * 16384 + (r 2).val) * 16384 + (r 3).val) / 2147483648 = (r 0).val; omega
  | ⟨1, _⟩ => show ((((r 0).val * 8 + (r 1).val) * 16384 + (r 2).val) * 16384 + (r 3).val) / 268435456 % 8 = (r 1).val; omega
  | ⟨2, _⟩ => rfl
  | ⟨3, _⟩ => show ((((r 0).val * 8 + (r 1).val) * 16384 + (r 2).val) * 16384 + (r 3).val) / 16384 % 16384 = (r 2).val; omega
  | ⟨4, _⟩ => show ((((r 0).val * 8 + (r 1).val) * 16384 + (r 2).val) * 16384 + (r 3).val) % 16384 = (r 3).val; omega

theorem map1 (r : S2x8x16384x16384.Idx) : idx_main_v61 (idx_main_v62 r) = idx_main_v55 (ix4 (r 0) (r 1) (1 : Fin 2) (r 2)) (r 3) := by
  have h0 : (r 0).val < 2 := (r 0).isLt
  have h1 : (r 1).val < 8 := (r 1).isLt
  have h2 : (r 2).val < 16384 := (r 2).isLt
  have h3 : (r 3).val < 16384 := (r 3).isLt
  refine funext fun z => Fin.ext ?_
  match z with
  | ⟨0, _⟩ => show ((((r 0).val * 8 + (r 1).val) * 16384 + (r 2).val) * 16384 + (r 3).val) / 2147483648 = (r 0).val; omega
  | ⟨1, _⟩ => show ((((r 0).val * 8 + (r 1).val) * 16384 + (r 2).val) * 16384 + (r 3).val) / 268435456 % 8 = (r 1).val; omega
  | ⟨2, _⟩ => rfl
  | ⟨3, _⟩ => show ((((r 0).val * 8 + (r 1).val) * 16384 + (r 2).val) * 16384 + (r 3).val) / 16384 % 16384 = (r 2).val; omega
  | ⟨4, _⟩ => show ((((r 0).val * 8 + (r 1).val) * 16384 + (r 2).val) * 16384 + (r 3).val) % 16384 = (r 3).val; omega

/-- The weights of the second map taken from those of the first. -/
theorem diff (hX : AllReal (s := S32768x17408) X) (ha : AllReal (s := S128) a) (hb : AllReal (s := S128) b) (hc : AllReal (s := S128) c) (hd : AllReal (s := S128) d)
    (r : S2x8x16384x16384.Idx) :
    (val_main_v65 (F := Ideal) X a b c d r : EReal)
      = ((E (slope (r 1).val) (D X (r 0).val (r 1).val 0 (r 2).val) (r 2).val (r 3).val / (∑ l ∈ Finset.range 16384, E (slope (r 1).val) (D X (r 0).val (r 1).val 0 (r 2).val) (r 2).val l)
          - lam a b c d * (E (slope (r 1).val) (D X (r 0).val (r 1).val 1 (r 2).val) (r 2).val (r 3).val
            / (∑ l ∈ Finset.range 16384, E (slope (r 1).val) (D X (r 0).val (r 1).val 1 (r 2).val) (r 2).val l)) : ℝ) : EReal) := by
  rw [val_main_v65_apply, val_main_v64_apply, val_main_v63_apply, val_main_v62_apply, val_main_v61_apply, val_main_v60_apply, val_main_v59_apply, map0, map1]
  refine Eq.trans (b := (val_main_v58 (F := Ideal) X (idx_main_v55 (ix4 (r 0) (r 1) (0 : Fin 2) (r 2)) (r 3)) : EReal)
    - (val_main_v16 (F := Ideal) a b c d (idx_main_v63 r) : EReal) * (val_main_v58 (F := Ideal) X (idx_main_v55 (ix4 (r 0) (r 1) (1 : Fin 2) (r 2)) (r 3)) : EReal)) rfl ?_
  rw [lam_eq ha hb hc hd]
  refine (congrArg₂ (fun s t : EReal => s - ((lam a b c d : ℝ) : EReal) * t) (attn hX (ix4 (r 0) (r 1) (0 : Fin 2) (r 2)) (r 3)) (attn hX (ix4 (r 0) (r 1) (1 : Fin 2) (r 2)) (r 3))).trans ?_
  rw [← EReal.coe_mul, ← EReal.coe_sub]
  rfl

/-- The attention's output, before the norm. -/
theorem out (hX : AllReal (s := S32768x17408) X) (ha : AllReal (s := S128) a) (hb : AllReal (s := S128) b) (hc : AllReal (s := S128) c) (hd : AllReal (s := S128) d)
    (i : S2x16384x8x256.Idx) (e : Fin 256) (he : (i 3).val = e.val) :
    (val_main_v67 (F := Ideal) X a b c d i : EReal)
      = ((O (lam a b c d) (slope (i 2).val) (D X (i 0).val (i 2).val 0 (i 1).val) (D X (i 0).val (i 2).val 1 (i 1).val) (DiffSpec.V X (i 0).val (i 2).val) (i 1).val e : ℝ) : EReal) := by
  rw [val_main_v67_apply, val_main_v66_apply]
  refine (sum_real _ (fun k => DiffSpec.V X (i 0).val (i 2).val k e
      * (E (slope (i 2).val) (D X (i 0).val (i 2).val 0 (i 1).val) (i 1).val k / (∑ l ∈ Finset.range 16384, E (slope (i 2).val) (D X (i 0).val (i 2).val 0 (i 1).val) (i 1).val l)
          - lam a b c d * (E (slope (i 2).val) (D X (i 0).val (i 2).val 1 (i 1).val) (i 1).val k
            / (∑ l ∈ Finset.range 16384, E (slope (i 2).val) (D X (i 0).val (i 2).val 1 (i 1).val) (i 1).val l)))) fun k => ?_).trans (congrArg Real.toEReal ?_)
  · obtain ⟨j, hj, h0, h1⟩ := v_eq X (lidx_main_v66 (idx_main_v67 i) k)
    obtain ⟨y, hy⟩ := hX j
    have hv : (val_main_v8 (F := Ideal) X (lidx_main_v66 (idx_main_v67 i) k) : EReal) = ((DiffSpec.V X (i 0).val (i 2).val k.val e : ℝ) : EReal) := by
      rw [hj]
      unfold DiffSpec.V
      rw [pr_eq X j h0 (h1.trans (congrArg (fun t => 4096 + 256 * (i 2).val + t) he)), hy, EReal.toReal_coe]
    refine (congrArg₂ (fun s t : EReal => s * t) hv (diff hX ha hb hc hd (ridx_main_v66 (idx_main_v67 i) k))).trans ?_
    rw [← EReal.coe_mul]
  · unfold O R
    rw [Finset.sum_div, Finset.sum_div, Finset.mul_sum, ← Finset.sum_sub_distrib]
    exact Finset.sum_congr rfl fun k _ => by ring

/-- The reference's result. -/
theorem result (hX : AllReal (s := S32768x17408) X) (ha : AllReal (s := S128) a) (hb : AllReal (s := S128) b) (hc : AllReal (s := S128) c) (hd : AllReal (s := S128) d)
    (g : (⟨S8x256, .f32⟩ : BufTy).Contents (Elt Ideal)) (i : S32768x2048.Idx) :
    (val_main_v84 (F := Ideal) X a b c d g i : EReal) = DiffSpec.G X a b c d g i := by
  have h0 : (i 0).val < 32768 := (i 0).isLt
  have h1 : (i 1).val < 2048 := (i 1).isLt
  rw [val_main_v84_apply, val_main_v83_apply]
  have e0 : (idx_main_v83 i 0).val = (i 0).val / 16384 := by
    show ((i 0).val * 2048 + (i 1).val) / 33554432 = _; omega
  have e1 : (idx_main_v83 i 1).val = (i 0).val % 16384 := by
    show ((i 0).val * 2048 + (i 1).val) / 2048 % 16384 = _; omega
  have e2 : (idx_main_v83 i 2).val = (i 1).val / 256 := by
    show ((i 0).val * 2048 + (i 1).val) / 256 % 8 = _; omega
  have e3 : (idx_main_v83 i 3).val = (i 1).val % 256 := by
    show ((i 0).val * 2048 + (i 1).val) % 256 = _; omega
  generalize idx_main_v83 i = j at e0 e1 e2 e3
  refine Eq.trans ?_ (G_at X a b c d g i (j 0).val (j 1).val (j 2).val ⟨(j 3).val, (j 3).isLt⟩ (j 1).isLt (j 2).isLt (by omega) (by show (i 1).val = 256 * (j 2).val + (j 3).val; omega)).symm
  rw [val_main_v82_apply, val_main_v81_apply, val_main_v80_apply, val_main_v79_apply, val_main_v78_apply, val_main_v77_apply, val_main_v76_apply, val_main_v75_apply,
    val_main_v74_apply, val_main_v73_apply, val_main_v72_apply, val_main_v71_apply, val_main_v70_apply, val_main_v69_apply]
  have eg : idx_main_v78 (idx_main_v79 j) = ix2 (⟨(j 2).val, (j 2).isLt⟩ : Fin 8) (⟨(j 3).val, (j 3).isLt⟩ : Fin 256) := funext fun z => by
    match z with
    | ⟨0, _⟩ => rfl
    | ⟨1, _⟩ => rfl
  rw [eg]
  refine Eq.trans (b := (val_main_v67 (F := Ideal) X a b c d j : EReal) * Ideal.rsqrt (Ideal.div (Ideal.ofBits .f32 0#32 + ∑ k : Fin 256, (val_main_v67 (F := Ideal) X a b c d (idx_main_v69 (idx_main_v70 (idx_main_v76 j)) k) : EReal) * (val_main_v67 (F := Ideal) X a b c d (idx_main_v69 (idx_main_v70 (idx_main_v76 j)) k) : EReal)) (Ideal.ofBits .f32 0x43800000#32) + Ideal.ofBits .f32 0x358637BD#32)
    * (g (ix2 (⟨(j 2).val, (j 2).isLt⟩ : Fin 8) (⟨(j 3).val, (j 3).isLt⟩ : Fin 256)) : EReal) * Ideal.ofBits .f32 0x3F4CCCCD#32) rfl ?_
  rw [show Ideal.ofBits .f32 0#32 = 0 from Ideal.ofBits_zero_f32, zero_add, out hX ha hb hc hd j ⟨(j 3).val, (j 3).isLt⟩ rfl]
  rw [Finset.sum_congr rfl fun k _ => congrArg (fun t : EReal => t * t) (out hX ha hb hc hd (idx_main_v69 (idx_main_v70 (idx_main_v76 j)) k) k rfl)]
  rfl

end Cert.Proof.DiffRef
end
-- ==== Proof.Kernel2IdealFrame.lean ====
/-
  The differential attention's frame (Kernel2Ideal): the kernel body runs from any staging buffers and any scratch, its two
  counted loops by their generated invariants and its conditionals case by case; the result's buffer is forgotten.
-/
module

public import proofs.«01_k».proof.Proof.Gen.Kernel2Ideal.Frame
public import proofs.«01_k».proof.Proof.Gen.Kernel2Ideal.Loops
public import Idealize.ShloMosaic.Lib.Tactic

@[expose] public section

noncomputable section

namespace Cert.Proof.Kernel2IdealFrame

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

local notation "𝕄" => MT nD τ sig Unit (Elt F) ℕ (UR sig nD τ) ℕ

/-- A memref at some contents. -/
abbrev some (c : Dev nD) {sh : Shape} {e : EltTy} (a : Memref sig .tc .vmem sh e) : sProp 𝕄 :=
  iprop(∃ f : BufTy.Contents (Elt F) a.view.ty, a.view.loc (c : Thread nD τ) ↦[a.view.set]{fullShare} f)

/-- The scratch memrefs, each at some contents. -/
abbrev scratch (c : Dev nD) (arg9 : Memref sig .tc .vmem S2x2x1024x1024 .f32) (arg10 : Memref sig .tc .vmem S2x2x1024x128 .f32) (arg11 arg12 : Memref sig .tc .vmem S2x1024x128 .f32) (arg13 : Memref sig .tc .vmem S2x1024x256 .f32) : sProp 𝕄 :=
  iprop(some (F := F) c arg9 ∗ some (F := F) c arg10 ∗ some (F := F) c arg11 ∗ some (F := F) c arg12 ∗ some (F := F) c arg13)

set_option maxHeartbeats 8000000 in
/-- Part 47 of the body, from any scratch to some scratch. -/
theorem part47_run (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec F S1x1 .f32) (v27 : IVec S1x1024 32) (v28 : Vec F S1024x256 .bf16) (f5 : BufTy.Contents (Elt F) arg5.view.ty) (f6 : BufTy.Contents (Elt F) arg6.view.ty) :
    iprop((arg5.view.loc (c : Thread nD τ) ↦[arg5.view.set]{fullShare} f5) ∗ (arg6.view.loc (c : Thread nD τ) ↦[arg6.view.set]{fullShare} f6) ∗ scratch (F := F) c arg9 arg10 arg11 arg12 arg13)
      ⊢ wp frame (wpE (defs₀ (F := F)) Variants.none c none) E (k0_part47 (F := F) i arg3 harg3 arg4 harg4 arg5 harg5 arg6 harg6 arg7 harg7 arg8 harg8 arg9 harg9 arg10 harg10 arg11 harg11 arg12 harg12 arg13 harg13 arg2 v26 v27 v28)
          fun _ => iprop((arg5.view.loc (c : Thread nD τ) ↦[arg5.view.set]{fullShare} f5) ∗ (arg6.view.loc (c : Thread nD τ) ↦[arg6.view.set]{fullShare} f6) ∗ scratch (F := F) c arg9 arg10 arg11 arg12 arg13) := by
  by_cases hc1 : k0_cond1 i = 1#1 <;> by_cases hc2 : k0_cond2 i = 1#1
  all_goals
    iintro ⟨H5, H6, ⟨%f9, H9⟩, ⟨%f10, H10⟩, ⟨%f11, H11⟩, ⟨%f12, H12⟩, ⟨%f13, H13⟩⟩
    simp only [k0_part47_eq_skeleton]; unfold k0_part47_skel
    sl_exec
    sl_step
    isplitl [H5]; · iexact H5
    isplitl [H6]; · iexact H6
    isplitl [H9]; · iexists _; iexact H9
    isplitl [H10]; · iexists _; iexact H10
    isplitl [H11]; · iexists _; iexact H11
    isplitl [H12]; · iexists _; iexact H12
    iexists _; iexact H13

set_option maxHeartbeats 8000000 in
/-- Part 48 of the body, from any scratch to some scratch. -/
theorem part48_run (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (arg2 : BitVec 32) (v26 : FVec F S1x1 .f32) (v27 : IVec S1x1024 32) (v28 : Vec F S1024x256 .bf16) (w : BitVec 32) (f5 : BufTy.Contents (Elt F) arg5.view.ty) (f6 : BufTy.Contents (Elt F) arg6.view.ty) :
    iprop((arg5.view.loc (c : Thread nD τ) ↦[arg5.view.set]{fullShare} f5) ∗ (arg6.view.loc (c : Thread nD τ) ↦[arg6.view.set]{fullShare} f6) ∗ scratch (F := F) c arg9 arg10 arg11 arg12 arg13)
      ⊢ wp frame (wpE (defs₀ (F := F)) Variants.none c none) E (k0_part48 (F := F) i arg3 harg3 arg4 harg4 arg5 harg5 arg6 harg6 arg7 harg7 arg8 harg8 arg9 harg9 arg10 harg10 arg11 harg11 arg12 harg12 arg13 harg13 arg2 v26 v27 v28 w)
          fun _ => iprop((arg5.view.loc (c : Thread nD τ) ↦[arg5.view.set]{fullShare} f5) ∗ (arg6.view.loc (c : Thread nD τ) ↦[arg6.view.set]{fullShare} f6) ∗ scratch (F := F) c arg9 arg10 arg11 arg12 arg13) := by
  by_cases hc1 : k0_cond3 i = 1#1 <;> by_cases hc2 : k0_cond4 i = 1#1
  all_goals
    iintro ⟨H5, H6, ⟨%f9, H9⟩, ⟨%f10, H10⟩, ⟨%f11, H11⟩, ⟨%f12, H12⟩, ⟨%f13, H13⟩⟩
    simp only [k0_part48_eq_skeleton]; unfold k0_part48_skel
    sl_exec
    sl_step
    isplitl [H5]; · iexact H5
    isplitl [H6]; · iexact H6
    isplitl [H9]; · iexists _; iexact H9
    isplitl [H10]; · iexists _; iexact H10
    isplitl [H11]; · iexists _; iexact H11
    isplitl [H12]; · iexists _; iexact H12
    iexists _; iexact H13

set_option maxHeartbeats 8000000 in
/-- The kernel body on whole staging memrefs: the inputs' are left as they were, the result's and the scratch at some
    contents. -/
theorem body_run (c : Dev nD) (E : Set ℕ) (i : grid0.Coords) (arg3 : Memref sig .tc .vmem S8x128 .f32) (harg3 : arg3.IsWhole) (arg4 : Memref sig .tc .vmem S1024x256 .bf16) (harg4 : arg4.IsWhole) (arg5 : Memref sig .tc .vmem S16384x256 .bf16) (harg5 : arg5.IsWhole) (arg6 : Memref sig .tc .vmem S16384x256 .bf16) (harg6 : arg6.IsWhole) (arg7 : Memref sig .tc .vmem S1x1x256 .f32) (harg7 : arg7.IsWhole) (arg8 : Memref sig .tc .vmem S1024x256 .bf16) (harg8 : arg8.IsWhole)
    (arg9 : Memref sig .tc .vmem S2x2x1024x1024 .f32) (harg9 : arg9.IsWhole) (arg10 : Memref sig .tc .vmem S2x2x1024x128 .f32) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x256 .f32) (harg13 : arg13.IsWhole)
    (x0 : Vec F S8x128 .f32) (x1 : Vec F S1024x256 .bf16) (x2 x3 : Vec F S16384x256 .bf16) (x4 : Vec F S1x1x256 .f32) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ scratch (F := F) c arg9 arg10 arg11 arg12 arg13)
      ⊢ wp frame (wpE (defs₀ (F := F)) Variants.none c none) E (cc0_diffattn (F := F) i arg3 harg3 arg4 harg4 arg5 harg5 arg6 harg6 arg7 harg7 arg8 harg8 arg9 harg9 arg10 harg10 arg11 harg11 arg12 harg12 arg13 harg13)
          fun _ => iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ scratch (F := F) c arg9 arg10 arg11 arg12 arg13) := by
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%f9, H9⟩, ⟨%f10, H10⟩, ⟨%f11, H11⟩, ⟨%f12, H12⟩, ⟨%f13, H13⟩⟩
  have h47 : ∀ arg2 v26 v27 v28, _ := fun arg2 v26 v27 v28 => part47_run (F := F) c E i arg3 harg3 arg4 harg4 arg5 harg5 arg6 harg6 arg7 harg7 arg8 harg8 arg9 harg9 arg10 harg10 arg11 harg11 arg12 harg12 arg13 harg13 arg2 v26 v27 v28 f5 f6
  have h48 : ∀ arg2 v26 v27 v28 w, _ := fun arg2 v26 v27 v28 w => part48_run (F := F) c E i arg3 harg3 arg4 harg4 arg5 harg5 arg6 harg6 arg7 harg7 arg8 harg8 arg9 harg9 arg10 harg10 arg11 harg11 arg12 harg12 arg13 harg13 arg2 v26 v27 v28 w f5 f6
  simp only [cc0_diffattn_eq_skeleton]; unfold cc0_diffattn_skel
  sl_exec
  sl_step
  isplitl [H3]; · iexists f3; isplitr; · ipureintro; exact h3
                  iexact H3
  isplitl [H4]; · iexists f4; isplitr; · ipureintro; exact h4
                  iexact H4
  isplitl [Hk0_part48_0]; · iexists f5; isplitr; · ipureintro; exact h5
                            iexact Hk0_part48_0
  isplitl [Hk0_part48_1]; · iexists f6; isplitr; · ipureintro; exact h6
                            iexact Hk0_part48_1
  isplitl [H7]; · iexists f7; isplitr; · ipureintro; exact h7
                  iexact H7
  isplitl [H8]; · iexists _; iexists _; isplitr; swap; · iexact H8
                  ipureintro; rfl
  isplitl [Hk0_part48_2]; · iexists _; iexact Hk0_part48_2
  isplitl [Hk0_part48_3]; · iexists _; iexact Hk0_part48_3
  isplitl [Hk0_part48_4]; · iexists _; iexact Hk0_part48_4
  isplitl [Hk0_part48_5]; · iexists _; iexact Hk0_part48_5
  iexists _; iexact Hk0_part48_6

variable (m : (ℓ : Loc nD τ sig) → Buf (Elt F) ℓ) (ρ : Dev nD → PrngReg)

/-- The pipeline's proof data: the arrays as the region finds them, each input's buffer at its block after the body;
    the result's entry is read by nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d

/-- The scoped buffers beside the staging buffers are the scratch. -/
theorem scoped_scratch (c : Dev nD) :
    (Pipeline.scopedRest (Ix := Unit) (Name := ℕ) (U := UR sig nD τ) (Lvl := ℕ) (Val := Elt F) spec0 c : sProp 𝕄)
      = scratch (F := F) c (Memref.whole cc0_scratch0) (Memref.whole cc0_scratch1) (Memref.whole cc0_scratch2) (Memref.whole cc0_scratch3) (Memref.whole cc0_scratch4) := by
  rw [scopedRest0_eq]
  unfold scratch some
  simp only [Memref.view_whole, View.set_whole]

/-- Which windows the frame forgets: the result's. -/
def forgets (w : Fin cfg0.W) : Bool := match w with
  | ⟨5, _⟩ => true
  | _ => false

theorem row (t : Fin cfg0.N) : defs₀ (F := F) .tc cfg0.body (cfg0.bodyArgs t (cfg0.slots t)) = bodyAt0 t := by
  unfold defs₀; rw [Defs.onTc_tc]

set_option maxHeartbeats 1000000 in
/-- The body at any point. -/
theorem sound_body (c : Dev nD) (t : Fin cfg0.N) :
    iprop((dats (F := F) m 0 c).Φ t.castSucc ∗ (dats (F := F) m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ X, owns (c : Thread nD τ) (st0_5 t) fullShare X))
    ⊢ wp frame (wpE (defs₀ (F := F)) Variants.none c none) Set.univ (bodyAt0 t) (fun _ => iprop(
      (dats (F := F) m 0 c).Φ t.succ ∗ (dats (F := F) m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ (∃ X, owns (c : Thread nD τ) (st0_5 t) fullShare X))) := by
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold bodyAt0
  simp only [before0, before1, before2, before3, before4]
  unfold Pipeline.ΦA
  rw [scoped_scratch]
  iintro ⟨⟨HS, HP⟩, Ho, ⟨%d0, H0⟩, ⟨%d1, H1⟩, ⟨%d2, H2⟩, ⟨%d3, H3⟩, ⟨%d4, H4⟩, H5⟩
  iapply (wp_wand_r Idealize.ShloMosaic.frame (wpE (defs₀ (F := F)) Variants.none (c : Thread nD τ) none) Set.univ)
  isplitl [HS H0 H1 H2 H3 H4 H5]
  · iapply (body_run (F := F) c Set.univ (grid0.coords t) _ _ _ _ _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexact H5
    iexact HS
  iintro %_ ⟨H0, H1, H2, H3, H4, H5, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  iexact H5

/-- The body obligation at every point, the result's window forgotten. -/
theorem body_obligation (c : Dev nD) : BodyObligation (dats (F := F) m 0 c) (defs₀ (F := F)) Variants.none () Set.univ forgets := fun t => by
  rw [bigSep_W0, bigSep_W0, row]
  simp only [show forgets (0 : Fin 6) = false from rfl, show forgets (1 : Fin 6) = false from rfl, show forgets (2 : Fin 6) = false from rfl, show forgets (3 : Fin 6) = false from rfl, show forgets (4 : Fin 6) = false from rfl, show forgets (5 : Fin 6) = true from rfl]
  exact triple_restated (sound_body m c t) rfl .rfl fun _ => .rfl

set_option backward.isDefEq.respectTransparency.types false in
set_option maxHeartbeats 800000 in
/-- The run, with nothing said of the result's array. -/
theorem run_main : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget_shared (Q' := _) cfgs (dats m) (0 : Fin 1) launch₀0 defs₀ Variants.none forgets m ρ main
      (hbody := fun c => (body_obligation m c).loose) (hq := fun c w _ => rfl)
      (howed := fun _ _ => rfl) (V := V m) (hmain := hmain m Variants.none) (hA := A_eq m) (hΦ := fun _ _ => rfl)

/-- Every execution terminates with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (h : Pipeline.RDat.FramePost cfg0 (fun c => (dats m 0 c).toRForget forgets) (V m) r ∧ r.2.sem = fun _ => 0) => ⟨fun c =>
      ⟨(h.1.arr_in c 3 rfl).trans ((A_eq m c 3).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Proof.Kernel2IdealFrame

end
-- ==== Proof.DiffClaims.lean ====
/- The claims about the differential attention. -/
module

public import proofs.«01_k».proof.Defs
public import proofs.«01_k».proof.Proof.DiffValue
public import proofs.«01_k».proof.Proof.DiffRef
public import proofs.«01_k».proof.Proof.Kernel2Frame
public import proofs.«01_k».proof.Proof.Kernel2IdealFrame
public import proofs.«01_k».proof.Proof.Gen.Pre_finite
public import proofs.«01_k».proof.Proof.Gen.Reference2Ideal.Run
public import Idealize.ShloMosaic.Lib.Quiescent

@[expose] public section

noncomputable section

namespace Cert.Proof.DiffClaims

open Idealize.ShloMosaic Idealize.ShloMosaic.TcCoe Idealize.SL.Sem

theorem frame_k : Cert.quiescent_Kernel2 := fun m ρ _ => Cert.Proof.Kernel2Frame.frame m ρ
theorem frame_ki : Cert.quiescent_Kernel2Ideal := fun m ρ _ => Cert.Proof.Kernel2IdealFrame.frame m ρ
theorem frame_ki_pre : Cert.quiescent_Kernel2Ideal_pre_finite := fun m ρ _ => Cert.Proof.Kernel2IdealFrame.frame m ρ

/-- The reference's run read at its arguments; it declares no semaphore. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_ri_pre : Cert.quiescent_Reference2Ideal_pre_finite := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The two named constants: the rounded `1/log 2`, and the finite stand-in for `-∞`. -/
theorem preserves : Cert.preserves_Kernel2_Kernel2Ideal :=
  ⟨IdealRules.named_const.statement Cert.Kernel2Ideal.κ "log2e" .f32 0x3FB8AA3B#32 _ rfl,
    IdealRules.named_const.statement Cert.Kernel2Ideal.κ "neg_inf" .f32 0xF149F2CA#32 _ rfl⟩

section
open Cert.Kernel2Ideal Cert.Kernel2Ideal.Gen Cert.Proof.DiffValue

/-- The kernel's run at arguments that are real: the result array, and the arguments as they were. -/
theorem run_kernel (m : (ℓ : Loc nD τ sig) → Buf (Elt Ideal) ℓ) (ρ : Dev nD → PrngReg) (H : ∀ c, Fin' m c) :
    θ_run (defs (F := Ideal)) (onTc (τ := τ) (main (F := Ideal))) ⟨m, fun _ => 0, ρ⟩ (fun r => ∀ c : Dev nD,
      r.2.mem ((c.tc : Thread nD τ).loc main_v22) = DiffValue.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.FramePost cfgs (dats m) 0 (V m) r ∧ r.2.sem = fun _ => 0) => fun c =>
      ⟨((h.1 c).1 5).trans (final m c),
      ((h.1 c).1 3).trans (((dats m 0 c).arrAt_in 3 rfl _).trans ((A_eq m c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_main m ρ H)
end

/-- At real arguments that agree, both result arrays end at the differential attention. -/
theorem algebraic : Cert.algebraic_Kernel2Ideal_Reference2Ideal_pre_finite := by
  intro m ρ m' ρ' hpre hagree
  have H : ∀ c, DiffValue.Fin' m c := fun c => by
    obtain ⟨hx, ha, hb, hc, hd⟩ := DiffSpec.of_pre (hpre c)
    exact ⟨hx, ha, hb, hc, hd⟩
  refine ⟨fun c => DiffValue.G m c, run_kernel m ρ H, ?_⟩
  refine (θ_run Cert.Reference2Ideal.defs _ _).mono (fun _ h c => ⟨(h c).1.trans ?_, (h c).2⟩)
    (Cert.Reference2Ideal.Value.run (F := Ideal) m' ρ')
  obtain ⟨e0, e1, e2, e3, e4, e5⟩ := hagree c
  refine (Cert.Reference2Ideal.Read.val_main_v84_eq (F := Ideal) m' c).trans (funext fun i => ?_)
  rw [e0, e1, e2, e3, e4, e5]
  exact DiffRef.result (H c).hx (H c).ha (H c).hb (H c).hc (H c).hd _ i

end Cert.Proof.DiffClaims

end
-- ==== Proof.MergeMath.lean ====
/- The merge of the three branches as a formula: the logistic gates, the attention over the memory, the three products. -/
module

public import Idealize.ShloMosaic.Lib.Pointwise
public import Idealize.ShloMosaic.Lib.ValueIdx
public import Idealize.ShloMosaic.PureOps.Ideal.Laws

@[expose] public section

noncomputable section

namespace Cert.MergeMath

open Idealize.ShloMosaic

/-- An array of two axes read at two naturals, zero outside it. -/
def at2 {n m : ℕ} (x : (⟨2, ![n, m]⟩ : Shape).Idx → EReal) (a b : ℕ) : EReal :=
  if h : a < n ∧ b < m then x (ix2 ⟨a, h.1⟩ ⟨b, h.2⟩) else 0

theorem at2_eq {n m : ℕ} (x : (⟨2, ![n, m]⟩ : Shape).Idx → EReal) (j : (⟨2, ![n, m]⟩ : Shape).Idx) {a b : ℕ}
    (h0 : (j 0).val = a) (h1 : (j 1).val = b) : x j = at2 x a b := by
  subst h0; subst h1
  unfold at2
  rw [dif_pos ⟨(j 0).isLt, (j 1).isLt⟩]
  refine congrArg x (funext fun d => ?_)
  match d with
  | ⟨0, _⟩ => rfl
  | ⟨1, _⟩ => rfl

/-- An array of one axis read at a natural, zero outside it. -/
def at1 {n : ℕ} (x : (⟨1, ![n]⟩ : Shape).Idx → EReal) (a : ℕ) : EReal :=
  if h : a < n then x (ix1 ⟨a, h⟩) else 0

theorem at1_eq {n : ℕ} (x : (⟨1, ![n]⟩ : Shape).Idx → EReal) (j : (⟨1, ![n]⟩ : Shape).Idx) {a : ℕ}
    (h0 : (j 0).val = a) : x j = at1 x a := by
  subst h0
  unfold at1
  rw [dif_pos (show (j 0).val < n from (j 0).isLt)]
  refine congrArg x (funext fun d => ?_)
  match d with
  | ⟨0, _⟩ => rfl

/-- The logistic function. -/
def gate (x : EReal) : EReal := Ideal.div 1 (1 + Ideal.exp (-x))

/-- A query's product with key `l`, scaled by a sixteenth. -/
def sc (q : Fin 256 → EReal) (k : Fin 256 → Fin 256 → EReal) (l : Fin 256) : EReal :=
  (∑ e, q e * k l e) * Ideal.ofBits .f32 0x3D800000#32

/-- The greatest of the scaled products. -/
def top (q : Fin 256 → EReal) (k : Fin 256 → Fin 256 → EReal) : EReal :=
  Finset.fold max (Ideal.ofBits .f32 0xFF800000#32) (sc q k) Finset.univ

/-- The weight of key `l` before the division. -/
def wt (q : Fin 256 → EReal) (k : Fin 256 → Fin 256 → EReal) (l : Fin 256) : EReal :=
  Ideal.exp (sc q k l - top q k)

/-- Attention of one query over 256 keys, one entry of the values. -/
def att (q : Fin 256 → EReal) (k : Fin 256 → Fin 256 → EReal) (v : Fin 256 → EReal) : EReal :=
  ∑ l, Ideal.div (wt q k l) (∑ l', wt q k l') * v l

variable (X : (⟨2, ![32768, 17408]⟩ : Shape).Idx → EReal) (da : (⟨2, ![32768, 2048]⟩ : Shape).Idx → EReal)
  (hm : (⟨2, ![32768, 1024]⟩ : Shape).Idx → EReal) (kv : (⟨2, ![512, 2048]⟩ : Shape).Idx → EReal)
  (wd : (⟨2, ![2048, 2048]⟩ : Shape).Idx → EReal) (wm wc : (⟨2, ![1024, 2048]⟩ : Shape).Idx → EReal)
  (bg : (⟨1, ![6144]⟩ : Shape).Idx → EReal)

/-- The attention over the memory: row `n` belongs to batch `n / 16384`, column `d` to head `d / 256`. -/
def xa (n d : ℕ) : EReal :=
  att (fun e => at2 X n (16384 + (256 * (d / 256) + e.val)))
    (fun l e => at2 kv (256 * (n / 16384) + l.val) (256 * (d / 256) + e.val))
    (fun l => at2 kv (256 * (n / 16384) + l.val) (1024 + d))

/-- The gate of branch `b`. -/
def gt (b n d : ℕ) : EReal := gate (at2 X n (8192 + 2048 * b + d) + at1 bg (2048 * b + d))

/-- One entry of the merged branches. -/
def merged (n d : ℕ) : EReal :=
  gt X bg 0 n d * (∑ k : Fin 2048, at2 da n k.val * at2 wd k.val d)
    + gt X bg 1 n d * (∑ k : Fin 1024, at2 hm n k.val * at2 wm k.val d)
    + gt X bg 2 n d * (∑ k : Fin 1024, xa X kv n k.val * at2 wc k.val d)

end Cert.MergeMath

end
-- ==== Proof.MergeBody.lean ====
/- The merge of one grid point at the ideal instance: what the point's block of the result is, index by index, in terms of the blocks
   it reads. -/
module

public import proofs.«01_k».proof.Proof.Gen.Kernel3Ideal.Value
public import proofs.«01_k».proof.Proof.MergeMath

@[expose] public section

noncomputable section

namespace Cert.Kernel3Ideal.Merge

open Cert.Kernel3Ideal Cert.Kernel3Ideal.Gen Idealize.ShloMosaic Idealize.ShloMosaic.TcCoe Idealize.SL.Sem
open Cert.MergeMath

theorem hz : (![0, 0] : Fin 2 → Nat) = fun _ => 0 := funext fun a => by fin_cases a <;> rfl

/-- The 256 columns from `o` on of the memory's keys and values. -/
def kb (x : Vec Ideal S256x2048 .bf16) (o : ℕ) : Vec Ideal S256x256 .bf16 := fun j => at2 x (j 0).val (o + (j 1).val)

theorem ld_kb (x : Vec Ideal S256x2048 .bf16) (o : ℕ) (inb : ∀ a, ![0, o] a + S256x256.size a ≤ S256x2048.size a) :
    View.ld (Val := Elt Ideal) (e' := .bf16) x (Rect.unit (s := S256x2048) ![0, o] ![256, 256] inb) = kb x o := by
  funext j
  refine at2_eq x _ ?_ ?_
  · show 0 + 1 * (j 0).val = _; omega
  · show o + 1 * (j 1).val = _; omega

theorem ld_w0 (x : Vec Ideal S512x1024 .bf16) (inb : ∀ a, ![0, 0] a + S512x1024.size a ≤ S512x1024.size a) :
    View.ld (Val := Elt Ideal) (e' := .bf16) x (Rect.unit (s := S512x1024) ![0, 0] ![512, 1024] inb) = x := View.ld_unit_zero (S := S512x1024) hz inb x

theorem ld_w1 (x : Vec Ideal S512x2048 .bf16) (inb : ∀ a, ![0, 0] a + S512x2048.size a ≤ S512x2048.size a) :
    View.ld (Val := Elt Ideal) (e' := .bf16) x (Rect.unit (s := S512x2048) ![0, 0] ![512, 2048] inb) = x := View.ld_unit_zero (S := S512x2048) hz inb x

theorem ld_w2 (x : Vec Ideal S2048x2048 .bf16) (inb : ∀ a, ![0, 0] a + S2048x2048.size a ≤ S2048x2048.size a) :
    View.ld (Val := Elt Ideal) (e' := .bf16) x (Rect.unit (s := S2048x2048) ![0, 0] ![2048, 2048] inb) = x := View.ld_unit_zero (S := S2048x2048) hz inb x

theorem ld_w3 (x : Vec Ideal S1024x2048 .bf16) (inb : ∀ a, ![0, 0] a + S1024x2048.size a ≤ S1024x2048.size a) :
    View.ld (Val := Elt Ideal) (e' := .bf16) x (Rect.unit (s := S1024x2048) ![0, 0] ![1024, 2048] inb) = x := View.ld_unit_zero (S := S1024x2048) hz inb x

theorem ld_w4 (x : Vec Ideal S3x2048 .f32) (inb : ∀ a, ![0, 0] a + S3x2048.size a ≤ S3x2048.size a) :
    View.ld (Val := Elt Ideal) (e' := .f32) x (Rect.unit (s := S3x2048) ![0, 0] ![3, 2048] inb) = x := View.ld_unit_zero (S := S3x2048) hz inb x

theorem head_sum (q : Fin 256 → EReal) (k : Fin 256 → Fin 256 → EReal) (v : Fin 256 → EReal) :
    (0 + ∑ x : Fin 256, Ideal.div (Ideal.exp ((0 + ∑ e : Fin 256, q e * k x e) * Ideal.ofBits FTy.f32 0x3D800000#32
      - Finset.fold max (Ideal.ofBits FTy.f32 0xFF800000#32) (fun l => (0 + ∑ e : Fin 256, q e * k l e) * Ideal.ofBits FTy.f32 0x3D800000#32) Finset.univ))
        (∑ y : Fin 256, Ideal.exp ((0 + ∑ e : Fin 256, q e * k y e) * Ideal.ofBits FTy.f32 0x3D800000#32
      - Finset.fold max (Ideal.ofBits FTy.f32 0xFF800000#32) (fun l => (0 + ∑ e : Fin 256, q e * k l e) * Ideal.ofBits FTy.f32 0x3D800000#32) Finset.univ)) * v x)
     = att q k v := by
  simp only [zero_add]
  rfl

theorem pay2_apply (v0 : Vec Ideal S512x1024 .bf16) (k v : Vec Ideal S256x256 .bf16) (j : S512x256.Idx) :
    k0_pay2 (F := Ideal) v0 k v j
      = att (fun e => v0 (ix2 ⟨0 + (j 0).val, by have : (j 0).val < 512 := (j 0).isLt; omega⟩ ⟨0 + e.val, by omega⟩)) (fun l e => k (ix2 l e)) (fun l => v (ix2 l (j 1))) := by
  unfold k0_pay2
  simp only [pointwise]
  exact head_sum (fun e => v0 (ix2 ⟨0 + (j 0).val, by have : (j 0).val < 512 := (j 0).isLt; omega⟩ ⟨0 + e.val, by omega⟩)) (fun l e => k (ix2 l e)) (fun l => v (ix2 l (j 1)))

theorem pay3_apply (v0 : Vec Ideal S512x1024 .bf16) (k v : Vec Ideal S256x256 .bf16) (j : S512x256.Idx) :
    k0_pay3 (F := Ideal) v0 k v j
      = att (fun e => v0 (ix2 ⟨0 + (j 0).val, by have : (j 0).val < 512 := (j 0).isLt; omega⟩ ⟨256 + e.val, by omega⟩)) (fun l e => k (ix2 l e)) (fun l => v (ix2 l (j 1))) := by
  unfold k0_pay3
  simp only [pointwise]
  exact head_sum (fun e => v0 (ix2 ⟨0 + (j 0).val, by have : (j 0).val < 512 := (j 0).isLt; omega⟩ ⟨256 + e.val, by omega⟩)) (fun l e => k (ix2 l e)) (fun l => v (ix2 l (j 1)))

theorem pay4_apply (v0 : Vec Ideal S512x1024 .bf16) (j : S512x256.Idx) :
    k0_pay4 (F := Ideal) v0 j = v0 (ix2 ⟨0 + (j 0).val, by have : (j 0).val < 512 := (j 0).isLt; omega⟩ ⟨512 + (j 1).val, by have : (j 1).val < 256 := (j 1).isLt; omega⟩) := by
  unfold k0_pay4
  simp only [pointwise]
  rfl

section
variable (v0 : Vec Ideal S512x1024 .bf16) (v18 v36 v37 : FVec Ideal S512x256 .bf16) (v38 v39 v56 v57 : Vec Ideal S256x256 .bf16) (j : S512x1024.Idx)

theorem pay5_0 (h : (j 1).val < 256) : k0_pay5 (F := Ideal) v0 v18 v36 v37 v38 v39 v56 v57 j = v18 (ix2 (j 0) ⟨(j 1).val, h⟩) := by
  unfold k0_pay5
  simp only [pointwise]
  refine (dif_pos h).trans ?_
  rfl

theorem pay5_1 (h : 256 ≤ (j 1).val) (h' : (j 1).val < 512) :
    k0_pay5 (F := Ideal) v0 v18 v36 v37 v38 v39 v56 v57 j = v36 (ix2 (j 0) ⟨(j 1).val - 256, by omega⟩) := by
  have a : ¬ (j 1).val < 256 := by omega
  have b : (j 1).val - 256 < 256 := by omega
  unfold k0_pay5
  simp only [pointwise]
  refine (dif_neg a).trans ((dif_pos b).trans ?_)
  rfl

theorem pay5_2 (h : 512 ≤ (j 1).val) (h' : (j 1).val < 768) :
    k0_pay5 (F := Ideal) v0 v18 v36 v37 v38 v39 v56 v57 j
      = att (fun e => v37 (ix2 (j 0) e)) (fun l e => v38 (ix2 l e)) (fun l => v39 (ix2 l ⟨(j 1).val - 256 - 256, by omega⟩)) := by
  have a : ¬ (j 1).val < 256 := by omega
  have b : ¬ (j 1).val - 256 < 256 := by omega
  have d : (j 1).val - 256 - 256 < 256 := by omega
  unfold k0_pay5
  simp only [pointwise]
  refine (dif_neg a).trans ((dif_neg b).trans ((dif_pos d).trans ?_))
  exact head_sum (fun e => v37 (ix2 (j 0) e)) (fun l e => v38 (ix2 l e)) (fun l => v39 (ix2 l ⟨(j 1).val - 256 - 256, by omega⟩))

theorem pay5_3 (h : 768 ≤ (j 1).val) (h' : (j 1).val < 1024) :
    k0_pay5 (F := Ideal) v0 v18 v36 v37 v38 v39 v56 v57 j
      = att (fun e => v0 (ix2 ⟨0 + (j 0).val, by have : (j 0).val < 512 := (j 0).isLt; omega⟩ ⟨768 + e.val, by omega⟩)) (fun l e => v56 (ix2 l e)) (fun l => v57 (ix2 l ⟨(j 1).val - 256 - 256 - 256, by omega⟩)) := by
  have a : ¬ (j 1).val < 256 := by omega
  have b : ¬ (j 1).val - 256 < 256 := by omega
  have d : ¬ (j 1).val - 256 - 256 < 256 := by omega
  unfold k0_pay5
  simp only [pointwise]
  refine (dif_neg a).trans ((dif_neg b).trans ((dif_neg d).trans ?_))
  exact head_sum (fun e => v0 (ix2 ⟨0 + (j 0).val, by have : (j 0).val < 512 := (j 0).isLt; omega⟩ ⟨768 + e.val, by omega⟩)) (fun l e => v56 (ix2 l e)) (fun l => v57 (ix2 l ⟨(j 1).val - 256 - 256 - 256, by omega⟩))

end

/-- The attention over the memory of one block's row `r`, column `d`. -/
def xb (x2 : Vec Ideal S512x1024 .bf16) (x6 : Vec Ideal S256x2048 .bf16) (r d : ℕ) : EReal :=
  att (fun e => at2 x2 r (256 * (d / 256) + e.val)) (fun l e => at2 x6 l.val (256 * (d / 256) + e.val)) (fun l => at2 x6 l.val (1024 + d))

theorem att_congr {q q' : Fin 256 → EReal} {k k' : Fin 256 → Fin 256 → EReal} {v v' : Fin 256 → EReal} (hq : ∀ e, q e = q' e)
    (hk : ∀ l e, k l e = k' l e) (hv : ∀ l, v l = v' l) : att q k v = att q' k' v' := by
  rw [show q = q' from funext hq, show k = k' from funext fun l => funext (hk l), show v = v' from funext hv]

theorem heads (x2 : Vec Ideal S512x1024 .bf16) (x6 : Vec Ideal S256x2048 .bf16) (j : S512x1024.Idx) :
    (k0_pay5 x2 (k0_pay2 x2 (kb x6 0) (kb x6 1024)) (k0_pay3 x2 (kb x6 256) (kb x6 1280)) (k0_pay4 x2) (kb x6 512) (kb x6 1536) (kb x6 768) (kb x6 1792)) j = xb x2 x6 (j 0).val (j 1).val := by
  have hj : (j 1).val < 1024 := (j 1).isLt
  unfold xb
  by_cases h1 : (j 1).val < 256
  · rw [pay5_0 _ _ _ _ _ _ _ _ j h1]
    have e : (j 1).val / 256 = 0 := by omega
    rw [e]
    refine (pay2_apply _ _ _ _).trans (att_congr (fun e => at2_eq x2 _ ?_ ?_) (fun l e => ?_) (fun l => ?_))
    · show 0 + (j 0).val = _; omega
    · show 0 + e.val = _; omega
    · show at2 x6 l.val (0 + e.val) = _; congr 1
    · show at2 x6 l.val (1024 + (j 1).val) = _; rfl
  by_cases h2 : (j 1).val < 512
  · rw [pay5_1 _ _ _ _ _ _ _ _ j (by omega) h2]
    have e : (j 1).val / 256 = 1 := by omega
    rw [e]
    refine (pay3_apply _ _ _ _).trans (att_congr (fun e => at2_eq x2 _ ?_ ?_) (fun l e => ?_) (fun l => ?_))
    · show 0 + (j 0).val = _; omega
    · show 256 + e.val = _; omega
    · show at2 x6 l.val (256 + e.val) = _; congr 1
    · show at2 x6 l.val (1280 + ((j 1).val - 256)) = _; congr 1; omega
  by_cases h3 : (j 1).val < 768
  · rw [pay5_2 _ _ _ _ _ _ _ _ j (by omega) h3]
    have e : (j 1).val / 256 = 2 := by omega
    rw [e]
    refine att_congr (fun e => (pay4_apply _ _).trans (at2_eq x2 _ ?_ ?_)) (fun l e => ?_) (fun l => ?_)
    · show 0 + (j 0).val = _; omega
    · show 512 + e.val = _; omega
    · show at2 x6 l.val (512 + e.val) = _; congr 1
    · show at2 x6 l.val (1536 + ((j 1).val - 256 - 256)) = _; congr 1; omega
  · rw [pay5_3 _ _ _ _ _ _ _ _ j (by omega) hj]
    have e : (j 1).val / 256 = 3 := by omega
    rw [e]
    refine att_congr (fun e => at2_eq x2 _ ?_ ?_) (fun l e => ?_) (fun l => ?_)
    · show 0 + (j 0).val = _; omega
    · show 768 + e.val = _; omega
    · show at2 x6 l.val (768 + e.val) = _; congr 1
    · show at2 x6 l.val (1792 + ((j 1).val - 256 - 256 - 256)) = _; congr 1; omega

theorem pay7_apply (v75 : Vec Ideal S3x2048 .f32) (v76 : Vec Ideal S512x2048 .bf16) (v88 : Vec Ideal S512x2048 .bf16) (v89 : Vec Ideal S2048x2048 .bf16)
    (v93 : Vec Ideal S512x2048 .bf16) (v105 : Vec Ideal S512x1024 .bf16) (v106 : Vec Ideal S1024x2048 .bf16) (j : S512x2048.Idx) :
    k0_pay7 (F := Ideal) (k0_pay6 v75) v76 v88 v89 v93 v105 v106 j
      = gate (at2 v76 (j 0).val (j 1).val + at2 v75 0 (j 1).val) * (∑ k : Fin 2048, at2 v88 (j 0).val k.val * at2 v89 k.val (j 1).val)
        + gate (at2 v93 (j 0).val (j 1).val + at2 v75 1 (j 1).val) * (∑ k : Fin 1024, at2 v105 (j 0).val k.val * at2 v106 k.val (j 1).val) := by
  unfold k0_pay7 k0_pay6
  simp only [pointwise]
  simp only [zero_add, zero_sub]
  refine congrArg₂ (· + ·) (congrArg₂ (· * ·) (congrArg gate (congrArg₂ (· + ·) (at2_eq v76 j rfl rfl) (at2_eq v75 _ rfl ?_))) (Finset.sum_congr rfl fun k _ => congrArg₂ (· * ·) (at2_eq v88 _ rfl rfl) (at2_eq v89 _ rfl rfl)))
    (congrArg₂ (· * ·) (congrArg gate (congrArg₂ (· + ·) (at2_eq v93 j rfl rfl) (at2_eq v75 _ rfl ?_))) (Finset.sum_congr rfl fun k _ => congrArg₂ (· * ·) (at2_eq v105 _ rfl rfl) (at2_eq v106 _ rfl rfl)))
  · exact Nat.zero_add _
  · exact Nat.zero_add _

theorem pay8_apply (v75 : Vec Ideal S3x2048 .f32) (v111 : Vec Ideal S512x2048 .bf16) (j : S512x2048.Idx) :
    k0_pay8 (F := Ideal) (k0_pay6 v75) v111 j = at2 v111 (j 0).val (j 1).val + at2 v75 2 (j 1).val := by
  unfold k0_pay8 k0_pay6
  simp only [pointwise]
  refine congrArg₂ (· + ·) (at2_eq v111 j rfl rfl) (at2_eq v75 _ rfl ?_)
  exact Nat.zero_add _

theorem pay1_apply (v73 : FVec Ideal S512x1024 .bf16) (v110 v115 : FVec Ideal S512x2048 .f32) (v123 : Vec Ideal S1024x2048 .bf16) (j : S512x2048.Idx) :
    k0_pay1 (F := Ideal) v73 v110 v115 (Scalar.ofBits .f32 0x00000000#32) v123 j
      = v110 j + gate (v115 j) * (∑ k : Fin 1024, v73 (ix2 (j 0) k) * at2 v123 k.val (j 1).val) := by
  unfold k0_pay1
  simp only [pointwise]
  rw [zero_add]
  refine congrArg₂ (· + ·) rfl (congrArg₂ (· * ·) ?_ (Finset.sum_congr rfl fun k _ => congrArg₂ (· * ·) rfl (at2_eq v123 _ rfl rfl)))
  unfold gate
  refine congrArg (fun t : EReal => Ideal.div 1 (1 + Ideal.exp t)) ?_
  exact zero_sub _

/-- A store over the whole buffer leaves what was stored. -/
theorem store {sg : RefSig} {κ : Kind} {sp : Space} {S : Shape} {e : EltTy} (v : View sg κ sp S e) (f : v.ty.Contents (Elt Ideal))
    {off : Fin S.rank → Nat} (h : off = fun _ => 0) (inb : ∀ a, off a + S.size a ≤ S.size a) (w : S.Idx → Elt Ideal e) :
    v.read (Elt Ideal) (v.writes (Elt Ideal) f [⟨Rect.unit off S.size inb, w⟩]) = w := by
  subst h
  funext y
  have e := View.read_writes_cons_emb v f (Rect.whole S) w [] y
  rw [Rect.emb_whole_apply] at e
  exact e

section
variable (c : Dev nD) (i : grid0.Coords) (arg1 : Memref sig .tc .vmem S512x2048 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S256x2048 .bf16) (harg7 : arg7.IsWhole) (arg8 : Memref sig .tc .vmem S2048x2048 .bf16) (harg8 : arg8.IsWhole) (arg9 : Memref sig .tc .vmem S1024x2048 .bf16) (harg9 : arg9.IsWhole) (arg10 : Memref sig .tc .vmem S1024x2048 .bf16) (harg10 : arg10.IsWhole) (arg11 : Memref sig .tc .vmem S3x2048 .f32) (harg11 : arg11.IsWhole) (arg12 : Memref sig .tc .vmem S512x2048 .bf16) (harg12 : arg12.IsWhole)
  (x0 : Vec Ideal S512x2048 .bf16) (x1 : Vec Ideal S512x1024 .bf16) (x2 : Vec Ideal S512x1024 .bf16) (x3 : Vec Ideal S512x2048 .bf16) (x4 : Vec Ideal S512x2048 .bf16) (x5 : Vec Ideal S512x2048 .bf16) (x6 : Vec Ideal S256x2048 .bf16) (x7 : Vec Ideal S2048x2048 .bf16) (x8 : Vec Ideal S1024x2048 .bf16) (x9 : Vec Ideal S1024x2048 .bf16) (x10 : Vec Ideal S3x2048 .f32)

/-- The stored block as the payloads of the loaded blocks. -/
theorem out_eq : out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
    = k0_pay1 (k0_pay5 x2 (k0_pay2 x2 (kb x6 0) (kb x6 1024)) (k0_pay3 x2 (kb x6 256) (kb x6 1280)) (k0_pay4 x2) (kb x6 512) (kb x6 1536) (kb x6 768) (kb x6 1792)) (k0_pay7 (k0_pay6 x10) x3 x0 x7 x4 x1 x8) (k0_pay8 (k0_pay6 x10) x5) (Scalar.ofBits .f32 0x00000000#32) x9 := by
  unfold out0_A_11 kernelRun0_A
  dsimp only
  unfold kernelRun0_A.sl.r_8 kernelRun0_A.sl.r_7 kernelRun0_A.sl.r_4 kernelRun0_A.sl.r_6 kernelRun0_A.sl.r_5 kernelRun0_A.sl.r_3 kernelRun0_A.sl.r_2 kernelRun0_A.sl.r_1 kernelRun0_A.sl.r kernelRun0_A.sl.cst_53
  simp only [View.readAt_eq_ld, Memref.IsWhole.read_unread, ld_w0, ld_w1, ld_w2, ld_w3, ld_w4, ld_kb]
  exact store (S := S512x2048) VO0_11 VO0_11.junk hz inb_S512x2048_S512x2048_0_0 _

/-- The stored block, entry by entry. -/
theorem out_apply (j : S512x2048.Idx) : out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 j
    = gate (at2 x3 (j 0).val (j 1).val + at2 x10 0 (j 1).val) * (∑ k : Fin 2048, at2 x0 (j 0).val k.val * at2 x7 k.val (j 1).val)
      + gate (at2 x4 (j 0).val (j 1).val + at2 x10 1 (j 1).val) * (∑ k : Fin 1024, at2 x1 (j 0).val k.val * at2 x8 k.val (j 1).val)
      + gate (at2 x5 (j 0).val (j 1).val + at2 x10 2 (j 1).val) * (∑ k : Fin 1024, xb x2 x6 (j 0).val k.val * at2 x9 k.val (j 1).val) := by
  refine (congrFun (out_eq c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10) j).trans ((pay1_apply _ _ _ _ j).trans ?_)
  refine congrArg₂ (· + ·) (pay7_apply x10 x3 x0 x7 x4 x1 x8 j) (congrArg₂ (· * ·) (congrArg gate (pay8_apply x10 x5 j)) (Finset.sum_congr rfl fun k _ => congrArg₂ (· * ·) ?_ rfl))
  exact heads x2 x6 (ix2 (j 0) k)

end

end Cert.Kernel3Ideal.Merge

end
-- ==== Proof.MergeValue.lean ====
/- The merge's kernel at the ideal instance, index by index: where a grid point's blocks lie in the arrays, and so the whole result
   array. -/
module

public import proofs.«01_k».proof.Proof.MergeBody

@[expose] public section

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)
open Cert.MergeMath

variable (m : (ℓ : Loc nD τ sig) → Buf (Elt Ideal) ℓ)

/-- The merged branches of the launch's arguments. -/
def G (c : Dev nD) : S32768x2048.Idx → EReal := fun i =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0).val (i 1).val

theorem start0 : ∀ t : Fin cfg0.N, win0_0.index t (0 : Fin 2) = t.val ∧ win0_0.index t (1 : Fin 2) = 0 :=
  (by decide +kernel : ∀ t : Fin grid0.N, _)
theorem start1 : ∀ t : Fin cfg0.N, win0_1.index t (0 : Fin 2) = t.val ∧ win0_1.index t (1 : Fin 2) = 0 :=
  (by decide +kernel : ∀ t : Fin grid0.N, _)
theorem start2 : ∀ t : Fin cfg0.N, win0_2.index t (0 : Fin 2) = t.val ∧ win0_2.index t (1 : Fin 2) = 16 :=
  (by decide +kernel : ∀ t : Fin grid0.N, _)
theorem start3 : ∀ t : Fin cfg0.N, win0_3.index t (0 : Fin 2) = t.val ∧ win0_3.index t (1 : Fin 2) = 4 :=
  (by decide +kernel : ∀ t : Fin grid0.N, _)
theorem start4 : ∀ t : Fin cfg0.N, win0_4.index t (0 : Fin 2) = t.val ∧ win0_4.index t (1 : Fin 2) = 5 :=
  (by decide +kernel : ∀ t : Fin grid0.N, _)
theorem start5 : ∀ t : Fin cfg0.N, win0_5.index t (0 : Fin 2) = t.val ∧ win0_5.index t (1 : Fin 2) = 6 :=
  (by decide +kernel : ∀ t : Fin grid0.N, _)
theorem start6 : ∀ t : Fin cfg0.N, win0_6.index t (0 : Fin 2) = t.val / 32 ∧ win0_6.index t (1 : Fin 2) = 0 :=
  (by decide +kernel : ∀ t : Fin grid0.N, _)
theorem start7 : ∀ t : Fin cfg0.N, win0_7.index t (0 : Fin 2) = 0 ∧ win0_7.index t (1 : Fin 2) = 0 :=
  (by decide +kernel : ∀ t : Fin grid0.N, _)
theorem start8 : ∀ t : Fin cfg0.N, win0_8.index t (0 : Fin 2) = 0 ∧ win0_8.index t (1 : Fin 2) = 0 :=
  (by decide +kernel : ∀ t : Fin grid0.N, _)
theorem start9 : ∀ t : Fin cfg0.N, win0_9.index t (0 : Fin 2) = 0 ∧ win0_9.index t (1 : Fin 2) = 0 :=
  (by decide +kernel : ∀ t : Fin grid0.N, _)
theorem start10 : ∀ t : Fin cfg0.N, win0_10.index t (0 : Fin 2) = 0 ∧ win0_10.index t (1 : Fin 2) = 0 :=
  (by decide +kernel : ∀ t : Fin grid0.N, _)
theorem start11 : ∀ t : Fin cfg0.N, win0_11.index t (0 : Fin 2) = t.val ∧ win0_11.index t (1 : Fin 2) = 0 :=
  (by decide +kernel : ∀ t : Fin grid0.N, _)

/-- The weights and the bias as the region finds them. -/
theorem V_v0 (c : Dev nD) : V m c main_v0 = (m ((c : Thread nD τ).loc main_arg4) : S2048x2048.Idx → EReal) := by
  have e : V m c main_v0 = (truncf (F := Ideal) (φ := .f32) .bf16 (m ((c : Thread nD τ).loc main_arg4)) bitsLt_bf16_f32 : FVec Ideal S2048x2048 .bf16) := by
    dsimp only [V]; unfold hostOps0; after_results <;> rfl
  rw [e]; rfl
theorem V_v1 (c : Dev nD) : V m c main_v1 = (m ((c : Thread nD τ).loc main_arg5) : S1024x2048.Idx → EReal) := by
  have e : V m c main_v1 = (truncf (F := Ideal) (φ := .f32) .bf16 (m ((c : Thread nD τ).loc main_arg5)) bitsLt_bf16_f32 : FVec Ideal S1024x2048 .bf16) := by
    dsimp only [V]; unfold hostOps0; after_results <;> rfl
  rw [e]; rfl
theorem V_v2 (c : Dev nD) : V m c main_v2 = (m ((c : Thread nD τ).loc main_arg6) : S1024x2048.Idx → EReal) := by
  have e : V m c main_v2 = (truncf (F := Ideal) (φ := .f32) .bf16 (m ((c : Thread nD τ).loc main_arg6)) bitsLt_bf16_f32 : FVec Ideal S1024x2048 .bf16) := by
    dsimp only [V]; unfold hostOps0; after_results <;> rfl
  rw [e]; rfl
theorem V_v3 (c : Dev nD) (b : Fin 3) (d : Fin 2048) : V m c main_v3 (ix2 b d) = m ((c : Thread nD τ).loc main_arg7) (ix1 ⟨b.val * 2048 + d.val, by omega⟩) := by
  have e : V m c main_v3 = shapeCast S3x2048 (m ((c : Thread nD τ).loc main_arg7)) shapeCasts_S6144_S3x2048 := by
    dsimp only [V]; unfold hostOps0; after_results <;> rfl
  rw [e]
  simp only [pointwise]

theorem blk0 (c : Dev nD) (t : Fin cfg0.N) {r k : ℕ} (hr : r < 512) (hk : k < 2048) :
    at2 (iblk m c 0 t : Vec Ideal S512x2048 .bf16) r k = at2 (m ((c : Thread nD τ).loc main_arg1)) (512 * t.val + r) (0 + k) := by
  obtain ⟨h0, h1⟩ := start0 t
  refine (at2_eq (iblk m c 0 t : Vec Ideal S512x2048 .bf16) (ix2 ⟨r, hr⟩ ⟨k, hk⟩) rfl rfl).symm.trans ?_
  show V m c main_arg1 ((win0_0.rect t).emb (ix2 ⟨r, hr⟩ ⟨k, hk⟩)) = _
  rw [V_main_arg1]
  refine at2_eq _ _ ?_ ?_
  · show win0_0.index t (0 : Fin 2) * 512 + 1 * r = _
    rw [h0]; omega
  · show win0_0.index t (1 : Fin 2) * 2048 + 1 * k = _
    rw [h1]; omega

theorem blk1 (c : Dev nD) (t : Fin cfg0.N) {r k : ℕ} (hr : r < 512) (hk : k < 1024) :
    at2 (iblk m c 1 t : Vec Ideal S512x1024 .bf16) r k = at2 (m ((c : Thread nD τ).loc main_arg2)) (512 * t.val + r) (0 + k) := by
  obtain ⟨h0, h1⟩ := start1 t
  refine (at2_eq (iblk m c 1 t : Vec Ideal S512x1024 .bf16) (ix2 ⟨r, hr⟩ ⟨k, hk⟩) rfl rfl).symm.trans ?_
  show V m c main_arg2 ((win0_1.rect t).emb (ix2 ⟨r, hr⟩ ⟨k, hk⟩)) = _
  rw [V_main_arg2]
  refine at2_eq _ _ ?_ ?_
  · show win0_1.index t (0 : Fin 2) * 512 + 1 * r = _
    rw [h0]; omega
  · show win0_1.index t (1 : Fin 2) * 1024 + 1 * k = _
    rw [h1]; omega

theorem blk2 (c : Dev nD) (t : Fin cfg0.N) {r k : ℕ} (hr : r < 512) (hk : k < 1024) :
    at2 (iblk m c 2 t : Vec Ideal S512x1024 .bf16) r k = at2 (m ((c : Thread nD τ).loc main_arg0)) (512 * t.val + r) (16384 + k) := by
  obtain ⟨h0, h1⟩ := start2 t
  refine (at2_eq (iblk m c 2 t : Vec Ideal S512x1024 .bf16) (ix2 ⟨r, hr⟩ ⟨k, hk⟩) rfl rfl).symm.trans ?_
  show V m c main_arg0 ((win0_2.rect t).emb (ix2 ⟨r, hr⟩ ⟨k, hk⟩)) = _
  rw [V_main_arg0]
  refine at2_eq _ _ ?_ ?_
  · show win0_2.index t (0 : Fin 2) * 512 + 1 * r = _
    rw [h0]; omega
  · show win0_2.index t (1 : Fin 2) * 1024 + 1 * k = _
    rw [h1]; omega

theorem blk3 (c : Dev nD) (t : Fin cfg0.N) {r k : ℕ} (hr : r < 512) (hk : k < 2048) :
    at2 (X0_3 m c t : Vec Ideal S512x2048 .bf16) r k = at2 (m ((c : Thread nD τ).loc main_arg0)) (512 * t.val + r) (8192 + k) := by
  obtain ⟨h0, h1⟩ := start3 t
  refine (at2_eq (X0_3 m c t : Vec Ideal S512x2048 .bf16) (ix2 ⟨r, hr⟩ ⟨k, hk⟩) rfl rfl).symm.trans ?_
  unfold X0_3 Pipeline.Window.fill
  refine (dif_pos (moved0_3 t _)).trans ?_
  show V m c main_arg0 ((win0_3.rect t).emb (fun a => ⟨((ix2 (⟨r, hr⟩ : Fin 512) (⟨k, hk⟩ : Fin 2048) : S512x2048.Idx) a).val, _⟩)) = _
  rw [V_main_arg0]
  refine at2_eq _ _ ?_ ?_
  · show win0_3.index t (0 : Fin 2) * 512 + 1 * r = _
    rw [h0]; omega
  · show win0_3.index t (1 : Fin 2) * 2048 + 1 * k = _
    rw [h1]; omega

theorem blk4 (c : Dev nD) (t : Fin cfg0.N) {r k : ℕ} (hr : r < 512) (hk : k < 2048) :
    at2 (X0_4 m c t : Vec Ideal S512x2048 .bf16) r k = at2 (m ((c : Thread nD τ).loc main_arg0)) (512 * t.val + r) (10240 + k) := by
  obtain ⟨h0, h1⟩ := start4 t
  refine (at2_eq (X0_4 m c t : Vec Ideal S512x2048 .bf16) (ix2 ⟨r, hr⟩ ⟨k, hk⟩) rfl rfl).symm.trans ?_
  unfold X0_4 Pipeline.Window.fill
  refine (dif_pos (moved0_4 t _)).trans ?_
  show V m c main_arg0 ((win0_4.rect t).emb (fun a => ⟨((ix2 (⟨r, hr⟩ : Fin 512) (⟨k, hk⟩ : Fin 2048) : S512x2048.Idx) a).val, _⟩)) = _
  rw [V_main_arg0]
  refine at2_eq _ _ ?_ ?_
  · show win0_4.index t (0 : Fin 2) * 512 + 1 * r = _
    rw [h0]; omega
  · show win0_4.index t (1 : Fin 2) * 2048 + 1 * k = _
    rw [h1]; omega

theorem blk5 (c : Dev nD) (t : Fin cfg0.N) {r k : ℕ} (hr : r < 512) (hk : k < 2048) :
    at2 (X0_5 m c t : Vec Ideal S512x2048 .bf16) r k = at2 (m ((c : Thread nD τ).loc main_arg0)) (512 * t.val + r) (12288 + k) := by
  obtain ⟨h0, h1⟩ := start5 t
  refine (at2_eq (X0_5 m c t : Vec Ideal S512x2048 .bf16) (ix2 ⟨r, hr⟩ ⟨k, hk⟩) rfl rfl).symm.trans ?_
  unfold X0_5 Pipeline.Window.fill
  refine (dif_pos (moved0_5 t _)).trans ?_
  show V m c main_arg0 ((win0_5.rect t).emb (fun a => ⟨((ix2 (⟨r, hr⟩ : Fin 512) (⟨k, hk⟩ : Fin 2048) : S512x2048.Idx) a).val, _⟩)) = _
  rw [V_main_arg0]
  refine at2_eq _ _ ?_ ?_
  · show win0_5.index t (0 : Fin 2) * 512 + 1 * r = _
    rw [h0]; omega
  · show win0_5.index t (1 : Fin 2) * 2048 + 1 * k = _
    rw [h1]; omega

theorem blk6 (c : Dev nD) (t : Fin cfg0.N) {r k : ℕ} (hr : r < 256) (hk : k < 2048) :
    at2 (iblk m c 6 t : Vec Ideal S256x2048 .bf16) r k = at2 (m ((c : Thread nD τ).loc main_arg3)) (256 * (t.val / 32) + r) (0 + k) := by
  obtain ⟨h0, h1⟩ := start6 t
  refine (at2_eq (iblk m c 6 t : Vec Ideal S256x2048 .bf16) (ix2 ⟨r, hr⟩ ⟨k, hk⟩) rfl rfl).symm.trans ?_
  show V m c main_arg3 ((win0_6.rect t).emb (ix2 ⟨r, hr⟩ ⟨k, hk⟩)) = _
  rw [V_main_arg3]
  refine at2_eq _ _ ?_ ?_
  · show win0_6.index t (0 : Fin 2) * 256 + 1 * r = _
    rw [h0]; omega
  · show win0_6.index t (1 : Fin 2) * 2048 + 1 * k = _
    rw [h1]; omega

theorem blk7 (c : Dev nD) (t : Fin cfg0.N) {r k : ℕ} (hr : r < 2048) (hk : k < 2048) :
    at2 (iblk m c 7 t : Vec Ideal S2048x2048 .bf16) r k = at2 (m ((c : Thread nD τ).loc main_arg4)) (0 + r) (0 + k) := by
  obtain ⟨h0, h1⟩ := start7 t
  refine (at2_eq (iblk m c 7 t : Vec Ideal S2048x2048 .bf16) (ix2 ⟨r, hr⟩ ⟨k, hk⟩) rfl rfl).symm.trans ?_
  show V m c main_v0 ((win0_7.rect t).emb (ix2 ⟨r, hr⟩ ⟨k, hk⟩)) = _
  rw [V_v0]
  refine at2_eq _ _ ?_ ?_
  · show win0_7.index t (0 : Fin 2) * 2048 + 1 * r = _
    rw [h0]; omega
  · show win0_7.index t (1 : Fin 2) * 2048 + 1 * k = _
    rw [h1]; omega

theorem blk8 (c : Dev nD) (t : Fin cfg0.N) {r k : ℕ} (hr : r < 1024) (hk : k < 2048) :
    at2 (iblk m c 8 t : Vec Ideal S1024x2048 .bf16) r k = at2 (m ((c : Thread nD τ).loc main_arg5)) (0 + r) (0 + k) := by
  obtain ⟨h0, h1⟩ := start8 t
  refine (at2_eq (iblk m c 8 t : Vec Ideal S1024x2048 .bf16) (ix2 ⟨r, hr⟩ ⟨k, hk⟩) rfl rfl).symm.trans ?_
  show V m c main_v1 ((win0_8.rect t).emb (ix2 ⟨r, hr⟩ ⟨k, hk⟩)) = _
  rw [V_v1]
  refine at2_eq _ _ ?_ ?_
  · show win0_8.index t (0 : Fin 2) * 1024 + 1 * r = _
    rw [h0]; omega
  · show win0_8.index t (1 : Fin 2) * 2048 + 1 * k = _
    rw [h1]; omega

theorem blk9 (c : Dev nD) (t : Fin cfg0.N) {r k : ℕ} (hr : r < 1024) (hk : k < 2048) :
    at2 (iblk m c 9 t : Vec Ideal S1024x2048 .bf16) r k = at2 (m ((c : Thread nD τ).loc main_arg6)) (0 + r) (0 + k) := by
  obtain ⟨h0, h1⟩ := start9 t
  refine (at2_eq (iblk m c 9 t : Vec Ideal S1024x2048 .bf16) (ix2 ⟨r, hr⟩ ⟨k, hk⟩) rfl rfl).symm.trans ?_
  show V m c main_v2 ((win0_9.rect t).emb (ix2 ⟨r, hr⟩ ⟨k, hk⟩)) = _
  rw [V_v2]
  refine at2_eq _ _ ?_ ?_
  · show win0_9.index t (0 : Fin 2) * 1024 + 1 * r = _
    rw [h0]; omega
  · show win0_9.index t (1 : Fin 2) * 2048 + 1 * k = _
    rw [h1]; omega

theorem blk10 (c : Dev nD) (t : Fin cfg0.N) {b d : ℕ} (hb : b < 3) (hd : d < 2048) :
    at2 (iblk m c 10 t : Vec Ideal S3x2048 .f32) b d = at1 (m ((c : Thread nD τ).loc main_arg7)) (2048 * b + d) := by
  obtain ⟨h0, h1⟩ := start10 t
  refine (at2_eq (iblk m c 10 t : Vec Ideal S3x2048 .f32) (ix2 ⟨b, hb⟩ ⟨d, hd⟩) rfl rfl).symm.trans ?_
  show V m c main_v3 ((win0_10.rect t).emb (ix2 ⟨b, hb⟩ ⟨d, hd⟩)) = _
  refine Eq.trans (congrArg (V m c main_v3) (?_ : _ = ix2 ⟨b, hb⟩ ⟨d, hd⟩)) ((V_v3 m c _ _).trans (at1_eq _ _ ?_))
  · refine funext fun a => Fin.ext ?_
    fin_cases a
    · show win0_10.index t (0 : Fin 2) * 3 + 1 * b = b
      rw [h0]; omega
    · show win0_10.index t (1 : Fin 2) * 2048 + 1 * d = d
      rw [h1]; omega
  · show b * 2048 + d = _; omega

/-- The attention of one block's row is the row's in the whole arrays. -/
theorem xb_eq (c : Dev nD) (t : Fin cfg0.N) {r k : ℕ} (hr : r < 512) (hk : k < 1024) :
    xb (iblk m c 2 t) (iblk m c 6 t) r k = xa (m ((c : Thread nD τ).loc main_arg0)) (m ((c : Thread nD τ).loc main_arg3)) (512 * t.val + r) k := by
  have ht : t.val < 64 := t.isLt
  have e : (512 * t.val + r) / 16384 = t.val / 32 := by omega
  unfold xb xa
  rw [e]
  refine att_congr (fun e => ?_) (fun l e => ?_) (fun l => ?_)
  · exact blk2 m c t hr (by omega)
  · exact (blk6 m c t l.isLt (by omega)).trans (by rw [Nat.zero_add])
  · exact (blk6 m c t l.isLt (by omega)).trans (by rw [Nat.zero_add])

theorem flushed_eq (c : Dev nD) (t : Fin cfg0.N) :
    (dats m 0 c).flushed 11 t = (win0_11.blk t).view.read (Elt Ideal) (G m c) := by
  rw [Value.flushed11_A]
  funext j
  obtain ⟨h0, h1⟩ := start11 t
  have hj0 : (j 0).val < 512 := (j 0).isLt
  have hj1 : (j 1).val < 2048 := (j 1).isLt
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (X0_3 m c t) (X0_4 m c t) (X0_5 m c t) (iblk m c 6 t) (iblk m c 7 t) (iblk m c 8 t) (iblk m c 9 t) (iblk m c 10 t) j).trans ?_
  show _ = G m c ((win0_11.rect t).emb j)
  have e0 : ((win0_11.rect t).emb j 0).val = 512 * t.val + (j 0).val := by
    refine Eq.trans (b := win0_11.index t (0 : Fin 2) * 512 + 1 * (j 0).val) rfl ?_
    rw [h0]; omega
  have e1 : ((win0_11.rect t).emb j 1).val = (j 1).val := by
    refine Eq.trans (b := win0_11.index t (1 : Fin 2) * 2048 + 1 * (j 1).val) rfl ?_
    rw [h1]; omega
  unfold G merged gt
  rw [e0, e1]
  refine congrArg₂ (· + ·) (congrArg₂ (· + ·) (congrArg₂ (· * ·) (congrArg gate (congrArg₂ (· + ·) ?_ ?_)) (Finset.sum_congr rfl fun k _ => congrArg₂ (· * ·) ?_ ?_))
      (congrArg₂ (· * ·) (congrArg gate (congrArg₂ (· + ·) ?_ ?_)) (Finset.sum_congr rfl fun k _ => congrArg₂ (· * ·) ?_ ?_)))
    (congrArg₂ (· * ·) (congrArg gate (congrArg₂ (· + ·) ?_ ?_)) (Finset.sum_congr rfl fun k _ => congrArg₂ (· * ·) ?_ ?_))
  · exact blk3 m c t hj0 hj1
  · exact blk10 m c t (by omega) hj1
  · exact (blk0 m c t hj0 k.isLt).trans (by rw [Nat.zero_add])
  · exact (blk7 m c t k.isLt hj1).trans (by rw [Nat.zero_add, Nat.zero_add])
  · exact blk4 m c t hj0 hj1
  · exact blk10 m c t (by omega) hj1
  · exact (blk1 m c t hj0 k.isLt).trans (by rw [Nat.zero_add])
  · exact (blk8 m c t k.isLt hj1).trans (by rw [Nat.zero_add, Nat.zero_add])
  · exact blk5 m c t hj0 hj1
  · exact blk10 m c t (by omega) hj1
  · exact xb_eq m c t hj0 k.isLt
  · exact (blk9 m c t k.isLt hj1).trans (by rw [Nat.zero_add, Nat.zero_add])

theorem cover (i : S32768x2048.Idx) :
    ∃ t : Fin cfg0.N, (cfg0.win 11).flush t = true ∧ i ∈ ((cfg0.win 11).blk t).view.set := by
  have hN : cfg0.N = 64 := N_0
  have h0 : (i 0).val < 32768 := (i 0).isLt
  have h1 : (i 1).val < 2048 := (i 1).isLt
  obtain ⟨t, ht⟩ : ∃ t : Fin cfg0.N, t.val = (i 0).val / 512 := ⟨⟨(i 0).val / 512, by omega⟩, rfl⟩
  obtain ⟨e0, e1⟩ := start11 t
  refine ⟨t, flush0_11 t, ?_⟩
  show i ∈ ((View.whole main_v4).slice (win0_11.rect t)).set
  rw [View.set_slice_whole, Rect.mem_set_unit]
  intro a
  match a with
  | ⟨0, _⟩ =>
    show win0_11.index t (0 : Fin 2) * 512 ≤ (i 0).val ∧ (i 0).val < win0_11.index t (0 : Fin 2) * 512 + 512
    rw [e0, ht]; omega
  | ⟨1, _⟩ =>
    show win0_11.index t (1 : Fin 2) * 2048 ≤ (i 1).val ∧ (i 1).val < win0_11.index t (1 : Fin 2) * 2048 + 2048
    rw [e1]; omega

/-- After the run the result array holds the merged branches. -/
theorem final (c : Dev nD) : (dats m 0 c).arrAt 11 cfg0.N = G m c :=
  (dats m 0 c).arrAt_eq_of_cover 11 (G m c) (fun t _ => flushed_eq m c t) cover

end Cert.Kernel3Ideal.Merge

end
-- ==== Proof.MergeRef.lean ====
/- The reference's merge, operation by operation: the logistic gates, the attention over the memory, the three products. -/
module

public import proofs.«01_k».proof.Proof.Gen.Reference3Ideal.Read
public import proofs.«01_k».proof.Proof.MergeMath

@[expose] public section

noncomputable section

namespace Cert.Reference3Ideal.Merge

open Cert.Reference3Ideal Cert.Reference3Ideal.Gen Cert.Reference3Ideal.Read
open Idealize.ShloMosaic Idealize.ShloMosaic.TcCoe Idealize.SL.Sem
open Cert.MergeMath

variable (X : (⟨S32768x17408, .bf16⟩ : BufTy).Contents (Elt Ideal)) (da : (⟨S32768x2048, .bf16⟩ : BufTy).Contents (Elt Ideal))
  (hm : (⟨S32768x1024, .bf16⟩ : BufTy).Contents (Elt Ideal)) (kv : (⟨S512x2048, .bf16⟩ : BufTy).Contents (Elt Ideal))
  (wd : (⟨S2048x2048, .f32⟩ : BufTy).Contents (Elt Ideal)) (wm wc : (⟨S1024x2048, .f32⟩ : BufTy).Contents (Elt Ideal))
  (bg : (⟨S6144, .f32⟩ : BufTy).Contents (Elt Ideal))

theorem one : Ideal.ofBits .f32 0x3F800000#32 = (1 : EReal) := by
  rw [show (1 : EReal) = ((1 : ℝ) : EReal) from rfl]
  simp [Ideal.ofBits, Ideal.ieee, -EReal.coe_mul, -EReal.coe_one]
  norm_num

theorem neg_inf : Ideal.ofBits .f32 0xFF800000#32 = (⊥ : EReal) := by simp [Ideal.ofBits, Ideal.ieee]

/-- The gates before the reshape. -/
theorem sig_eq (i : S32768x6144.Idx) :
    (val_main_v35 (F := Ideal) X bg i : EReal) = gate (at2 (n := 32768) (m := 17408) X (i 0).val (8192 + (i 1).val) + at1 (n := 6144) bg (i 1).val) := by
  rw [val_main_v35_apply, val_main_v34_apply, val_main_v33_apply, val_main_v32_apply, val_main_v31_apply, val_main_v30_apply, val_main_v29_apply,
    val_main_v28_apply, val_main_v27_apply, val_main_v26_apply, val_main_v25_apply, val_main_cst_3_apply, val_main_cst_4_apply]
  refine Eq.trans (b := Ideal.div (Ideal.ofBits .f32 0x3F800000#32) (Ideal.ofBits .f32 0x3F800000#32 + Ideal.exp (-((X (idx_main_v25 i) : EReal) + bg (idx_main_v27 (idx_main_v28 i)))))) rfl ?_
  rw [one]
  unfold gate
  exact congrArg (fun t : EReal => Ideal.div 1 (1 + Ideal.exp (-t))) (congrArg₂ (· + ·) (at2_eq (n := 32768) (m := 17408) X _ rfl rfl) (at1_eq (n := 6144) bg _ rfl))

theorem gates (i : S32768x3x2048.Idx) :
    (val_main_v36 (F := Ideal) X bg i : EReal) = gt X bg (i 1).val (i 0).val (i 2).val := by
  have h0 : (i 0).val < 32768 := (i 0).isLt
  have h1 : (i 1).val < 3 := (i 1).isLt
  have h2 : (i 2).val < 2048 := (i 2).isLt
  rw [val_main_v36_apply]
  refine (sig_eq X bg _).trans ?_
  have e0 : (idx_main_v36 i 0).val = (i 0).val := by
    show (((i 0).val * 3 + (i 1).val) * 2048 + (i 2).val) / 6144 = _
    omega
  have e1 : (idx_main_v36 i 1).val = 2048 * (i 1).val + (i 2).val := by
    show (((i 0).val * 3 + (i 1).val) * 2048 + (i 2).val) % 6144 = _
    omega
  rw [e0, e1, ← Nat.add_assoc]
  rfl

theorem gate0 (i : S32768x2048.Idx) : (val_main_v38 (F := Ideal) X bg i : EReal) = gt X bg 0 (i 0).val (i 1).val := by
  have h1 : (i 1).val < 2048 := (i 1).isLt
  rw [val_main_v38_apply, val_main_v37_apply]
  refine (gates X bg _).trans (congrArg₂ (gt X bg 0) ?_ ?_)
  · show ((i 0).val * 2048 + (i 1).val) / 2048 = _; omega
  · show ((i 0).val * 2048 + (i 1).val) % 2048 = _; omega
theorem gate1 (i : S32768x2048.Idx) : (val_main_v43 (F := Ideal) X bg i : EReal) = gt X bg 1 (i 0).val (i 1).val := by
  have h1 : (i 1).val < 2048 := (i 1).isLt
  rw [val_main_v43_apply, val_main_v42_apply]
  refine (gates X bg _).trans (congrArg₂ (gt X bg 1) ?_ ?_)
  · show ((i 0).val * 2048 + (i 1).val) / 2048 = _; omega
  · show ((i 0).val * 2048 + (i 1).val) % 2048 = _; omega
theorem gate2 (i : S32768x2048.Idx) : (val_main_v49 (F := Ideal) X bg i : EReal) = gt X bg 2 (i 0).val (i 1).val := by
  have h1 : (i 1).val < 2048 := (i 1).isLt
  rw [val_main_v49_apply, val_main_v48_apply]
  refine (gates X bg _).trans (congrArg₂ (gt X bg 2) ?_ ?_)
  · show ((i 0).val * 2048 + (i 1).val) / 2048 = _; omega
  · show ((i 0).val * 2048 + (i 1).val) % 2048 = _; omega

/-- Head `h` of token `t` of batch `b`: its query and that batch's keys. -/
def qh (b h t : ℕ) (e : Fin 256) : EReal := at2 (n := 32768) (m := 17408) X (16384 * b + t) (16384 + (256 * h + e.val))
def kh (b h : ℕ) (l e : Fin 256) : EReal := at2 (n := 512) (m := 2048) kv (256 * b + l.val) (256 * h + e.val)

theorem q_eq (i : S2x16384x4x256.Idx) : (val_main_v2 (F := Ideal) X i : EReal) = qh X (i 0).val (i 2).val (i 1).val (i 3) := by
  have h0 : (i 0).val < 2 := (i 0).isLt
  have h1 : (i 1).val < 16384 := (i 1).isLt
  have h2 : (i 2).val < 4 := (i 2).isLt
  have h3 : (i 3).val < 256 := (i 3).isLt
  rw [val_main_v2_apply, val_main_v1_apply, val_main_v0_apply]
  refine at2_eq (n := 32768) (m := 17408) X _ ?_ ?_
  · show ((((i 0).val * 16384 + (i 1).val) * 4 + (i 2).val) * 256 + (i 3).val) / 1024 = _
    omega
  · show 16384 + ((((i 0).val * 16384 + (i 1).val) * 4 + (i 2).val) * 256 + (i 3).val) % 1024 = _
    omega

theorem k_eq (i : S2x256x4x256.Idx) : (val_main_v6 (F := Ideal) kv i : EReal) = kh kv (i 0).val (i 2).val (i 1) (i 3) := by
  have h0 : (i 0).val < 2 := (i 0).isLt
  have h1 : (i 1).val < 256 := (i 1).isLt
  have h2 : (i 2).val < 4 := (i 2).isLt
  have h3 : (i 3).val < 256 := (i 3).isLt
  rw [val_main_v6_apply, val_main_v4_apply, val_main_v3_apply]
  refine at2_eq (n := 512) (m := 2048) kv _ ?_ ?_
  · show ((((i 0).val * 256 + (i 1).val) * 4 + (i 2).val) * 256 + (i 3).val) / 1024 = _
    omega
  · show ((((i 0).val * 256 + (i 1).val) * 4 + (i 2).val) * 256 + (i 3).val) % 1024 = _
    omega

theorem v_eq (i : S2x256x4x256.Idx) : (val_main_v21 (F := Ideal) kv i : EReal)
    = at2 (n := 512) (m := 2048) kv (256 * (i 0).val + (i 1).val) (1024 + (256 * (i 2).val + (i 3).val)) := by
  have h0 : (i 0).val < 2 := (i 0).isLt
  have h1 : (i 1).val < 256 := (i 1).isLt
  have h2 : (i 2).val < 4 := (i 2).isLt
  have h3 : (i 3).val < 256 := (i 3).isLt
  rw [val_main_v21_apply, val_main_v5_apply, val_main_v3_apply]
  refine at2_eq (n := 512) (m := 2048) kv _ ?_ ?_
  · show ((((i 0).val * 256 + (i 1).val) * 4 + (i 2).val) * 256 + (i 3).val) / 1024 = _
    omega
  · show 1024 + ((((i 0).val * 256 + (i 1).val) * 4 + (i 2).val) * 256 + (i 3).val) % 1024 = _
    omega

/-- The scaled products. -/
theorem sc_eq (i : S2x4x16384x256.Idx) :
    (val_main_v9 (F := Ideal) X kv i : EReal) = sc (qh X (i 0).val (i 1).val (i 2).val) (kh kv (i 0).val (i 1).val) (i 3) := by
  rw [val_main_v9_apply, val_main_v7_apply, val_main_v8_apply, val_main_cst_apply]
  unfold sc
  refine congrArg (fun t : EReal => t * Ideal.ofBits .f32 0x3D800000#32) ?_
  exact Finset.sum_congr rfl fun k _ => congrArg₂ (· * ·) (q_eq X _) (k_eq kv _)

theorem top_eq (i : S2x4x16384.Idx) :
    (val_main_v12 (F := Ideal) X kv i : EReal) = top (qh X (i 0).val (i 1).val (i 2).val) (kh kv (i 0).val (i 1).val) := by
  rw [val_main_v12_apply, val_main_v11_apply, val_main_cst_1_apply]
  refine Eq.trans (b := max (Ideal.ofBits .f32 0xFF800000#32) (val_main_v10 (F := Ideal) X kv i : EReal)) rfl ?_
  rw [neg_inf, max_eq_right bot_le]
  unfold val_main_v10
  have h := sc_eq X kv
  generalize val_main_v9 (F := Ideal) X kv = y at h
  simp only [pointwise]
  unfold top
  rw [val_main_cst_0_apply]
  refine congrArg (fun f : Fin 256 → EReal => Finset.fold max (Ideal.ofBits .f32 0xFF800000#32) f Finset.univ) (funext fun k => ?_)
  exact h _

theorem wt_eq (i : S2x4x16384x256.Idx) :
    (val_main_v16 (F := Ideal) X kv i : EReal) = wt (qh X (i 0).val (i 1).val (i 2).val) (kh kv (i 0).val (i 1).val) (i 3) := by
  rw [val_main_v16_apply, val_main_v15_apply, val_main_v14_apply, val_main_v13_apply]
  unfold wt
  refine congrArg Ideal.exp ?_
  exact congrArg₂ (fun a b : EReal => a - b) (sc_eq X kv i) (top_eq X kv _)

theorem den_eq (i : S2x4x16384.Idx) :
    (val_main_v17 (F := Ideal) X kv i : EReal) = ∑ l, wt (qh X (i 0).val (i 1).val (i 2).val) (kh kv (i 0).val (i 1).val) l := by
  rw [val_main_v17_apply, val_main_cst_2_apply]
  refine Eq.trans (b := (0 : EReal) + ∑ k : Fin 256, (val_main_v16 (F := Ideal) X kv (idx_main_v17 i k) : EReal)) (congrArg (fun t : EReal => t + _) Ideal.ofBits_zero_f32) ?_
  rw [zero_add]
  exact Finset.sum_congr rfl fun k _ => wt_eq X kv _

theorem pr_eq (i : S2x4x16384x256.Idx) :
    (val_main_v20 (F := Ideal) X kv i : EReal) = Ideal.div (wt (qh X (i 0).val (i 1).val (i 2).val) (kh kv (i 0).val (i 1).val) (i 3))
      (∑ l, wt (qh X (i 0).val (i 1).val (i 2).val) (kh kv (i 0).val (i 1).val) l) := by
  rw [val_main_v20_apply, val_main_v19_apply, val_main_v18_apply]
  exact congrArg₂ Ideal.div (wt_eq X kv i) (den_eq X kv _)

/-- The attention over the memory. -/
theorem xa_eq (i : S32768x1024.Idx) : (val_main_v24 (F := Ideal) X kv i : EReal) = xa X kv (i 0).val (i 1).val := by
  have h0 : (i 0).val < 32768 := (i 0).isLt
  have h1 : (i 1).val < 1024 := (i 1).isLt
  rw [val_main_v24_apply, val_main_v23_apply, val_main_v22_apply]
  have eb : ((i 0).val * 1024 + (i 1).val) / 16777216 = (i 0).val / 16384 := by omega
  have et : ((i 0).val * 1024 + (i 1).val) / 1024 % 16384 = (i 0).val % 16384 := by omega
  have eh : ((i 0).val * 1024 + (i 1).val) / 256 % 4 = (i 1).val / 256 := by omega
  have ed : ((i 0).val * 1024 + (i 1).val) % 256 = (i 1).val % 256 := by omega
  have eq : qh X (((i 0).val * 1024 + (i 1).val) / 16777216) (((i 0).val * 1024 + (i 1).val) / 256 % 4) (((i 0).val * 1024 + (i 1).val) / 1024 % 16384)
      = fun e : Fin 256 => at2 (n := 32768) (m := 17408) X (i 0).val (16384 + (256 * ((i 1).val / 256) + e.val)) := by
    rw [eb, et, eh]
    funext e
    unfold qh
    rw [show 16384 * ((i 0).val / 16384) + (i 0).val % 16384 = (i 0).val by omega]
  have ek : kh kv (((i 0).val * 1024 + (i 1).val) / 16777216) (((i 0).val * 1024 + (i 1).val) / 256 % 4)
      = fun l e : Fin 256 => at2 (n := 512) (m := 2048) kv (256 * ((i 0).val / 16384) + l.val) (256 * ((i 1).val / 256) + e.val) := by
    rw [eb, eh]
    rfl
  unfold xa att
  refine Finset.sum_congr rfl fun l _ => ?_
  refine Eq.trans (mul_comm (G := EReal) _ _) ?_
  refine congrArg₂ (· * ·) ?_ ?_
  · refine (pr_eq X kv _).trans ?_
    rw [← eq, ← ek]
    rfl
  · refine (v_eq kv _).trans ?_
    refine congrArg₂ (at2 (n := 512) (m := 2048) kv) ?_ ?_
    · show 256 * (((i 0).val * 1024 + (i 1).val) / 16777216) + l.val = _
      rw [eb]
    · show 1024 + (256 * (((i 0).val * 1024 + (i 1).val) / 256 % 4) + ((i 0).val * 1024 + (i 1).val) % 256) = _
      omega

/-- The whole result. -/
theorem result (i : S32768x2048.Idx) :
    (val_main_v53 (F := Ideal) X da hm kv wd wm wc bg i : EReal) = merged X da hm kv wd wm wc bg (i 0).val (i 1).val := by
  rw [val_main_v53_apply, val_main_v52_apply, val_main_v51_apply, val_main_v47_apply, val_main_v46_apply, val_main_v41_apply, val_main_v50_apply, val_main_v45_apply, val_main_v40_apply]
  unfold merged
  refine congrArg₂ (fun a b : EReal => a + b) (congrArg₂ (fun a b : EReal => a + b) (congrArg₂ (fun a b : EReal => a * b) (gate0 X bg i) ?_) (congrArg₂ (fun a b : EReal => a * b) (gate1 X bg i) ?_)) (congrArg₂ (fun a b : EReal => a * b) (gate2 X bg i) ?_)
  · exact Finset.sum_congr rfl fun k _ => congrArg₂ (fun a b : EReal => a * b) (at2_eq (n := 32768) (m := 2048) da _ rfl rfl) (at2_eq (n := 2048) (m := 2048) wd _ rfl rfl)
  · exact Finset.sum_congr rfl fun k _ => congrArg₂ (fun a b : EReal => a * b) (at2_eq (n := 32768) (m := 1024) hm _ rfl rfl) (at2_eq (n := 1024) (m := 2048) wm _ rfl rfl)
  · exact Finset.sum_congr rfl fun k _ => congrArg₂ (fun a b : EReal => a * b) (xa_eq X kv _) (at2_eq (n := 1024) (m := 2048) wc _ rfl rfl)

end Cert.Reference3Ideal.Merge

end
-- ==== Proof.MergeClaims.lean ====
/- The five claims about the merge. -/
module

public import proofs.«01_k».proof.Defs
public import proofs.«01_k».proof.Proof.Gen.Kernel3.Frame
public import proofs.«01_k».proof.Proof.Gen.Reference3Ideal.Run
public import proofs.«01_k».proof.Proof.MergeValue
public import proofs.«01_k».proof.Proof.MergeRef
public import Idealize.ShloMosaic.Lib.Quiescent

@[expose] public section

noncomputable section

namespace Cert.Proof.MergeClaims

open Idealize.ShloMosaic Idealize.ShloMosaic.TcCoe Idealize.SL.Sem

theorem frame_k : Cert.quiescent_Kernel3 := fun m ρ _ => Cert.Kernel3.Gen.frame m ρ
theorem frame_ki : Cert.quiescent_Kernel3Ideal := fun m ρ _ => Cert.Kernel3Ideal.Gen.frame m ρ

/-- The reference's run read at its arguments; it declares no semaphore. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

/-- Both result arrays end at the merged branches of arguments that agree. -/
theorem algebraic : Cert.algebraic_Kernel3Ideal_Reference3Ideal := by
  intro m ρ m' ρ' _ hagree
  refine ⟨fun c => Cert.Kernel3Ideal.Merge.G m c, ?_, ?_⟩
  · exact (θ_run Cert.Kernel3Ideal.defs _ _).mono
      (fun _ h c => ⟨(h c).1.trans (Cert.Kernel3Ideal.Merge.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨e0, e1, e2, e3, e4, e5, e6, e7⟩ := hagree c
    refine (Cert.Reference3Ideal.Read.val_main_v53_eq (F := Ideal) m' c).trans (funext fun i => ?_)
    rw [e0, e1, e2, e3, e4, e5, e6, e7]
    exact Cert.Reference3Ideal.Merge.result _ _ _ _ _ _ _ _ i

end Cert.Proof.MergeClaims

end
-- ==== Proof.OutMath.lean ====
/- The output projection and the memory's keys and values as formulas: the residual sum, the root mean square norm, the product. -/
module

public import proofs.«01_k».proof.Proof.MergeMath

@[expose] public section

noncomputable section

namespace Cert.OutMath

open Idealize.ShloMosaic
open Cert.MergeMath

/-- An array of three axes read at three naturals, zero outside it. -/
def at3 {n m l : ℕ} (x : (⟨3, ![n, m, l]⟩ : Shape).Idx → EReal) (a b d : ℕ) : EReal :=
  if h : a < n ∧ b < m ∧ d < l then x (ix3 ⟨a, h.1⟩ ⟨b, h.2.1⟩ ⟨d, h.2.2⟩) else 0

theorem at3_eq {n m l : ℕ} (x : (⟨3, ![n, m, l]⟩ : Shape).Idx → EReal) (j : (⟨3, ![n, m, l]⟩ : Shape).Idx) {a b d : ℕ}
    (h0 : (j 0).val = a) (h1 : (j 1).val = b) (h2 : (j 2).val = d) : x j = at3 x a b d := by
  subst h0; subst h1; subst h2
  unfold at3
  rw [dif_pos ⟨(j 0).isLt, (j 1).isLt, (j 2).isLt⟩]
  refine congrArg x (funext fun e => ?_)
  match e with
  | ⟨0, _⟩ => rfl
  | ⟨1, _⟩ => rfl
  | ⟨2, _⟩ => rfl

/-- The reciprocal root of a row's mean square, with the small constant added. -/
def rinv (f : Fin 2048 → EReal) : EReal :=
  Ideal.rsqrt (Ideal.div (∑ k, f k * f k) (Ideal.ofBits .f32 0x45000000#32) + Ideal.ofBits .f32 0x358637BD#32)

variable {T : ℕ}

/-- The residual stream after the output projection. -/
def x1 (x mg : (⟨2, ![T, 2048]⟩ : Shape).Idx → EReal) (w : (⟨2, ![2048, 2048]⟩ : Shape).Idx → EReal) (n d : ℕ) : EReal :=
  at2 x n d + ∑ k : Fin 2048, at2 mg n k.val * at2 w k.val d

/-- Its norm, with the gain `g`. -/
def h2 (x mg : (⟨2, ![T, 2048]⟩ : Shape).Idx → EReal) (w : (⟨2, ![2048, 2048]⟩ : Shape).Idx → EReal) (g : ℕ → EReal) (n d : ℕ) : EReal :=
  x1 x mg w n d * rinv (fun k => x1 x mg w n k.val) * g d

/-- The product of the normed row `f`, with the gain `g`, with the column `w`. -/
def kv (f g w : Fin 2048 → EReal) : EReal := ∑ k, f k * rinv f * g k * w k

end Cert.OutMath

end
-- ==== Proof.OutValue.lean ====
/- The output projection's kernel at the ideal instance, index by index: what a grid point leaves in its two blocks, where they lie in the
   arrays, and so the two whole result arrays. -/
module

public import proofs.«01_k».proof.Proof.Gen.Kernel4Ideal.Value
public import proofs.«01_k».proof.Proof.OutMath

@[expose] public section

noncomputable section

namespace Cert.Kernel4Ideal.Out

open Cert.Kernel4Ideal Cert.Kernel4Ideal.Gen Idealize.ShloMosaic Idealize.ShloMosaic.TcCoe Idealize.SL.Sem
open Idealize.ShloMosaic.Pipeline (Dat)
open Cert.MergeMath Cert.OutMath

theorem hz : (![0, 0] : Fin 2 → Nat) = fun _ => 0 := funext fun a => by fin_cases a <;> rfl

theorem pay2_apply (v0 : Vec Ideal S512x2048 .f32) (v1 : Vec Ideal S512x2048 .bf16) (v2 : Vec Ideal S2048x2048 .bf16) (j : S512x2048.Idx) :
    k0_pay2 (F := Ideal) v0 v1 v2 j = x1 (T := 512) v0 v1 v2 (j 0).val (j 1).val := by
  unfold k0_pay2
  simp only [pointwise]
  simp only [zero_add]
  exact congrArg₂ (· + ·) (at2_eq v0 j rfl rfl) (Finset.sum_congr rfl fun k _ => congrArg₂ (· * ·) (at2_eq v1 _ rfl rfl) (at2_eq v2 _ rfl rfl))

theorem pay4_apply (v0 : Vec Ideal S512x2048 .f32) (v1 : Vec Ideal S512x2048 .bf16) (v2 : Vec Ideal S2048x2048 .bf16) (v3 : Vec Ideal S1x2048 .f32)
    (j : S512x2048.Idx) : k0_pay4 (F := Ideal) v0 v1 v2 v3 j = h2 (T := 512) v0 v1 v2 (fun d => at2 v3 0 d) (j 0).val (j 1).val := by
  unfold k0_pay4 k0_pay3
  simp only [pointwise]
  unfold h2 rinv
  refine congrArg₂ (· * ·) (congrArg₂ (· * ·) (pay2_apply v0 v1 v2 _) (congrArg Ideal.rsqrt (congrArg₂ (· + ·) (congrArg₂ Ideal.div (Finset.sum_congr rfl fun k _ => ?_) rfl) rfl))) (at2_eq v3 _ rfl rfl)
  exact congrArg₂ (· * ·) (pay2_apply v0 v1 v2 _) (pay2_apply v0 v1 v2 _)

section
variable (x0 : Vec Ideal S512x2048 .f32) (xm : Vec Ideal S512x2048 .bf16) (xw : Vec Ideal S2048x2048 .bf16) (x3 : Vec Ideal S1x2048 .f32)
  (x4 : Vec Ideal S2048x256 .bf16) (x5 : Vec Ideal S1x128 .f32) (j : S512x2048.Idx)

theorem out6_apply : out0_6 (F := Ideal) x0 xm xw x3 x4 x5 j = x1 (T := 512) x0 xm xw (j 0).val (j 1).val := by
  unfold out0_6
  rw [View.canon_unit_zero hz, View.ld_unit_zero hz, View.ld_unit_zero hz, View.ld_unit_zero hz]
  exact pay2_apply x0 xm xw j

theorem out7_apply : out0_7 (F := Ideal) x0 xm xw x3 x4 x5 j = h2 (T := 512) x0 xm xw (fun d => at2 x3 0 d) (j 0).val (j 1).val := by
  unfold out0_7
  rw [View.canon_unit_zero hz, View.ld_unit_zero hz, View.ld_unit_zero hz, View.ld_unit_zero hz, View.ld_unit_zero hz]
  exact pay4_apply x0 xm xw x3 j

end

variable (m : (ℓ : Loc nD τ sig) → Buf (Elt Ideal) ℓ)

/-- The residual stream of the launch's arguments. -/
def G6 (c : Dev nD) : S32768x2048.Idx → EReal := fun i =>
  x1 (T := 32768) (m ((c : Thread nD τ).loc main_arg0)) (m ((c : Thread nD τ).loc main_arg1)) (m ((c : Thread nD τ).loc main_arg2)) (i 0).val (i 1).val

/-- Its norm. -/
def G7 (c : Dev nD) : S32768x2048.Idx → EReal := fun i =>
  h2 (T := 32768) (m ((c : Thread nD τ).loc main_arg0)) (m ((c : Thread nD τ).loc main_arg1)) (m ((c : Thread nD τ).loc main_arg2))
    (fun d => at1 (n := 2048) (m ((c : Thread nD τ).loc main_arg3)) d) (i 0).val (i 1).val

theorem start0 : ∀ t : Fin cfg0.N, win0_0.index t (0 : Fin 2) = t.val ∧ win0_0.index t (1 : Fin 2) = 0 :=
  (by decide +kernel : ∀ t : Fin grid0.N, _)
theorem start1 : ∀ t : Fin cfg0.N, win0_1.index t (0 : Fin 2) = t.val ∧ win0_1.index t (1 : Fin 2) = 0 :=
  (by decide +kernel : ∀ t : Fin grid0.N, _)
theorem start2 : ∀ t : Fin cfg0.N, win0_2.index t (0 : Fin 2) = 0 ∧ win0_2.index t (1 : Fin 2) = 0 :=
  (by decide +kernel : ∀ t : Fin grid0.N, _)
theorem start3 : ∀ t : Fin cfg0.N, win0_3.index t (0 : Fin 2) = 0 ∧ win0_3.index t (1 : Fin 2) = 0 :=
  (by decide +kernel : ∀ t : Fin grid0.N, _)
theorem start6 : ∀ t : Fin cfg0.N, win0_6.index t (0 : Fin 2) = t.val ∧ win0_6.index t (1 : Fin 2) = 0 :=
  (by decide +kernel : ∀ t : Fin grid0.N, _)
theorem start7 : ∀ t : Fin cfg0.N, win0_7.index t (0 : Fin 2) = t.val ∧ win0_7.index t (1 : Fin 2) = 0 :=
  (by decide +kernel : ∀ t : Fin grid0.N, _)

/-- The weight and the gain as the region finds them. -/
theorem V_v10 (c : Dev nD) : V m c main_v10 = (m ((c : Thread nD τ).loc main_arg2) : S2048x2048.Idx → EReal) := by
  have e : V m c main_v10 = (truncf (F := Ideal) (φ := .f32) .bf16 (m ((c : Thread nD τ).loc main_arg2)) bitsLt_bf16_f32 : FVec Ideal S2048x2048 .bf16) := by
    dsimp only [V]; unfold hostOps0; after_results <;> rfl
  rw [e]; rfl
theorem V_v11 (c : Dev nD) (d : Fin 2048) : V m c main_v11 (ix2 (⟨0, Nat.one_pos⟩ : Fin 1) d) = m ((c : Thread nD τ).loc main_arg3) (ix1 d) := by
  have e : V m c main_v11 = shapeCast S1x2048 (m ((c : Thread nD τ).loc main_arg3)) shapeCasts_S2048_S1x2048 := by
    dsimp only [V]; unfold hostOps0; after_results <;> rfl
  rw [e]
  refine shapeCast_apply _ _ _ (ix1 d) ?_
  rw [Shape.rowMajor_val_one, Shape.rowMajor_val_two]
  show d.val = 0 * 2048 + d.val
  omega

theorem blk0 (c : Dev nD) (t : Fin cfg0.N) {r k : ℕ} (hr : r < 512) (hk : k < 2048) :
    at2 (iblk m c 0 t : Vec Ideal S512x2048 .f32) r k = at2 (n := 32768) (m := 2048) (m ((c : Thread nD τ).loc main_arg0)) (512 * t.val + r) k := by
  obtain ⟨h0, h1⟩ := start0 t
  refine (at2_eq (iblk m c 0 t : Vec Ideal S512x2048 .f32) (ix2 ⟨r, hr⟩ ⟨k, hk⟩) rfl rfl).symm.trans ?_
  show V m c main_arg0 ((win0_0.rect t).emb (ix2 ⟨r, hr⟩ ⟨k, hk⟩)) = _
  rw [V_main_arg0]
  refine at2_eq _ _ ?_ ?_
  · show win0_0.index t (0 : Fin 2) * 512 + 1 * r = _
    rw [h0]; omega
  · show win0_0.index t (1 : Fin 2) * 2048 + 1 * k = _
    rw [h1]; omega

theorem blk1 (c : Dev nD) (t : Fin cfg0.N) {r k : ℕ} (hr : r < 512) (hk : k < 2048) :
    at2 (iblk m c 1 t : Vec Ideal S512x2048 .bf16) r k = at2 (n := 32768) (m := 2048) (m ((c : Thread nD τ).loc main_arg1)) (512 * t.val + r) k := by
  obtain ⟨h0, h1⟩ := start1 t
  refine (at2_eq (iblk m c 1 t : Vec Ideal S512x2048 .bf16) (ix2 ⟨r, hr⟩ ⟨k, hk⟩) rfl rfl).symm.trans ?_
  show V m c main_arg1 ((win0_1.rect t).emb (ix2 ⟨r, hr⟩ ⟨k, hk⟩)) = _
  rw [V_main_arg1]
  refine at2_eq _ _ ?_ ?_
  · show win0_1.index t (0 : Fin 2) * 512 + 1 * r = _
    rw [h0]; omega
  · show win0_1.index t (1 : Fin 2) * 2048 + 1 * k = _
    rw [h1]; omega

theorem blk2 (c : Dev nD) (t : Fin cfg0.N) {r k : ℕ} (hr : r < 2048) (hk : k < 2048) :
    at2 (iblk m c 2 t : Vec Ideal S2048x2048 .bf16) r k = at2 (n := 2048) (m := 2048) (m ((c : Thread nD τ).loc main_arg2)) r k := by
  obtain ⟨h0, h1⟩ := start2 t
  refine (at2_eq (iblk m c 2 t : Vec Ideal S2048x2048 .bf16) (ix2 ⟨r, hr⟩ ⟨k, hk⟩) rfl rfl).symm.trans ?_
  show V m c main_v10 ((win0_2.rect t).emb (ix2 ⟨r, hr⟩ ⟨k, hk⟩)) = _
  rw [V_v10]
  refine at2_eq _ _ ?_ ?_
  · show win0_2.index t (0 : Fin 2) * 2048 + 1 * r = _
    rw [h0]; omega
  · show win0_2.index t (1 : Fin 2) * 2048 + 1 * k = _
    rw [h1]; omega

theorem blk3 (c : Dev nD) (t : Fin cfg0.N) {d : ℕ} (hd : d < 2048) :
    at2 (iblk m c 3 t : Vec Ideal S1x2048 .f32) 0 d = at1 (n := 2048) (m ((c : Thread nD τ).loc main_arg3)) d := by
  obtain ⟨h0, h1⟩ := start3 t
  refine (at2_eq (iblk m c 3 t : Vec Ideal S1x2048 .f32) (ix2 ⟨0, Nat.one_pos⟩ ⟨d, hd⟩) rfl rfl).symm.trans ?_
  show V m c main_v11 ((win0_3.rect t).emb (ix2 ⟨0, Nat.one_pos⟩ ⟨d, hd⟩)) = _
  refine Eq.trans (congrArg (V m c main_v11) (?_ : _ = ix2 ⟨0, Nat.one_pos⟩ ⟨d, hd⟩)) ((V_v11 m c _).trans (at1_eq _ _ rfl))
  · refine funext fun a => Fin.ext ?_
    fin_cases a
    · show win0_3.index t (0 : Fin 2) * 1 + 1 * 0 = 0
      rw [h0]
    · show win0_3.index t (1 : Fin 2) * 2048 + 1 * d = d
      rw [h1]; omega

/-- A block's row of the residual stream is the row's in the whole arrays. -/
theorem x1_eq (c : Dev nD) (t : Fin cfg0.N) {r k : ℕ} (hr : r < 512) (hk : k < 2048) :
    x1 (T := 512) (iblk m c 0 t) (iblk m c 1 t) (iblk m c 2 t) r k
      = x1 (T := 32768) (m ((c : Thread nD τ).loc main_arg0)) (m ((c : Thread nD τ).loc main_arg1)) (m ((c : Thread nD τ).loc main_arg2)) (512 * t.val + r) k :=
  congrArg₂ (· + ·) (blk0 m c t hr hk) (Finset.sum_congr rfl fun e _ => congrArg₂ (· * ·) (blk1 m c t hr e.isLt) (blk2 m c t e.isLt hk))

theorem flushed6_eq (c : Dev nD) (t : Fin cfg0.N) :
    (dats m 0 c).flushed 6 t = (win0_6.blk t).view.read (Elt Ideal) (G6 m c) := by
  rw [Value.flushed6]
  funext j
  obtain ⟨h0, h1⟩ := start6 t
  have hj0 : (j 0).val < 512 := (j 0).isLt
  have hj1 : (j 1).val < 2048 := (j 1).isLt
  refine (out6_apply (iblk m c 0 t) (iblk m c 1 t) (iblk m c 2 t) (iblk m c 3 t) (iblk m c 4 t) (iblk m c 5 t) j).trans ?_
  show _ = G6 m c ((win0_6.rect t).emb j)
  have e0 : ((win0_6.rect t).emb j 0).val = 512 * t.val + (j 0).val := by
    refine Eq.trans (b := win0_6.index t (0 : Fin 2) * 512 + 1 * (j 0).val) rfl ?_
    rw [h0]; omega
  have e1 : ((win0_6.rect t).emb j 1).val = (j 1).val := by
    refine Eq.trans (b := win0_6.index t (1 : Fin 2) * 2048 + 1 * (j 1).val) rfl ?_
    rw [h1]; omega
  unfold G6
  rw [e0, e1]
  exact x1_eq m c t hj0 hj1

theorem flushed7_eq (c : Dev nD) (t : Fin cfg0.N) :
    (dats m 0 c).flushed 7 t = (win0_7.blk t).view.read (Elt Ideal) (G7 m c) := by
  rw [Value.flushed7]
  funext j
  obtain ⟨h0, h1⟩ := start7 t
  have hj0 : (j 0).val < 512 := (j 0).isLt
  have hj1 : (j 1).val < 2048 := (j 1).isLt
  refine (out7_apply (iblk m c 0 t) (iblk m c 1 t) (iblk m c 2 t) (iblk m c 3 t) (iblk m c 4 t) (iblk m c 5 t) j).trans ?_
  show _ = G7 m c ((win0_7.rect t).emb j)
  have e0 : ((win0_7.rect t).emb j 0).val = 512 * t.val + (j 0).val := by
    refine Eq.trans (b := win0_7.index t (0 : Fin 2) * 512 + 1 * (j 0).val) rfl ?_
    rw [h0]; omega
  have e1 : ((win0_7.rect t).emb j 1).val = (j 1).val := by
    refine Eq.trans (b := win0_7.index t (1 : Fin 2) * 2048 + 1 * (j 1).val) rfl ?_
    rw [h1]; omega
  unfold G7 h2
  rw [e0, e1]
  exact congrArg₂ (· * ·) (congrArg₂ (· * ·) (x1_eq m c t hj0 hj1) (congrArg rinv (funext fun k => x1_eq m c t hj0 k.isLt))) (blk3 m c t hj1)

theorem cover6 (i : S32768x2048.Idx) :
    ∃ t : Fin cfg0.N, (cfg0.win 6).flush t = true ∧ i ∈ ((cfg0.win 6).blk t).view.set := by
  have hN : cfg0.N = 64 := N_0
  have h0 : (i 0).val < 32768 := (i 0).isLt
  have h1 : (i 1).val < 2048 := (i 1).isLt
  obtain ⟨t, ht⟩ : ∃ t : Fin cfg0.N, t.val = (i 0).val / 512 := ⟨⟨(i 0).val / 512, by omega⟩, rfl⟩
  obtain ⟨e0, e1⟩ := start6 t
  refine ⟨t, flush0_6 t, ?_⟩
  show i ∈ ((View.whole main_v12_0).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 2048 ≤ (i 1).val ∧ (i 1).val < win0_6.index t (1 : Fin 2) * 2048 + 2048
    rw [e1]; omega

theorem cover7 (i : S32768x2048.Idx) :
    ∃ t : Fin cfg0.N, (cfg0.win 7).flush t = true ∧ i ∈ ((cfg0.win 7).blk t).view.set := by
  have hN : cfg0.N = 64 := N_0
  have h0 : (i 0).val < 32768 := (i 0).isLt
  have h1 : (i 1).val < 2048 := (i 1).isLt
  obtain ⟨t, ht⟩ : ∃ t : Fin cfg0.N, t.val = (i 0).val / 512 := ⟨⟨(i 0).val / 512, by omega⟩, rfl⟩
  obtain ⟨e0, e1⟩ := start7 t
  refine ⟨t, flush0_7 t, ?_⟩
  show i ∈ ((View.whole main_v12_1).slice (win0_7.rect t)).set
  rw [View.set_slice_whole, Rect.mem_set_unit]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 2048 ≤ (i 1).val ∧ (i 1).val < win0_7.index t (1 : Fin 2) * 2048 + 2048
    rw [e1]; omega

/-- After the run the first result array holds the residual stream. -/
theorem final6 (c : Dev nD) : (dats m 0 c).arrAt 6 cfg0.N = G6 m c :=
  (dats m 0 c).arrAt_eq_of_cover 6 (G6 m c) (fun t _ => flushed6_eq m c t) cover6

/-- After the run the second result array holds its norm. -/
theorem final7 (c : Dev nD) : (dats m 0 c).arrAt 7 cfg0.N = G7 m c :=
  (dats m 0 c).arrAt_eq_of_cover 7 (G7 m c) (fun t _ => flushed7_eq m c t) cover7

end Cert.Kernel4Ideal.Out

end
-- ==== Proof.OutRef.lean ====
/- The reference's output projection and norm, operation by operation. -/
module

public import proofs.«01_k».proof.Proof.Gen.Reference4Ideal.Read
public import proofs.«01_k».proof.Proof.OutMath

@[expose] public section

noncomputable section

namespace Cert.Reference4Ideal.Out

open Cert.Reference4Ideal Cert.Reference4Ideal.Gen Cert.Reference4Ideal.Read
open Idealize.ShloMosaic Idealize.ShloMosaic.TcCoe Idealize.SL.Sem
open Cert.MergeMath Cert.OutMath

variable (x : (⟨S32768x2048, .f32⟩ : BufTy).Contents (Elt Ideal)) (mg : (⟨S32768x2048, .bf16⟩ : BufTy).Contents (Elt Ideal))
  (w : (⟨S2048x2048, .f32⟩ : BufTy).Contents (Elt Ideal)) (g : (⟨S2048, .f32⟩ : BufTy).Contents (Elt Ideal))

theorem result0 (i : S32768x2048.Idx) :
    (val_main_v2 (F := Ideal) x mg w i : EReal) = x1 (T := 32768) x mg w (i 0).val (i 1).val := by
  rw [val_main_v2_apply, val_main_v1_apply]
  exact congrArg₂ (fun a b : EReal => a + b) (at2_eq (n := 32768) (m := 2048) x i rfl rfl)
    (Finset.sum_congr rfl fun k _ => congrArg₂ (fun a b : EReal => a * b) (at2_eq (n := 32768) (m := 2048) mg _ rfl rfl) (at2_eq (n := 2048) (m := 2048) w _ rfl rfl))

theorem inv_eq (i : S32768x1.Idx) :
    (val_main_v10 (F := Ideal) x mg w i : EReal) = rinv (fun k => x1 (T := 32768) x mg w (i 0).val k.val) := by
  rw [val_main_v10_apply, val_main_v9_apply, val_main_v8_apply, val_main_v7_apply, val_main_v6_apply, val_main_v5_apply, val_main_v4_apply, val_main_cst_apply,
    val_main_cst_0_apply, val_main_cst_1_apply]
  refine Eq.trans (b := Ideal.rsqrt (Ideal.div (Ideal.ofBits .f32 0#32 + ∑ k : Fin 2048, (val_main_v3 (F := Ideal) x mg w (idx_main_v4 (idx_main_v5 i) k) : EReal))
    (Ideal.ofBits .f32 0x45000000#32) + Ideal.ofBits .f32 0x358637BD#32)) rfl ?_
  rw [Ideal.ofBits_zero_f32, zero_add]
  unfold rinv
  refine congrArg (fun t : EReal => Ideal.rsqrt (Ideal.div t (Ideal.ofBits .f32 0x45000000#32) + Ideal.ofBits .f32 0x358637BD#32)) (Finset.sum_congr rfl fun k _ => ?_)
  rw [val_main_v3_apply]
  exact congrArg₂ (fun a b : EReal => a * b) (result0 x mg w _) (result0 x mg w _)

theorem result1 (i : S32768x2048.Idx) :
    (val_main_v16 (F := Ideal) x mg w g i : EReal) = h2 (T := 32768) x mg w (fun d => at1 (n := 2048) g d) (i 0).val (i 1).val := by
  rw [val_main_v16_apply, val_main_v15_apply, val_main_v14_apply, val_main_v13_apply, val_main_v12_apply, val_main_v11_apply]
  exact congrArg₂ (fun a b : EReal => a * b) (congrArg₂ (fun a b : EReal => a * b) (result0 x mg w i) (inv_eq x mg w _)) (at1_eq (n := 2048) g _ rfl)

end Cert.Reference4Ideal.Out

end
-- ==== Proof.OutClaims.lean ====
/- The five claims about the output projection. -/
module

public import proofs.«01_k».proof.Defs
public import proofs.«01_k».proof.Proof.Gen.Kernel4.Frame
public import proofs.«01_k».proof.Proof.Gen.Reference4Ideal.Run
public import proofs.«01_k».proof.Proof.OutValue
public import proofs.«01_k».proof.Proof.OutRef
public import Idealize.ShloMosaic.Lib.Quiescent

@[expose] public section

noncomputable section

namespace Cert.Proof.OutClaims

open Idealize.ShloMosaic Idealize.ShloMosaic.TcCoe Idealize.SL.Sem

theorem frame_k : Cert.quiescent_Kernel4 := fun m ρ _ => Cert.Kernel4.Gen.frame m ρ
theorem frame_ki : Cert.quiescent_Kernel4Ideal := fun m ρ _ => Cert.Kernel4Ideal.Gen.frame m ρ

/-- The reference's run read at its arguments; it declares no semaphore. -/
theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem preserves : Cert.preserves_Kernel4_Kernel4Ideal := trivial

/-- Both programs end at the residual stream and its norm, of arguments that agree. -/
theorem algebraic : Cert.algebraic_Kernel4Ideal_Reference4Ideal := by
  intro m ρ m' ρ' _ hagree
  refine ⟨fun c => Cert.Kernel4Ideal.Out.G6 m c, fun c => Cert.Kernel4Ideal.Out.G7 m c, ?_, ?_⟩
  · exact (θ_run Cert.Kernel4Ideal.defs _ _).mono
      (fun _ h c => ⟨(h c).1.trans (Cert.Kernel4Ideal.Out.final6 m c), (h c).2.1.trans (Cert.Kernel4Ideal.Out.final7 m c), (h c).2.2.2⟩)
      (Cert.Kernel4Ideal.Value.run_blocks (F := Ideal) m ρ)
  · refine (θ_run Cert.Reference4Ideal.defs _ _).mono (fun _ h c => ⟨(h c).1.trans ?_, (h c).2.1.trans ?_, (h c).2.2⟩)
      (Cert.Reference4Ideal.Value.run (F := Ideal) m' ρ')
    · obtain ⟨e0, e1, e2, e3, e4, e5, e6, e7⟩ := hagree c
      refine (Cert.Reference4Ideal.Read.val_main_v2_eq (F := Ideal) _ _ _).trans (funext fun i => ?_)
      rw [e0, e1, e2]
      exact Cert.Reference4Ideal.Out.result0 _ _ _ i
    · obtain ⟨e0, e1, e2, e3, e4, e5, e6, e7⟩ := hagree c
      refine (Cert.Reference4Ideal.Read.val_main_v16_eq (F := Ideal) _ _ _ _).trans (funext fun i => ?_)
      rw [e0, e1, e2, e3]
      exact Cert.Reference4Ideal.Out.result1 _ _ _ _ i

end Cert.Proof.OutClaims

end
-- ==== Proof.MemValue.lean ====
/- The memory's keys and values at the ideal instance, index by index: what a grid point leaves in its block, where it lies in the array, and
   so the whole result array. -/
module

public import proofs.«01_k».proof.Proof.Gen.Kernel5Ideal.Value
public import proofs.«01_k».proof.Proof.OutMath

@[expose] public section

noncomputable section

namespace Cert.Kernel5Ideal.Mem

open Cert.Kernel5Ideal Cert.Kernel5Ideal.Gen Idealize.ShloMosaic Idealize.ShloMosaic.TcCoe Idealize.SL.Sem
open Idealize.ShloMosaic.Pipeline (Dat)
open Cert.MergeMath Cert.OutMath

theorem hz : (![0, 0] : Fin 2 → Nat) = fun _ => 0 := funext fun a => by fin_cases a <;> rfl

theorem pay1_apply (v0 : Vec Ideal S512x2048 .f32) (v1 : Vec Ideal S1x2048 .f32) (v2 : Vec Ideal S2048x512 .bf16) (j : S512x512.Idx) :
    k0_pay1 (F := Ideal) v0 v1 v2 j
      = kv (fun k => at2 v0 (j 0).val k.val) (fun k => at2 v1 0 k.val) (fun k => at2 v2 k.val (j 1).val) := by
  unfold k0_pay1
  simp only [pointwise]
  simp only [zero_add]
  unfold kv rinv
  refine Finset.sum_congr rfl fun k _ => congrArg₂ (· * ·) (congrArg₂ (· * ·) (congrArg₂ (· * ·) (at2_eq v0 _ rfl rfl) (congrArg Ideal.rsqrt (congrArg₂ (· + ·) (congrArg₂ Ideal.div (Finset.sum_congr rfl fun k _ => ?_) rfl) rfl))) (at2_eq v1 _ rfl rfl)) (at2_eq v2 _ rfl rfl)
  exact congrArg₂ (· * ·) (at2_eq v0 _ rfl rfl) (at2_eq v0 _ rfl rfl)

theorem out3_apply (x0 : Vec Ideal S512x2048 .f32) (xg : Vec Ideal S1x2048 .f32) (xw : Vec Ideal S2048x512 .bf16) (j : S512x512.Idx) :
    out0_3 (F := Ideal) x0 xg xw j
      = kv (fun k => at2 x0 (j 0).val k.val) (fun k => at2 xg 0 k.val) (fun k => at2 xw k.val (j 1).val) := by
  unfold out0_3
  rw [View.canon_unit_zero hz, View.ld_unit_zero hz, View.ld_unit_zero hz, View.ld_unit_zero hz]
  exact pay1_apply x0 xg xw j

variable (m : (ℓ : Loc nD τ sig) → Buf (Elt Ideal) ℓ)

/-- The keys and values of the launch's arguments: row `n` is slot `n % 256` of batch `n / 256`. -/
def G (c : Dev nD) : S512x2048.Idx → EReal := fun i =>
  kv (fun k => at3 (n := 2) (m := 256) (l := 2048) (m ((c : Thread nD τ).loc main_arg0)) ((i 0).val / 256) ((i 0).val % 256) k.val)
    (fun k => at1 (n := 2048) (m ((c : Thread nD τ).loc main_arg1)) k.val)
    (fun k => at2 (n := 2048) (m := 2048) (m ((c : Thread nD τ).loc main_arg2)) k.val (i 1).val)

theorem start0 : ∀ t : Fin cfg0.N, win0_0.index t (0 : Fin 2) = 0 ∧ win0_0.index t (1 : Fin 2) = 0 :=
  (by decide +kernel : ∀ t : Fin grid0.N, _)
theorem start1 : ∀ t : Fin cfg0.N, win0_1.index t (0 : Fin 2) = 0 ∧ win0_1.index t (1 : Fin 2) = 0 :=
  (by decide +kernel : ∀ t : Fin grid0.N, _)
theorem start2 : ∀ t : Fin cfg0.N, win0_2.index t (0 : Fin 2) = 0 ∧ win0_2.index t (1 : Fin 2) = t.val :=
  (by decide +kernel : ∀ t : Fin grid0.N, _)
theorem start3 : ∀ t : Fin cfg0.N, win0_3.index t (0 : Fin 2) = 0 ∧ win0_3.index t (1 : Fin 2) = t.val :=
  (by decide +kernel : ∀ t : Fin grid0.N, _)

/-- The memory, the weight and the gain as the region finds them. -/
theorem V_v0 (c : Dev nD) (j : S512x2048.Idx) : V m c main_v0 j
    = at3 (n := 2) (m := 256) (l := 2048) (m ((c : Thread nD τ).loc main_arg0)) ((j 0).val / 256) ((j 0).val % 256) (j 1).val := by
  have h0 : (j 0).val < 512 := (j 0).isLt
  have h1 : (j 1).val < 2048 := (j 1).isLt
  have e : V m c main_v0 = shapeCast S512x2048 (m ((c : Thread nD τ).loc main_arg0)) shapeCasts_S2x256x2048_S512x2048 := by
    dsimp only [V]; unfold hostOps0; after_results <;> rfl
  rw [e]
  refine (shapeCast_apply _ _ j (ix3 (⟨(j 0).val / 256, by omega⟩ : Fin 2) (⟨(j 0).val % 256, by omega⟩ : Fin 256) (⟨(j 1).val, h1⟩ : Fin 2048)) ?_).trans
    (at3_eq (n := 2) (m := 256) (l := 2048) _ _ rfl rfl rfl)
  rw [Shape.rowMajor_val_three, Shape.rowMajor_val_two]
  show ((j 0).val / 256 * 256 + (j 0).val % 256) * 2048 + (j 1).val = (j 0).val * 2048 + (j 1).val
  omega
theorem V_v1 (c : Dev nD) : V m c main_v1 = (m ((c : Thread nD τ).loc main_arg2) : S2048x2048.Idx → EReal) := by
  have e : V m c main_v1 = (truncf (F := Ideal) (φ := .f32) .bf16 (m ((c : Thread nD τ).loc main_arg2)) bitsLt_bf16_f32 : FVec Ideal S2048x2048 .bf16) := by
    dsimp only [V]; unfold hostOps0; after_results <;> rfl
  rw [e]; rfl
theorem V_v2 (c : Dev nD) (d : Fin 2048) : V m c main_v2 (ix2 (⟨0, Nat.one_pos⟩ : Fin 1) d) = m ((c : Thread nD τ).loc main_arg1) (ix1 d) := by
  have e : V m c main_v2 = shapeCast S1x2048 (m ((c : Thread nD τ).loc main_arg1)) shapeCasts_S2048_S1x2048 := by
    dsimp only [V]; unfold hostOps0; after_results <;> rfl
  rw [e]
  refine shapeCast_apply _ _ _ (ix1 d) ?_
  rw [Shape.rowMajor_val_one, Shape.rowMajor_val_two]
  show d.val = 0 * 2048 + d.val
  omega

theorem blk0 (c : Dev nD) (t : Fin cfg0.N) {r k : ℕ} (hr : r < 512) (hk : k < 2048) :
    at2 (iblk m c 0 t : Vec Ideal S512x2048 .f32) r k = at3 (n := 2) (m := 256) (l := 2048) (m ((c : Thread nD τ).loc main_arg0)) (r / 256) (r % 256) k := by
  obtain ⟨h0, h1⟩ := start0 t
  refine (at2_eq (iblk m c 0 t : Vec Ideal S512x2048 .f32) (ix2 ⟨r, hr⟩ ⟨k, hk⟩) rfl rfl).symm.trans ?_
  show V m c main_v0 ((win0_0.rect t).emb (ix2 ⟨r, hr⟩ ⟨k, hk⟩)) = _
  have e0 : ((win0_0.rect t).emb (ix2 ⟨r, hr⟩ ⟨k, hk⟩) 0).val = r := by
    refine Eq.trans (b := win0_0.index t (0 : Fin 2) * 512 + 1 * r) rfl ?_
    rw [h0]; omega
  have e1 : ((win0_0.rect t).emb (ix2 ⟨r, hr⟩ ⟨k, hk⟩) 1).val = k := by
    refine Eq.trans (b := win0_0.index t (1 : Fin 2) * 2048 + 1 * k) rfl ?_
    rw [h1]; omega
  refine (V_v0 m c _).trans ?_
  rw [e0, e1]

theorem blk1 (c : Dev nD) (t : Fin cfg0.N) {d : ℕ} (hd : d < 2048) :
    at2 (iblk m c 1 t : Vec Ideal S1x2048 .f32) 0 d = at1 (n := 2048) (m ((c : Thread nD τ).loc main_arg1)) d := by
  obtain ⟨h0, h1⟩ := start1 t
  refine (at2_eq (iblk m c 1 t : Vec Ideal S1x2048 .f32) (ix2 ⟨0, Nat.one_pos⟩ ⟨d, hd⟩) rfl rfl).symm.trans ?_
  show V m c main_v2 ((win0_1.rect t).emb (ix2 ⟨0, Nat.one_pos⟩ ⟨d, hd⟩)) = _
  refine Eq.trans (congrArg (V m c main_v2) (?_ : _ = ix2 ⟨0, Nat.one_pos⟩ ⟨d, hd⟩)) ((V_v2 m c _).trans (at1_eq _ _ rfl))
  refine funext fun a => Fin.ext ?_
  fin_cases a
  · show win0_1.index t (0 : Fin 2) * 1 + 1 * 0 = 0
    rw [h0]
  · show win0_1.index t (1 : Fin 2) * 2048 + 1 * d = d
    rw [h1]; omega

theorem blk2 (c : Dev nD) (t : Fin cfg0.N) {r k : ℕ} (hr : r < 2048) (hk : k < 512) :
    at2 (iblk m c 2 t : Vec Ideal S2048x512 .bf16) r k = at2 (n := 2048) (m := 2048) (m ((c : Thread nD τ).loc main_arg2)) r (512 * t.val + k) := by
  obtain ⟨h0, h1⟩ := start2 t
  refine (at2_eq (iblk m c 2 t : Vec Ideal S2048x512 .bf16) (ix2 ⟨r, hr⟩ ⟨k, hk⟩) rfl rfl).symm.trans ?_
  show V m c main_v1 ((win0_2.rect t).emb (ix2 ⟨r, hr⟩ ⟨k, hk⟩)) = _
  rw [V_v1]
  refine at2_eq _ _ ?_ ?_
  · show win0_2.index t (0 : Fin 2) * 2048 + 1 * r = _
    rw [h0]; omega
  · show win0_2.index t (1 : Fin 2) * 512 + 1 * k = _
    rw [h1]; omega

theorem flushed_eq (c : Dev nD) (t : Fin cfg0.N) :
    (dats m 0 c).flushed 3 t = (win0_3.blk t).view.read (Elt Ideal) (G m c) := by
  rw [Value.flushed3]
  funext j
  obtain ⟨h0, h1⟩ := start3 t
  have hj0 : (j 0).val < 512 := (j 0).isLt
  have hj1 : (j 1).val < 512 := (j 1).isLt
  refine (out3_apply (iblk m c 0 t) (iblk m c 1 t) (iblk m c 2 t) j).trans ?_
  show _ = G m c ((win0_3.rect t).emb j)
  have e0 : ((win0_3.rect t).emb j 0).val = (j 0).val := by
    refine Eq.trans (b := win0_3.index t (0 : Fin 2) * 512 + 1 * (j 0).val) rfl ?_
    rw [h0]; omega
  have e1 : ((win0_3.rect t).emb j 1).val = 512 * t.val + (j 1).val := by
    refine Eq.trans (b := win0_3.index t (1 : Fin 2) * 512 + 1 * (j 1).val) rfl ?_
    rw [h1]; omega
  unfold G
  rw [e0, e1]
  refine congr (congrArg₂ kv (funext fun k => ?_) (funext fun k => ?_)) (funext fun k => ?_)
  · exact blk0 m c t hj0 k.isLt
  · exact blk1 m c t k.isLt
  · exact blk2 m c t k.isLt hj1

theorem cover (i : S512x2048.Idx) :
    ∃ t : Fin cfg0.N, (cfg0.win 3).flush t = true ∧ i ∈ ((cfg0.win 3).blk t).view.set := by
  have hN : cfg0.N = 4 := N_0
  have h0 : (i 0).val < 512 := (i 0).isLt
  have h1 : (i 1).val < 2048 := (i 1).isLt
  obtain ⟨t, ht⟩ : ∃ t : Fin cfg0.N, t.val = (i 1).val / 512 := ⟨⟨(i 1).val / 512, by omega⟩, rfl⟩
  obtain ⟨e0, e1⟩ := start3 t
  refine ⟨t, flush0_3 t, ?_⟩
  show i ∈ ((View.whole main_v3).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 512 ≤ (i 1).val ∧ (i 1).val < win0_3.index t (1 : Fin 2) * 512 + 512
    rw [e1, ht]; omega

/-- After the run the result array holds the keys and values. -/
theorem final (c : Dev nD) : (dats m 0 c).arrAt 3 cfg0.N = G m c :=
  (dats m 0 c).arrAt_eq_of_cover 3 (G m c) (fun t _ => flushed_eq m c t) cover

end Cert.Kernel5Ideal.Mem

end
-- ==== Proof.MemRef.lean ====
/- The reference's keys and values of the memory, operation by operation. -/
module

public import proofs.«01_k».proof.Proof.Gen.Reference5Ideal.Read
public import proofs.«01_k».proof.Proof.OutMath

@[expose] public section

noncomputable section

namespace Cert.Reference5Ideal.Mem

open Cert.Reference5Ideal Cert.Reference5Ideal.Gen Cert.Reference5Ideal.Read
open Idealize.ShloMosaic Idealize.ShloMosaic.TcCoe Idealize.SL.Sem
open Cert.MergeMath Cert.OutMath

variable (x : (⟨S2x256x2048, .f32⟩ : BufTy).Contents (Elt Ideal)) (g : (⟨S2048, .f32⟩ : BufTy).Contents (Elt Ideal))
  (w : (⟨S2048x2048, .f32⟩ : BufTy).Contents (Elt Ideal))

theorem inv_eq (i : S2x256x1.Idx) :
    (val_main_v7 (F := Ideal) x i : EReal) = rinv (fun k => at3 (n := 2) (m := 256) (l := 2048) x (i 0).val (i 1).val k.val) := by
  rw [val_main_v7_apply, val_main_v6_apply, val_main_v5_apply, val_main_v4_apply, val_main_v3_apply, val_main_v2_apply, val_main_v1_apply, val_main_cst_apply,
    val_main_cst_0_apply, val_main_cst_1_apply]
  refine Eq.trans (b := Ideal.rsqrt (Ideal.div (Ideal.ofBits .f32 0#32 + ∑ k : Fin 2048, (val_main_v0 (F := Ideal) x (idx_main_v1 (idx_main_v2 i) k) : EReal))
    (Ideal.ofBits .f32 0x45000000#32) + Ideal.ofBits .f32 0x358637BD#32)) rfl ?_
  rw [Ideal.ofBits_zero_f32, zero_add]
  unfold rinv
  refine congrArg (fun t : EReal => Ideal.rsqrt (Ideal.div t (Ideal.ofBits .f32 0x45000000#32) + Ideal.ofBits .f32 0x358637BD#32)) (Finset.sum_congr rfl fun k _ => ?_)
  rw [val_main_v0_apply]
  exact congrArg₂ (fun a b : EReal => a * b) (at3_eq (n := 2) (m := 256) (l := 2048) x _ rfl rfl rfl) (at3_eq (n := 2) (m := 256) (l := 2048) x _ rfl rfl rfl)

theorem normed (i : S2x256x2048.Idx) :
    (val_main_v12 (F := Ideal) x g i : EReal) = at3 (n := 2) (m := 256) (l := 2048) x (i 0).val (i 1).val (i 2).val
      * rinv (fun k => at3 (n := 2) (m := 256) (l := 2048) x (i 0).val (i 1).val k.val) * at1 (n := 2048) g (i 2).val := by
  rw [val_main_v12_apply, val_main_v11_apply, val_main_v10_apply, val_main_v9_apply, val_main_v8_apply]
  exact congrArg₂ (fun a b : EReal => a * b) (congrArg₂ (fun a b : EReal => a * b) (at3_eq (n := 2) (m := 256) (l := 2048) x _ rfl rfl rfl) (inv_eq x _)) (at1_eq (n := 2048) g _ rfl)

theorem result (i : S512x2048.Idx) :
    (val_main_v15 (F := Ideal) x g w i : EReal)
      = kv (fun k => at3 (n := 2) (m := 256) (l := 2048) x ((i 0).val / 256) ((i 0).val % 256) k.val)
          (fun k => at1 (n := 2048) g k.val) (fun k => at2 (n := 2048) (m := 2048) w k.val (i 1).val) := by
  have h0 : (i 0).val < 512 := (i 0).isLt
  have h1 : (i 1).val < 2048 := (i 1).isLt
  have ea : ((i 0).val * 2048 + (i 1).val) / 524288 = (i 0).val / 256 := by omega
  have eb : ((i 0).val * 2048 + (i 1).val) / 2048 % 256 = (i 0).val % 256 := by omega
  have ed : ((i 0).val * 2048 + (i 1).val) % 2048 = (i 1).val := by omega
  rw [val_main_v15_apply, val_main_v14_apply]
  refine Eq.trans (b := (val_main_v13 (F := Ideal) x g w (idx_main_v14 i) : EReal)) rfl ?_
  rw [val_main_v13_apply]
  unfold kv
  refine Finset.sum_congr rfl fun k _ => congrArg₂ (fun a b : EReal => a * b) ?_ (at2_eq (n := 2048) (m := 2048) w _ rfl ed)
  refine (normed x g _).trans ?_
  refine Eq.trans (b := at3 (n := 2) (m := 256) (l := 2048) x (((i 0).val * 2048 + (i 1).val) / 524288) (((i 0).val * 2048 + (i 1).val) / 2048 % 256) k.val
    * rinv (fun k => at3 (n := 2) (m := 256) (l := 2048) x (((i 0).val * 2048 + (i 1).val) / 524288) (((i 0).val * 2048 + (i 1).val) / 2048 % 256) k.val) * at1 (n := 2048) g k.val) rfl ?_
  rw [ea, eb]

end Cert.Reference5Ideal.Mem

end
-- ==== Proof.MemClaims.lean ====
/- The five claims about the memory's keys and values. -/
module

public import proofs.«01_k».proof.Defs
public import proofs.«01_k».proof.Proof.Gen.Kernel5.Frame
public import proofs.«01_k».proof.Proof.Gen.Reference5Ideal.Run
public import proofs.«01_k».proof.Proof.MemValue
public import proofs.«01_k».proof.Proof.MemRef
public import Idealize.ShloMosaic.Lib.Quiescent

@[expose] public section

noncomputable section

namespace Cert.Proof.MemClaims

open Idealize.ShloMosaic Idealize.ShloMosaic.TcCoe Idealize.SL.Sem

theorem frame_k : Cert.quiescent_Kernel5 := fun m ρ _ => Cert.Kernel5.Gen.frame m ρ
theorem frame_ki : Cert.quiescent_Kernel5Ideal := fun m ρ _ => Cert.Kernel5Ideal.Gen.frame m ρ

/-- The reference's run read at its arguments; it declares no semaphore. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- Both result arrays end at the keys and values of arguments that agree. -/
theorem algebraic : Cert.algebraic_Kernel5Ideal_Reference5Ideal := by
  intro m ρ m' ρ' _ hagree
  refine ⟨fun c => Cert.Kernel5Ideal.Mem.G m c, ?_, ?_⟩
  · exact (θ_run Cert.Kernel5Ideal.defs _ _).mono
      (fun _ h c => ⟨(h c).1.trans (Cert.Kernel5Ideal.Mem.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨e0, e1, e2⟩ := hagree c
    refine (Cert.Reference5Ideal.Read.val_main_v15_eq (F := Ideal) _ _ _).trans (funext fun i => ?_)
    rw [e0, e1, e2]
    exact Cert.Reference5Ideal.Mem.result _ _ _ i

end Cert.Proof.MemClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.InprojClaims
public import proofs.«01_k».proof.Proof.DiffClaims
public import proofs.«01_k».proof.Proof.MergeClaims
public import proofs.«01_k».proof.Proof.OutClaims
public import proofs.«01_k».proof.Proof.MemClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts,
  InprojClaims.frame_k, InprojClaims.frame_ki, InprojClaims.frame_ri,
  DiffClaims.frame_k, DiffClaims.frame_ki, DiffClaims.frame_ki_pre, DiffClaims.frame_ri, DiffClaims.frame_ri_pre,
  MergeClaims.frame_k, MergeClaims.frame_ki, MergeClaims.frame_ri,
  OutClaims.frame_k, OutClaims.frame_ki, OutClaims.frame_ri,
  MemClaims.frame_k, MemClaims.frame_ki, MemClaims.frame_ri,
  InprojClaims.preserves, InprojClaims.algebraic, DiffClaims.preserves, DiffClaims.algebraic,
  MergeClaims.preserves, MergeClaims.algebraic,
  OutClaims.preserves, OutClaims.algebraic, MemClaims.preserves, MemClaims.algebraic⟩

end Cert.Proof

end
